-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def preserves_Kernel_KernelIdeal : Prop :=
  True

def algebraic_KernelIdeal_ReferenceIdeal_on_logit_columns [hKernelIdeal : Cert.KernelIdeal.Facts] [hReferenceIdeal : Cert.ReferenceIdeal.Facts] [hOn_logit_columns : Cert.On_logit_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 2048, 512]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![2048, 11264]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨3, ![4, 512, 1024]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v0_2) i = v2 c i)
          ∧ (∀ i : (⟨3, ![4, 1, 1024]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 2048, 512]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v30) i = v0 c i)
          ∧ (∀ i : (⟨2, ![2048, 11264]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v34) i = v1 c i)
          ∧ (∀ i : (⟨3, ![4, 512, 1024]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v35) i = v2 c i)
          ∧ (∀ i : (⟨3, ![4, 1, 1024]⟩ : Shape).Idx, (Cert.On_logit_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v36) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v56) = v0 c
          ∧ r.2.mem ((c.tc : Thread Cert.Reference10Ideal.nD Cert.Reference10Ideal.τ).loc Cert.Reference10Ideal.main_v55) = v1 c
          ∧ r.2.mem ((c.tc : Thread Cert.Reference10Ideal.nD Cert.Reference10Ideal.τ).loc Cert.Reference10Ideal.main_v57) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v73) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v93) = v0 c
          ∧ r.2.mem ((c.tc : Thread Cert.Reference14Ideal.nD Cert.Reference14Ideal.τ).loc Cert.Reference14Ideal.main_v80) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v50) = v0 c
          ∧ r.2.mem ((c.tc : Thread Cert.Reference15Ideal.nD Cert.Reference15Ideal.τ).loc Cert.Reference15Ideal.main_v29) = v1 c
          ∧ r.2.mem ((c.tc : Thread Cert.Reference15Ideal.nD Cert.Reference15Ideal.τ).loc Cert.Reference15Ideal.main_v22) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v165) = v0 c
          ∧ r.2.mem ((c.tc : Thread Cert.Reference16Ideal.nD Cert.Reference16Ideal.τ).loc Cert.Reference16Ideal.main_v108) = v1 c
          ∧ r.2.mem ((c.tc : Thread Cert.Reference16Ideal.nD Cert.Reference16Ideal.τ).loc Cert.Reference16Ideal.main_v105) = v2 c
          ∧ r.2.mem ((c.tc : Thread Cert.Reference16Ideal.nD Cert.Reference16Ideal.τ).loc Cert.Reference16Ideal.main_v102) = v3 c
          ∧ r.2.mem ((c.tc : Thread Cert.Reference16Ideal.nD Cert.Reference16Ideal.τ).loc Cert.Reference16Ideal.main_v97) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite14 : Cert.Pre_finite14.Facts) (hPre_finite15 : Cert.Pre_finite15.Facts) (hOn_logit_columns : Cert.On_logit_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_on_logit_columns (hKernelIdeal := hKernelIdeal) (hReferenceIdeal := hReferenceIdeal) (hOn_logit_columns := hOn_logit_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== On_logit_columns.lean ====
abbrev S2048x11264 : Shape := ⟨2, ![2048, 11264]⟩
abbrev S4x2048x512 : Shape := ⟨3, ![4, 2048, 512]⟩
abbrev S2048x1024 : Shape := ⟨2, ![2048, 1024]⟩
abbrev S4x1x1024 : Shape := ⟨3, ![4, 1, 1024]⟩
abbrev S4x512x1024 : Shape := ⟨3, ![4, 512, 1024]⟩
abbrev S_ : Shape := ⟨0, ![]⟩

class Facts : Prop where
  bcast_S_S4x2048x512 : S_.BroadcastsInDim S4x2048x512 (![] : Fin 0 → Fin S4x2048x512.rank)
  bcast_S_S2048x11264 : S_.BroadcastsInDim S2048x11264 (![] : Fin 0 → Fin S2048x11264.rank)
  bcast_S_S4x512x1024 : S_.BroadcastsInDim S4x512x1024 (![] : Fin 0 → Fin S4x512x1024.rank)
  bcast_S_S4x1x1024 : S_.BroadcastsInDim S4x1x1024 (![] : Fin 0 → Fin S4x1x1024.rank)

variable [Facts]

def fn {F : FTy → Type} [FloatOps F] (main_arg0 : FVec F S2048x11264 .f32) (main_arg1 : FVec F S4x2048x512 .bf16) (main_arg2 : FVec F S2048x1024 .f32) (main_arg3 : FVec F S4x1x1024 .f32) (main_arg4 : FVec F S4x512x1024 .bf16) : IVec S4x2048x512 1 × IVec S2048x11264 1 × IVec S4x512x1024 1 × IVec S4x1x1024 1 :=
  let main_c : IVec S_ 1 := constantI S_ 1 1#1
  let main_v0 : IVec S4x2048x512 1 := broadcastInDim S4x2048x512 ![] bcast_S_S4x2048x512 main_c
  let main_v1 : IVec S2048x11264 32 := iotaInDim S2048x11264 32 1
  let main_c_0 : IVec S_ 32 := constantI S_ 32 4096#32
  let main_v2 : IVec S2048x11264 32 := broadcastInDim S2048x11264 ![] bcast_S_S2048x11264 main_c_0
  let main_v3 : IVec S2048x11264 1 := cmpi .slt main_v1 main_v2
  let main_c_1 : IVec S_ 1 := constantI S_ 1 1#1
  let main_v4 : IVec S4x512x1024 1 := broadcastInDim S4x512x1024 ![] bcast_S_S4x512x1024 main_c_1
  let main_c_2 : IVec S_ 1 := constantI S_ 1 1#1
  let main_v5 : IVec S4x1x1024 1 := broadcastInDim S4x1x1024 ![] bcast_S_S4x1x1024 main_c_2
  (main_v0, main_v3, main_v4, main_v5)
-- ==== Pre_finite14.lean ====
abbrev S2048x11264 : Shape := ⟨2, ![2048, 11264]⟩
abbrev S4x2048x512 : Shape := ⟨3, ![4, 2048, 512]⟩
abbrev S3x512 : Shape := ⟨2, ![3, 512]⟩
abbrev S2048x2048 : Shape := ⟨2, ![2048, 2048]⟩
abbrev S_ : Shape := ⟨0, ![]⟩
abbrev S1x2048x512 : Shape := ⟨3, ![1, 2048, 512]⟩
abbrev S2048x512 : Shape := ⟨2, ![2048, 512]⟩

class Facts : Prop where
  slices_S2048x11264_S2048x2048_0_9216 : S2048x11264.Slices ![0, 9216] S2048x2048
  bcast_S_S2048x2048 : S_.BroadcastsInDim S2048x2048 (![] : Fin 0 → Fin S2048x2048.rank)
  slices_S4x2048x512_S1x2048x512_3_0_0 : S4x2048x512.Slices ![3, 0, 0] S1x2048x512
  shapeCasts_S1x2048x512_S2048x512 : S1x2048x512.ShapeCasts S2048x512
  bcast_S_S2048x512 : S_.BroadcastsInDim S2048x512 (![] : Fin 0 → Fin S2048x512.rank)
  bcast_S_S3x512 : S_.BroadcastsInDim S3x512 (![] : Fin 0 → Fin S3x512.rank)

variable [Facts]

def fn {F : FTy → Type} [FloatOps F] (main_arg0 : FVec F S2048x11264 .f32) (main_arg1 : FVec F S2048x11264 .bf16) (main_arg2 : FVec F S4x2048x512 .f32) (main_arg3 : FVec F S3x512 .f32) : IVec S2048x2048 1 × IVec S2048x512 1 × IVec S3x512 1 :=
  let main_v0 : FVec F S2048x2048 .f32 := (extractStridedSlice S2048x2048 ![0, 9216] · slices_S2048x11264_S2048x2048_0_9216) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S1x2048x512 .f32 := (extractStridedSlice S1x2048x512 ![3, 0, 0] · slices_S4x2048x512_S1x2048x512_3_0_0) main_arg2
  let main_v5 : FVec F S2048x512 .f32 := shapeCast S2048x512 main_v4 shapeCasts_S1x2048x512_S2048x512
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_v9 : FVec F S3x512 .f32 := Host.absf main_arg3
  let main_cst_1 : FVec F S_ .f32 := constant S_ .f32 0x7F800000#32
  let main_v10 : FVec F S3x512 .f32 := broadcastInDim S3x512 ![] bcast_S_S3x512 main_cst_1
  let main_v11 : IVec S3x512 1 := cmpf .olt main_v9 main_v10
  (main_v3, main_v8, main_v11)
-- ==== Pre_finite15.lean ====
abbrev S2048x11264 : Shape := ⟨2, ![2048, 11264]⟩
abbrev S2048x1024 : Shape := ⟨2, ![2048, 1024]⟩
abbrev S4x1024 : Shape := ⟨2, ![4, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x11264 .f32) (main_arg1 : FVec F S2048x11264 .bf16) (main_arg2 : FVec F S2048x1024 .f32) (main_arg3 : FVec F S4x1024 .f32) (main_arg4 : FVec F S1x1024 .f32) : IVec S2048x1024 1 :=
  let main_v0 : FVec F S2048x1024 .f32 := Host.absf main_arg2
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Kernel.lean ====
abbrev S2048x11264 : Shape := ⟨2, ![2048, 11264]⟩
abbrev S4x2048x512 : Shape := ⟨3, ![4, 2048, 512]⟩
abbrev S2048x1024 : Shape := ⟨2, ![2048, 1024]⟩
abbrev S4x1x1024 : Shape := ⟨3, ![4, 1, 1024]⟩
abbrev S4x512x1024 : Shape := ⟨3, ![4, 512, 1024]⟩
abbrev S1x1024x512 : Shape := ⟨3, ![1, 1024, 512]⟩
abbrev S1024x1024 : Shape := ⟨2, ![1024, 1024]⟩
abbrev S1x1x1024 : Shape := ⟨3, ![1, 1, 1024]⟩
abbrev S1x512x1024 : Shape := ⟨3, ![1, 512, 1024]⟩
abbrev S512x1024 : Shape := ⟨2, ![512, 1024]⟩
abbrev S1x1024 : Shape := ⟨2, ![1, 1024]⟩
abbrev S1024x512 : Shape := ⟨2, ![1024, 512]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S2048x1024, .f32⟩
  | .hbm, ⟨3, _⟩ => ⟨S4x1x1024, .f32⟩
  | .hbm, ⟨4, _⟩ => ⟨S4x512x1024, .bf16⟩
  | .hbm, ⟨5, _⟩ => ⟨S4x2048x512, .f32⟩
  | .hbm, ⟨6, _⟩ => ⟨S2048x11264, .bf16⟩
  | .hbm, ⟨7, _⟩ => ⟨S4x512x1024, .bf16⟩
  | .hbm, ⟨8, _⟩ => ⟨S4x1x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .f32⟩
  | .local _ .vmem, ⟨11, _⟩ => ⟨S1x1024x512, .f32⟩
  | .local _ .vmem, ⟨12, _⟩ => ⟨S1024x1024, .bf16⟩
  | .local _ .vmem, ⟨13, _⟩ => ⟨S1024x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v36 : BitVec 1 := Scalar.cmpi .eq arg1 c1_i32
  let v37 : BitVec 32 := Scalar.extui v36
  let c0_i32_27 : BitVec 32 := 0#32
  let v38 : BitVec 1 := Scalar.cmpi .ne v37 c0_i32_27
  v38

def k0_cond1 (i : grid0.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_24 : BitVec 32 := 0#32
  let v32 : BitVec 1 := Scalar.cmpi .ne v31 c0_i32_24
  v32

def k0_cond2 (i : grid0.Coords) : BitVec 1 :=
  let arg1 : BitVec 32 := BitVec.ofNat 32 (i 1).val
  let c0_i32_25 : BitVec 32 := 0#32
  let v33 : BitVec 1 := Scalar.cmpi .sgt arg1 c0_i32_25
  let v34 : BitVec 32 := Scalar.extui v33
  let c0_i32_26 : BitVec 32 := 0#32
  let v35 : BitVec 1 := Scalar.cmpi .ne v34 c0_i32_26
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x11264 : Shape := ⟨2, ![2048, 11264]⟩
abbrev S4x2048x512 : Shape := ⟨3, ![4, 2048, 512]⟩
abbrev S2048x1024 : Shape := ⟨2, ![2048, 1024]⟩
abbrev S4x1x1024 : Shape := ⟨3, ![4, 1, 1024]⟩
abbrev S4x512x1024 : Shape := ⟨3, ![4, 512, 1024]⟩
abbrev S2048x4096 : Shape := ⟨2, ![2048, 4096]⟩
abbrev S4x1024 : Shape := ⟨2, ![4, 1024]⟩
abbrev S4x1024x2048 : Shape := ⟨3, ![4, 1024, 2048]⟩
abbrev S2048x4x1024 : Shape := ⟨3, ![2048, 4, 1024]⟩
abbrev S1x4x1024 : Shape := ⟨3, ![1, 4, 1024]⟩
abbrev S_ : Shape := ⟨0, ![]⟩
abbrev S4x1024x512 : Shape := ⟨3, ![4, 1024, 512]⟩

abbrev nBuf : Space → Nat
  | .hbm => 50
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S2048x1024, .f32⟩
  | .hbm, ⟨3, _⟩ => ⟨S4x1x1024, .f32⟩
  | .hbm, ⟨4, _⟩ => ⟨S4x512x1024, .bf16⟩
  | .hbm, ⟨5, _⟩ => ⟨S2048x4096, .f32⟩
  | .hbm, ⟨6, _⟩ => ⟨S4x2048x512, .f32⟩
  | .hbm, ⟨7, _⟩ => ⟨S4x1024, .f32⟩
  | .hbm, ⟨8, _⟩ => ⟨S4x512x1024, .f32⟩
  | .hbm, ⟨9, _⟩ => ⟨S4x1024x2048, .f32⟩
  | .hbm, ⟨10, _⟩ => ⟨S2048x4x1024, .f32⟩
  | .hbm, ⟨11, _⟩ => ⟨S2048x4x1024, .f32⟩
  | .hbm, ⟨12, _⟩ => ⟨S1x4x1024, .f32⟩
  | .hbm, ⟨13, _⟩ => ⟨S2048x4x1024, .f32⟩
  | .hbm, ⟨14, _⟩ => ⟨S2048x4x1024, .f32⟩
  | .hbm, ⟨15, _⟩ => ⟨S2048x4x1024, .f32⟩
  | .hbm, ⟨16, _⟩ => ⟨S2048x4x1024, .f32⟩
  | .hbm, ⟨17, _⟩ => ⟨S_, .f32⟩
  | .hbm, ⟨18, _⟩ => ⟨S2048x4x1024, .f32⟩
  | .hbm, ⟨19, _⟩ => ⟨S2048x4x1024, .f32⟩
  | .hbm, ⟨20, _⟩ => ⟨S_, .f32⟩
  | .hbm, ⟨21, _⟩ => ⟨S2048x4x1024, .f32⟩
  | .hbm, ⟨22, _⟩ => ⟨S2048x4x1024, .f32⟩
  | .hbm, ⟨23, _⟩ => ⟨S_, .f32⟩
  | .hbm, ⟨24, _⟩ => ⟨S2048x4x1024, .f32⟩
  | .hbm, ⟨25, _⟩ => ⟨S2048x4x1024, .f32⟩
  | .hbm, ⟨26, _⟩ => ⟨S2048x4x1024, .f32⟩
  | .hbm, ⟨27, _⟩ => ⟨S2048x4x1024, .f32⟩
  | .hbm, ⟨28, _⟩ => ⟨S_, .f32⟩
  | .hbm, ⟨29, _⟩ => ⟨S2048x1024, .f32⟩
  | .hbm, ⟨30, _⟩ => ⟨S2048x4x1024, .f32⟩
  | .hbm, ⟨31, _⟩ => ⟨S2048x4x1024, .f32⟩
  | .hbm, ⟨32, _⟩ => ⟨S2048x4x1024, .f32⟩
  | .hbm, ⟨33, _⟩ => ⟨S2048x4x1024, .f32⟩
  | .hbm, ⟨34, _⟩ => ⟨S_, .f32⟩
  | .hbm, ⟨35, _⟩ => ⟨S4x1024, .f32⟩
  | .hbm, ⟨36, _⟩ => ⟨S1x4x1024, .f32⟩
  | .hbm, ⟨37, _⟩ => ⟨S_, .f32⟩
  | .hbm, ⟨38, _⟩ => ⟨S4x1024, .f32⟩
  | .hbm, ⟨39, _⟩ => ⟨S2048x4096, .f32⟩
  | .hbm, ⟨40, _⟩ => ⟨S4x1024x2048, .f32⟩
  | .hbm, ⟨41, _⟩ => ⟨S4x2048x512, .f32⟩
  | .hbm, ⟨42, _⟩ => ⟨S4x1024x512, .f32⟩
  | .hbm, ⟨43, _⟩ => ⟨S4x512x1024, .f32⟩
  | .hbm, ⟨44, _⟩ => ⟨S_, .i32⟩
  | .hbm, ⟨45, _⟩ => ⟨S_, .f32⟩
  | .hbm, ⟨46, _⟩ => ⟨S2048x11264, .f32⟩
  | .hbm, ⟨47, _⟩ => ⟨S2048x11264, .bf16⟩
  | .hbm, ⟨48, _⟩ => ⟨S4x512x1024, .bf16⟩
  | .hbm, ⟨49, _⟩ => ⟨S4x1x1024, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_call0_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel2.lean ====
abbrev S2048x1024 : Shape := ⟨2, ![2048, 1024]⟩
abbrev S2048x11264 : Shape := ⟨2, ![2048, 11264]⟩
abbrev S1024x11264 : Shape := ⟨2, ![1024, 11264]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x11264, .bf16⟩
  | .hbm, ⟨2, _⟩ => ⟨S1024x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S2048x11264 : Shape := ⟨2, ![2048, 11264]⟩
abbrev S_ : Shape := ⟨0, ![]⟩
abbrev S1024x11264 : Shape := ⟨2, ![1024, 11264]⟩
abbrev S11264x1024 : Shape := ⟨2, ![11264, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x11264, .bf16⟩
  | .hbm, ⟨2, _⟩ => ⟨S_, .f32⟩
  | .hbm, ⟨3, _⟩ => ⟨S1024x11264, .f32⟩
  | .hbm, ⟨4, _⟩ => ⟨S2048x1024, .f32⟩
  | .hbm, ⟨5, _⟩ => ⟨S2048x11264, .f32⟩
  | .hbm, ⟨6, _⟩ => ⟨S2048x11264, .f32⟩
  | .hbm, ⟨7, _⟩ => ⟨S11264x1024, .f32⟩
  | .hbm, ⟨8, _⟩ => ⟨S1024x11264, .f32⟩
  | .hbm, ⟨9, _⟩ => ⟨S1024x11264, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x11264 : Shape := ⟨2, ![2048, 11264]⟩
abbrev S1024x11264 : Shape := ⟨2, ![1024, 11264]⟩
abbrev S2048x1024 : Shape := ⟨2, ![2048, 1024]⟩
abbrev S1x1024 : Shape := ⟨2, ![1, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_25 : BitVec 32 := 0#32
  let v51 : BitVec 1 := Scalar.cmpi .eq arg0 c0_i32_25
  let v52 : BitVec 32 := Scalar.extui v51
  let c0_i32_26 : BitVec 32 := 0#32
  let v53 : BitVec 1 := Scalar.cmpi .ne v52 c0_i32_26
  v53

def k0_cond5 (i : grid0.Coords) : BitVec 1 :=
  let arg0 : BitVec 32 := BitVec.ofNat 32 (i 0).val
  let c0_i32_27 : BitVec 32 := 0#32
  let v54 : BitVec 1 := Scalar.cmpi .sgt arg0 c0_i32_27
  let v55 : BitVec 32 := Scalar.extui v54
  let c0_i32_28 : BitVec 32 := 0#32
  let v56 : BitVec 1 := Scalar.cmpi .ne v55 c0_i32_28
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S2048x11264 : Shape := ⟨2, ![2048, 11264]⟩
abbrev S1024x11264 : Shape := ⟨2, ![1024, 11264]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1024x11264, .f32⟩
  | .hbm, ⟨27, _⟩ => ⟨S2048x11264, .f32⟩
  | .hbm, ⟨28, _⟩ => ⟨S2048x11264, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1x1024, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel4.lean ====
abbrev S2048x1024 : Shape := ⟨2, ![2048, 1024]⟩
abbrev S1024x11264 : Shape := ⟨2, ![1024, 11264]⟩
abbrev S2048x11264 : Shape := ⟨2, ![2048, 11264]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S2048x11264, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S1024x11264 : Shape := ⟨2, ![1024, 11264]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S2048x1024, .f32⟩
  | .hbm, ⟨3, _⟩ => ⟨S1024x11264, .f32⟩
  | .hbm, ⟨4, _⟩ => ⟨S2048x11264, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2048x11264 : Shape := ⟨2, ![2048, 11264]⟩
abbrev S1024x11264 : Shape := ⟨2, ![1024, 11264]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x11264 : Shape := ⟨2, ![2048, 11264]⟩
abbrev S1024x11264 : Shape := ⟨2, ![1024, 11264]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S_, .f32⟩
  | .hbm, ⟨3, _⟩ => ⟨S2048x1024, .f32⟩
  | .hbm, ⟨4, _⟩ => ⟨S1024x11264, .f32⟩
  | .hbm, ⟨5, _⟩ => ⟨S2048x11264, .f32⟩
  | .hbm, ⟨6, _⟩ => ⟨S2048x11264, .f32⟩
  | .hbm, ⟨7, _⟩ => ⟨S2048x1024, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference7Ideal.lean ====
abbrev S2048x1024 : Shape := ⟨2, ![2048, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S2048x1024, .f32⟩
  | .hbm, ⟨11, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x11264 : Shape := ⟨2, ![2048, 11264]⟩
abbrev S4x2048x512 : Shape := ⟨3, ![4, 2048, 512]⟩
abbrev S4x1x1024 : Shape := ⟨3, ![4, 1, 1024]⟩
abbrev S4x512x1024 : Shape := ⟨3, ![4, 512, 1024]⟩
abbrev S2048x1024 : Shape := ⟨2, ![2048, 1024]⟩
abbrev S4x256x512 : Shape := ⟨3, ![4, 256, 512]⟩
abbrev S256x4096 : Shape := ⟨2, ![256, 4096]⟩
abbrev S256x1024 : Shape := ⟨2, ![256, 1024]⟩
abbrev S1x1x1024 : Shape := ⟨3, ![1, 1, 1024]⟩
abbrev S1x1024 : Shape := ⟨2, ![1, 1024]⟩
abbrev S1x256x512 : Shape := ⟨3, ![1, 256, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S4x1x1024, .f32⟩
  | .hbm, ⟨3, _⟩ => ⟨S4x512x1024, .bf16⟩
  | .hbm, ⟨4, _⟩ => ⟨S2048x1024, .bf16⟩
  | .local _ .vmem, ⟨0, _⟩ => ⟨S4x256x512, .bf16⟩
  | .local _ .vmem, ⟨1, _⟩ => ⟨S4x256x512, .bf16⟩
  | .local _ .vmem, ⟨2, _⟩ => ⟨S256x4096, .f32⟩
  | .local _ .vmem, ⟨3, _⟩ => ⟨S256x4096, .f32⟩
  | .local _ .vmem, ⟨4, _⟩ => ⟨S4x1x1024, .f32⟩
  | .local _ .vmem, ⟨5, _⟩ => ⟨S4x512x1024, .bf16⟩
  | .local _ .vmem, ⟨6, _⟩ => ⟨S256x1024, .bf16⟩
  | .local _ .vmem, ⟨7, _⟩ => ⟨S256x1024, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S2048x11264 : Shape := ⟨2, ![2048, 11264]⟩
abbrev S4x2048x512 : Shape := ⟨3, ![4, 2048, 512]⟩
abbrev S4x1x1024 : Shape := ⟨3, ![4, 1, 1024]⟩
abbrev S4x512x1024 : Shape := ⟨3, ![4, 512, 1024]⟩
abbrev S2048x4096 : Shape := ⟨2, ![2048, 4096]⟩
abbrev S4x1024 : Shape := ⟨2, ![4, 1024]⟩
abbrev S4x1024x2048 : Shape := ⟨3, ![4, 1024, 2048]⟩
abbrev S2048x4x1024 : Shape := ⟨3, ![2048, 4, 1024]⟩
abbrev S1x4x1024 : Shape := ⟨3, ![1, 4, 1024]⟩
abbrev S_ : Shape := ⟨0, ![]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S4x1x1024, .f32⟩
  | .hbm, ⟨3, _⟩ => ⟨S4x512x1024, .bf16⟩
  | .hbm, ⟨4, _⟩ => ⟨S2048x4096, .f32⟩
  | .hbm, ⟨5, _⟩ => ⟨S4x2048x512, .f32⟩
  | .hbm, ⟨6, _⟩ => ⟨S4x1024, .f32⟩
  | .hbm, ⟨7, _⟩ => ⟨S4x512x1024, .f32⟩
  | .hbm, ⟨8, _⟩ => ⟨S4x1024x2048, .f32⟩
  | .hbm, ⟨9, _⟩ => ⟨S2048x4x1024, .f32⟩
  | .hbm, ⟨10, _⟩ => ⟨S2048x4x1024, .f32⟩
  | .hbm, ⟨11, _⟩ => ⟨S1x4x1024, .f32⟩
  | .hbm, ⟨12, _⟩ => ⟨S2048x4x1024, .f32⟩
  | .hbm, ⟨13, _⟩ => ⟨S2048x4x1024, .f32⟩
  | .hbm, ⟨14, _⟩ => ⟨S2048x4x1024, .f32⟩
  | .hbm, ⟨15, _⟩ => ⟨S2048x4x1024, .f32⟩
  | .hbm, ⟨16, _⟩ => ⟨S_, .f32⟩
  | .hbm, ⟨17, _⟩ => ⟨S2048x4x1024, .f32⟩
  | .hbm, ⟨18, _⟩ => ⟨S2048x4x1024, .f32⟩
  | .hbm, ⟨19, _⟩ => ⟨S_, .f32⟩
  | .hbm, ⟨20, _⟩ => ⟨S2048x4x1024, .f32⟩
  | .hbm, ⟨21, _⟩ => ⟨S2048x4x1024, .f32⟩
  | .hbm, ⟨22, _⟩ => ⟨S2048x4x1024, .f32⟩
  | .hbm, ⟨23, _⟩ => ⟨S_, .f32⟩
  | .hbm, ⟨24, _⟩ => ⟨S2048x1024, .f32⟩
  | .hbm, ⟨25, _⟩ => ⟨S2048x1024, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x128, .f32⟩
  | .hbm, ⟨6, _⟩ => ⟨S2048x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_26 : BitVec 32 := 0#32
  let v65 : BitVec 1 := Scalar.cmpi .ne v64 c0_i32_26
  v65

def k0_cond2 (i : grid0.Coords) : BitVec 1 :=
  let arg0 : BitVec 32 := BitVec.ofNat 32 (i 0).val
  let c0_i32_27 : BitVec 32 := 0#32
  let v66 : BitVec 1 := Scalar.cmpi .sgt arg0 c0_i32_27
  let v67 : BitVec 32 := Scalar.extui v66
  let c0_i32_28 : BitVec 32 := 0#32
  let v68 : BitVec 1 := Scalar.cmpi .ne v67 c0_i32_28
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1x128, .f32⟩
  | .hbm, ⟨79, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel11.lean ====
abbrev S2048x11264 : Shape := ⟨2, ![2048, 11264]⟩
abbrev S4x2048x512 : Shape := ⟨3, ![4, 2048, 512]⟩
abbrev S1x512 : Shape := ⟨2, ![1, 512]⟩
abbrev S8x128x128 : Shape := ⟨3, ![8, 128, 128]⟩
abbrev S128x512 : Shape := ⟨2, ![128, 512]⟩
abbrev S1x128x512 : Shape := ⟨3, ![1, 128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 7
  | .vmem => 12
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S128x512, .f32⟩
  | .hbm, ⟨6, _⟩ => ⟨S4x2048x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S1x512, .f32⟩
  | .local _ .vmem, ⟨8, _⟩ => ⟨S8x128x128, .f32⟩
  | .local _ .vmem, ⟨9, _⟩ => ⟨S128x512, .f32⟩
  | .local _ .vmem, ⟨10, _⟩ => ⟨S1x128x512, .bf16⟩
  | .local _ .vmem, ⟨11, _⟩ => ⟨S1x128x512, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S2048x11264 : Shape := ⟨2, ![2048, 11264]⟩
abbrev S4x2048x512 : Shape := ⟨3, ![4, 2048, 512]⟩
abbrev S1x512 : Shape := ⟨2, ![1, 512]⟩
abbrev S8x128x128 : Shape := ⟨3, ![8, 128, 128]⟩
abbrev S128x512 : Shape := ⟨2, ![128, 512]⟩
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S16x128x8x64 : Shape := ⟨4, ![16, 128, 8, 64]⟩
abbrev S128x128 : Shape := ⟨2, ![128, 128]⟩
abbrev S8x16x64x128 : Shape := ⟨4, ![8, 16, 64, 128]⟩
abbrev S128x8x64 : Shape := ⟨3, ![128, 8, 64]⟩
abbrev S1x128x8x64 : Shape := ⟨4, ![1, 128, 8, 64]⟩
abbrev S1x2048x512 : Shape := ⟨3, ![1, 2048, 512]⟩
abbrev S2x2048x512 : Shape := ⟨3, ![2, 2048, 512]⟩

abbrev nBuf : Space → Nat
  | .hbm => 114
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S128x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S512, .f32⟩
  | .hbm, ⟨10, _⟩ => ⟨S512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x512, .f32⟩
  | .hbm, ⟨61, _⟩ => ⟨S2048x512, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x512, .f32⟩
  | .hbm, ⟨67, _⟩ => ⟨S2048x512, .f32⟩
  | .hbm, ⟨68, _⟩ => ⟨S1x512, .f32⟩
  | .hbm, ⟨69, _⟩ => ⟨S2048x512, .f32⟩
  | .hbm, ⟨70, _⟩ => ⟨S2048x512, .f32⟩
  | .hbm, ⟨71, _⟩ => ⟨S1x512, .f32⟩
  | .hbm, ⟨72, _⟩ => ⟨S2048x512, .f32⟩
  | .hbm, ⟨73, _⟩ => ⟨S2048x512, .f32⟩
  | .hbm, ⟨74, _⟩ => ⟨S16x128x8x64, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S_, .f32⟩
  | .hbm, ⟨87, _⟩ => ⟨S_, .f32⟩
  | .hbm, ⟨88, _⟩ => ⟨S8x128x128, .i1⟩
  | .hbm, ⟨89, _⟩ => ⟨S8x128x128, .f32⟩
  | .hbm, ⟨90, _⟩ => ⟨S8x128x128, .f32⟩
  | .hbm, ⟨91, _⟩ => ⟨S8x16x64x128, .f32⟩
  | .hbm, ⟨92, _⟩ => ⟨S16x128x8x64, .f32⟩
  | .hbm, ⟨93, _⟩ => ⟨S128x8x64, .f32⟩
  | .hbm, ⟨94, _⟩ => ⟨S1x128x8x64, .f32⟩
  | .hbm, ⟨95, _⟩ => ⟨S16x128x8x64, .f32⟩
  | .hbm, ⟨96, _⟩ => ⟨S16x128x8x64, .f32⟩
  | .hbm, ⟨97, _⟩ => ⟨S2048x512, .f32⟩
  | .hbm, ⟨98, _⟩ => ⟨S2048x512, .f32⟩
  | .hbm, ⟨99, _⟩ => ⟨S2048x512, .f32⟩
  | .hbm, ⟨100, _⟩ => ⟨S2048x512, .f32⟩
  | .hbm, ⟨101, _⟩ => ⟨S_, .f32⟩
  | .hbm, ⟨102, _⟩ => ⟨S2048x512, .f32⟩
  | .hbm, ⟨103, _⟩ => ⟨S2048x512, .f32⟩
  | .hbm, ⟨104, _⟩ => ⟨S_, .f32⟩
  | .hbm, ⟨105, _⟩ => ⟨S2048x512, .f32⟩
  | .hbm, ⟨106, _⟩ => ⟨S2048x512, .f32⟩
  | .hbm, ⟨107, _⟩ => ⟨S2048x512, .f32⟩
  | .hbm, ⟨108, _⟩ => ⟨S2048x512, .f32⟩
  | .hbm, ⟨109, _⟩ => ⟨S1x2048x512, .bf16⟩
  | .hbm, ⟨110, _⟩ => ⟨S2048x512, .bf16⟩
  | .hbm, ⟨111, _⟩ => ⟨S1x2048x512, .bf16⟩
  | .hbm, ⟨112, _⟩ => ⟨S2x2048x512, .bf16⟩
  | .hbm, ⟨113, _⟩ => ⟨S4x2048x512, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c : Ref sig .tc := ⟨.hbm, 75, rfl⟩
abbrev main_v56 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v57 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]
-- ==== Kernel12.lean ====
abbrev S2048x11264 : Shape := ⟨2, ![2048, 11264]⟩
abbrev S4x2048x512 : Shape := ⟨3, ![4, 2048, 512]⟩
abbrev S3x512 : Shape := ⟨2, ![3, 512]⟩
abbrev S2048x128 : Shape := ⟨2, ![2048, 128]⟩
abbrev S3x128 : Shape := ⟨2, ![3, 128]⟩
abbrev S1x2048x128 : Shape := ⟨3, ![1, 2048, 128]⟩
abbrev S1x128 : Shape := ⟨2, ![1, 128]⟩

abbrev nBuf : Space → Nat
  | .hbm => 4
  | .vmem => 12
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S3x512, .f32⟩
  | .hbm, ⟨3, _⟩ => ⟨S4x2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S1x2048x128, .bf16⟩
  | .local _ .vmem, ⟨11, _⟩ => ⟨S1x2048x128, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c2_i32 : BitVec 32 := 2#32
  let v2 : BitVec 32 := Scalar.addi v1 c2_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c3_i32 : BitVec 32 := 3#32
  let v2 : BitVec 32 := Scalar.addi v1 c3_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S2048x11264 : Shape := ⟨2, ![2048, 11264]⟩
abbrev S4x2048x512 : Shape := ⟨3, ![4, 2048, 512]⟩
abbrev S3x512 : Shape := ⟨2, ![3, 512]⟩
abbrev S2048x2048 : Shape := ⟨2, ![2048, 2048]⟩
abbrev S2048x4x4x128 : Shape := ⟨4, ![2048, 4, 4, 128]⟩
abbrev S2048x4x1x128 : Shape := ⟨4, ![2048, 4, 1, 128]⟩
abbrev S2048x4x128 : Shape := ⟨3, ![2048, 4, 128]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S3x2048x512 : Shape := ⟨3, ![3, 2048, 512]⟩
abbrev S1x2048x512 : Shape := ⟨3, ![1, 2048, 512]⟩

abbrev nBuf : Space → Nat
  | .hbm => 59
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4x2048x512, .bf16⟩
  | .hbm, ⟨2, _⟩ => ⟨S3x512, .f32⟩
  | .hbm, ⟨3, _⟩ => ⟨S2048x2048, .f32⟩
  | .hbm, ⟨4, _⟩ => ⟨S2048x4x4x128, .f32⟩
  | .hbm, ⟨5, _⟩ => ⟨S2048x4x1x128, .f32⟩
  | .hbm, ⟨6, _⟩ => ⟨S2048x4x128, .f32⟩
  | .hbm, ⟨7, _⟩ => ⟨S2048x512, .f32⟩
  | .hbm, ⟨8, _⟩ => ⟨S2048x4x1x128, .f32⟩
  | .hbm, ⟨9, _⟩ => ⟨S2048x4x128, .f32⟩
  | .hbm, ⟨10, _⟩ => ⟨S2048x512, .f32⟩
  | .hbm, ⟨11, _⟩ => ⟨S2048x4x1x128, .f32⟩
  | .hbm, ⟨12, _⟩ => ⟨S2048x4x128, .f32⟩
  | .hbm, ⟨13, _⟩ => ⟨S2048x512, .f32⟩
  | .hbm, ⟨14, _⟩ => ⟨S2048x4x1x128, .f32⟩
  | .hbm, ⟨15, _⟩ => ⟨S2048x4x128, .f32⟩
  | .hbm, ⟨16, _⟩ => ⟨S2048x512, .f32⟩
  | .hbm, ⟨17, _⟩ => ⟨S_, .f32⟩
  | .hbm, ⟨18, _⟩ => ⟨S2x512, .f32⟩
  | .hbm, ⟨19, _⟩ => ⟨S2048x512, .f32⟩
  | .hbm, ⟨20, _⟩ => ⟨S2050x512, .f32⟩
  | .hbm, ⟨21, _⟩ => ⟨S1x512, .f32⟩
  | .hbm, ⟨22, _⟩ => ⟨S512, .f32⟩
  | .hbm, ⟨23, _⟩ => ⟨S2048x512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S1x512, .f32⟩
  | .hbm, ⟨31, _⟩ => ⟨S512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S1x512, .f32⟩
  | .hbm, ⟨38, _⟩ => ⟨S512, .f32⟩
  | .hbm, ⟨39, _⟩ => ⟨S2048x512, .f32⟩
  | .hbm, ⟨40, _⟩ => ⟨S1x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S3x2048x512, .bf16⟩
  | .hbm, ⟨56, _⟩ => ⟨S2048x512, .bf16⟩
  | .hbm, ⟨57, _⟩ => ⟨S1x2048x512, .bf16⟩
  | .hbm, ⟨58, _⟩ => ⟨S4x2048x512, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel13.lean ====
abbrev S2048x11264 : Shape := ⟨2, ![2048, 11264]⟩
abbrev S4x1024 : Shape := ⟨2, ![4, 1024]⟩
abbrev S1x1024 : Shape := ⟨2, ![1, 1024]⟩
abbrev S2048x1024 : Shape := ⟨2, ![2048, 1024]⟩
abbrev S2048x256 : Shape := ⟨2, ![2048, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S4x1024, .f32⟩
  | .hbm, ⟨2, _⟩ => ⟨S1x1024, .f32⟩
  | .hbm, ⟨3, _⟩ => ⟨S2048x1024, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S2048x11264 : Shape := ⟨2, ![2048, 11264]⟩
abbrev S4x1024 : Shape := ⟨2, ![4, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S3x1024 : Shape := ⟨2, ![3, 1024]⟩
abbrev S2051x1024 : Shape := ⟨2, ![2051, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4x1024, .f32⟩
  | .hbm, ⟨2, _⟩ => ⟨S1x1024, .f32⟩
  | .hbm, ⟨3, _⟩ => ⟨S2048x1024, .f32⟩
  | .hbm, ⟨4, _⟩ => ⟨S1024, .f32⟩
  | .hbm, ⟨5, _⟩ => ⟨S_, .f32⟩
  | .hbm, ⟨6, _⟩ => ⟨S3x1024, .f32⟩
  | .hbm, ⟨7, _⟩ => ⟨S2051x1024, .f32⟩
  | .hbm, ⟨8, _⟩ => ⟨S1x1024, .f32⟩
  | .hbm, ⟨9, _⟩ => ⟨S1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel14.lean ====
abbrev S2048x11264 : Shape := ⟨2, ![2048, 11264]⟩
abbrev S4x2048x512 : Shape := ⟨3, ![4, 2048, 512]⟩
abbrev S3x512 : Shape := ⟨2, ![3, 512]⟩
abbrev S2048x128 : Shape := ⟨2, ![2048, 128]⟩
abbrev S1x2048x128 : Shape := ⟨3, ![1, 2048, 128]⟩
abbrev S3x128 : Shape := ⟨2, ![3, 128]⟩
abbrev S2048x512 : Shape := ⟨2, ![2048, 512]⟩
abbrev S1x128 : Shape := ⟨2, ![1, 128]⟩
abbrev S128 : Shape := ⟨1, ![128]⟩

abbrev nBuf : Space → Nat
  | .hbm => 6
  | .vmem => 16
  | .smem => 0
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S4x2048x512, .f32⟩
  | .hbm, ⟨3, _⟩ => ⟨S3x512, .f32⟩
  | .hbm, ⟨4, _⟩ => ⟨S2048x11264, .bf16⟩
  | .hbm, ⟨5, _⟩ => ⟨S3x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x2048x128, .f32⟩
  | .local _ .vmem, ⟨9, _⟩ => ⟨S1x2048x128, .f32⟩
  | .local _ .vmem, ⟨10, _⟩ => ⟨S3x128, .f32⟩
  | .local _ .vmem, ⟨11, _⟩ => ⟨S3x128, .f32⟩
  | .local _ .vmem, ⟨12, _⟩ => ⟨S2048x512, .bf16⟩
  | .local _ .vmem, ⟨13, _⟩ => ⟨S2048x512, .bf16⟩
  | .local _ .vmem, ⟨14, _⟩ => ⟨S3x128, .f32⟩
  | .local _ .vmem, ⟨15, _⟩ => ⟨S3x128, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c2_i32 : BitVec 32 := 2#32
  let v2 : BitVec 32 := Scalar.addi v1 c2_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c72_i32 : BitVec 32 := 72#32
  let v1 : BitVec 32 := Scalar.addi c72_i32 v0
  let c3_i32 : BitVec 32 := 3#32
  let v2 : BitVec 32 := Scalar.addi v1 c3_i32
  let c0_i32 : BitVec 32 := 0#32
  let c0_i32_0 : BitVec 32 := 0#32
  ![c0_i32.toNat, v2.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2048x11264 : Shape := ⟨2, ![2048, 11264]⟩
abbrev S4x2048x512 : Shape := ⟨3, ![4, 2048, 512]⟩
abbrev S3x512 : Shape := ⟨2, ![3, 512]⟩
abbrev S2048x2048 : Shape := ⟨2, ![2048, 2048]⟩
abbrev S2048x4x4x128 : Shape := ⟨4, ![2048, 4, 4, 128]⟩
abbrev S2048x4x1x128 : Shape := ⟨4, ![2048, 4, 1, 128]⟩
abbrev S2048x4x128 : Shape := ⟨3, ![2048, 4, 128]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S1x2048x512 : Shape := ⟨3, ![1, 2048, 512]⟩
abbrev S2048x9216 : Shape := ⟨2, ![2048, 9216]⟩

abbrev nBuf : Space → Nat
  | .hbm => 128
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S4x2048x512, .f32⟩
  | .hbm, ⟨3, _⟩ => ⟨S3x512, .f32⟩
  | .hbm, ⟨4, _⟩ => ⟨S2048x2048, .f32⟩
  | .hbm, ⟨5, _⟩ => ⟨S2048x4x4x128, .f32⟩
  | .hbm, ⟨6, _⟩ => ⟨S2048x4x1x128, .f32⟩
  | .hbm, ⟨7, _⟩ => ⟨S2048x4x128, .f32⟩
  | .hbm, ⟨8, _⟩ => ⟨S2048x512, .f32⟩
  | .hbm, ⟨9, _⟩ => ⟨S2048x4x1x128, .f32⟩
  | .hbm, ⟨10, _⟩ => ⟨S2048x4x128, .f32⟩
  | .hbm, ⟨11, _⟩ => ⟨S2048x512, .f32⟩
  | .hbm, ⟨12, _⟩ => ⟨S2048x4x1x128, .f32⟩
  | .hbm, ⟨13, _⟩ => ⟨S2048x4x128, .f32⟩
  | .hbm, ⟨14, _⟩ => ⟨S2048x512, .f32⟩
  | .hbm, ⟨15, _⟩ => ⟨S2048x4x1x128, .f32⟩
  | .hbm, ⟨16, _⟩ => ⟨S2048x4x128, .f32⟩
  | .hbm, ⟨17, _⟩ => ⟨S2048x512, .f32⟩
  | .hbm, ⟨18, _⟩ => ⟨S_, .f32⟩
  | .hbm, ⟨19, _⟩ => ⟨S2x512, .f32⟩
  | .hbm, ⟨20, _⟩ => ⟨S2048x512, .f32⟩
  | .hbm, ⟨21, _⟩ => ⟨S2050x512, .f32⟩
  | .hbm, ⟨22, _⟩ => ⟨S_, .f32⟩
  | .hbm, ⟨23, _⟩ => ⟨S2x512, .f32⟩
  | .hbm, ⟨24, _⟩ => ⟨S1x512, .f32⟩
  | .hbm, ⟨25, _⟩ => ⟨S512, .f32⟩
  | .hbm, ⟨26, _⟩ => ⟨S2048x512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S1x512, .f32⟩
  | .hbm, ⟨34, _⟩ => ⟨S512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S1x512, .f32⟩
  | .hbm, ⟨41, _⟩ => ⟨S512, .f32⟩
  | .hbm, ⟨42, _⟩ => ⟨S2048x512, .f32⟩
  | .hbm, ⟨43, _⟩ => ⟨S1x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S1x2048x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S512, .f32⟩
  | .hbm, ⟨80, _⟩ => ⟨S_, .f32⟩
  | .hbm, ⟨81, _⟩ => ⟨S2050x512, .f32⟩
  | .hbm, ⟨82, _⟩ => ⟨S1x512, .f32⟩
  | .hbm, ⟨83, _⟩ => ⟨S_, .f32⟩
  | .hbm, ⟨84, _⟩ => ⟨S3x512, .f32⟩
  | .hbm, ⟨85, _⟩ => ⟨S2048x512, .f32⟩
  | .hbm, ⟨86, _⟩ => ⟨S2048x512, .f32⟩
  | .hbm, ⟨87, _⟩ => ⟨S2048x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S_, .f32⟩
  | .hbm, ⟨92, _⟩ => ⟨S512, .f32⟩
  | .hbm, ⟨93, _⟩ => ⟨S_, .f32⟩
  | .hbm, ⟨94, _⟩ => ⟨S2050x512, .f32⟩
  | .hbm, ⟨95, _⟩ => ⟨S2050x512, .f32⟩
  | .hbm, ⟨96, _⟩ => ⟨S1x512, .f32⟩
  | .hbm, ⟨97, _⟩ => ⟨S_, .f32⟩
  | .hbm, ⟨98, _⟩ => ⟨S3x512, .f32⟩
  | .hbm, ⟨99, _⟩ => ⟨S3x512, .f32⟩
  | .hbm, ⟨100, _⟩ => ⟨S2048x512, .f32⟩
  | .hbm, ⟨101, _⟩ => ⟨S2048x512, .f32⟩
  | .hbm, ⟨102, _⟩ => ⟨S2048x512, .f32⟩
  | .hbm, ⟨103, _⟩ => ⟨S_, .f32⟩
  | .hbm, ⟨104, _⟩ => ⟨S512, .f32⟩
  | .hbm, ⟨105, _⟩ => ⟨S1x512, .f32⟩
  | .hbm, ⟨106, _⟩ => ⟨S_, .f32⟩
  | .hbm, ⟨107, _⟩ => ⟨S512, .f32⟩
  | .hbm, ⟨108, _⟩ => ⟨S_, .f32⟩
  | .hbm, ⟨109, _⟩ => ⟨S2050x512, .f32⟩
  | .hbm, ⟨110, _⟩ => ⟨S2050x512, .f32⟩
  | .hbm, ⟨111, _⟩ => ⟨S1x512, .f32⟩
  | .hbm, ⟨112, _⟩ => ⟨S_, .f32⟩
  | .hbm, ⟨113, _⟩ => ⟨S3x512, .f32⟩
  | .hbm, ⟨114, _⟩ => ⟨S3x512, .f32⟩
  | .hbm, ⟨115, _⟩ => ⟨S2x512, .f32⟩
  | .hbm, ⟨116, _⟩ => ⟨S2048x512, .f32⟩
  | .hbm, ⟨117, _⟩ => ⟨S2048x512, .f32⟩
  | .hbm, ⟨118, _⟩ => ⟨S2048x512, .f32⟩
  | .hbm, ⟨119, _⟩ => ⟨S2048x4x1x128, .f32⟩
  | .hbm, ⟨120, _⟩ => ⟨S2048x4x1x128, .f32⟩
  | .hbm, ⟨121, _⟩ => ⟨S2048x4x1x128, .f32⟩
  | .hbm, ⟨122, _⟩ => ⟨S2048x4x1x128, .f32⟩
  | .hbm, ⟨123, _⟩ => ⟨S2048x4x4x128, .f32⟩
  | .hbm, ⟨124, _⟩ => ⟨S2048x2048, .f32⟩
  | .hbm, ⟨125, _⟩ => ⟨S2048x9216, .bf16⟩
  | .hbm, ⟨126, _⟩ => ⟨S2048x2048, .bf16⟩
  | .hbm, ⟨127, _⟩ => ⟨S2048x11264, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v41_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v41_1 : Ref sig .tc := ⟨.hbm, 59, rfl⟩
abbrev main_v41_0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_2 : Ref sig .tc := ⟨.hbm, 75, rfl⟩
abbrev main_v53 : Ref sig .tc := ⟨.hbm, 76, rfl⟩
abbrev main_v54 : Ref sig .tc := ⟨.hbm, 77, rfl⟩
abbrev main_cst_3 : Ref sig .tc := ⟨.hbm, 78, rfl⟩
abbrev main_v55 : Ref sig .tc := ⟨.hbm, 79, rfl⟩
abbrev main_cst_4 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Kernel15.lean ====
abbrev S2048x11264 : Shape := ⟨2, ![2048, 11264]⟩
abbrev S2048x1024 : Shape := ⟨2, ![2048, 1024]⟩
abbrev S4x1024 : Shape := ⟨2, ![4, 1024]⟩
abbrev S1x1024 : Shape := ⟨2, ![1, 1024]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S2048x1024, .f32⟩
  | .hbm, ⟨3, _⟩ => ⟨S4x1024, .f32⟩
  | .hbm, ⟨4, _⟩ => ⟨S1x1024, .f32⟩
  | .hbm, ⟨5, _⟩ => ⟨S2048x11264, .bf16⟩
  | .hbm, ⟨6, _⟩ => ⟨S4x1024, .f32⟩
  | .hbm, ⟨7, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2048x11264 : Shape := ⟨2, ![2048, 11264]⟩
abbrev S2048x1024 : Shape := ⟨2, ![2048, 1024]⟩
abbrev S4x1024 : Shape := ⟨2, ![4, 1024]⟩
abbrev S1x1024 : Shape := ⟨2, ![1, 1024]⟩
abbrev S_ : Shape := ⟨0, ![]⟩
abbrev S3x1024 : Shape := ⟨2, ![3, 1024]⟩
abbrev S2051x1024 : Shape := ⟨2, ![2051, 1024]⟩
abbrev S1x2048x1024 : Shape := ⟨3, ![1, 2048, 1024]⟩
abbrev S4x2048x1024 : Shape := ⟨3, ![4, 2048, 1024]⟩
abbrev S4x1x1024 : Shape := ⟨3, ![4, 1, 1024]⟩
abbrev S1024 : Shape := ⟨1, ![1024]⟩
abbrev S2048x5120 : Shape := ⟨2, ![2048, 5120]⟩

abbrev nBuf : Space → Nat
  | .hbm => 81
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S2048x1024, .f32⟩
  | .hbm, ⟨3, _⟩ => ⟨S4x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S3x1024, .f32⟩
  | .hbm, ⟨8, _⟩ => ⟨S2051x1024, .f32⟩
  | .hbm, ⟨9, _⟩ => ⟨S_, .f32⟩
  | .hbm, ⟨10, _⟩ => ⟨S3x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S4x2048x1024, .f32⟩
  | .hbm, ⟨20, _⟩ => ⟨S4x1x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x1024, .f32⟩
  | .hbm, ⟨53, _⟩ => ⟨S4x1x1024, .f32⟩
  | .hbm, ⟨54, _⟩ => ⟨S_, .f32⟩
  | .hbm, ⟨55, _⟩ => ⟨S4x1024, .f32⟩
  | .hbm, ⟨56, _⟩ => ⟨S1x2048x1024, .f32⟩
  | .hbm, ⟨57, _⟩ => ⟨S2048x1024, .f32⟩
  | .hbm, ⟨58, _⟩ => ⟨S1x2048x1024, .f32⟩
  | .hbm, ⟨59, _⟩ => ⟨S2048x1024, .f32⟩
  | .hbm, ⟨60, _⟩ => ⟨S1x2048x1024, .f32⟩
  | .hbm, ⟨61, _⟩ => ⟨S2048x1024, .f32⟩
  | .hbm, ⟨62, _⟩ => ⟨S1x2048x1024, .f32⟩
  | .hbm, ⟨63, _⟩ => ⟨S2048x1024, .f32⟩
  | .hbm, ⟨64, _⟩ => ⟨S_, .f32⟩
  | .hbm, ⟨65, _⟩ => ⟨S2051x1024, .f32⟩
  | .hbm, ⟨66, _⟩ => ⟨S_, .f32⟩
  | .hbm, ⟨67, _⟩ => ⟨S2051x1024, .f32⟩
  | .hbm, ⟨68, _⟩ => ⟨S2051x1024, .f32⟩
  | .hbm, ⟨69, _⟩ => ⟨S_, .f32⟩
  | .hbm, ⟨70, _⟩ => ⟨S2051x1024, .f32⟩
  | .hbm, ⟨71, _⟩ => ⟨S2051x1024, .f32⟩
  | .hbm, ⟨72, _⟩ => ⟨S_, .f32⟩
  | .hbm, ⟨73, _⟩ => ⟨S2051x1024, .f32⟩
  | .hbm, ⟨74, _⟩ => ⟨S2051x1024, .f32⟩
  | .hbm, ⟨75, _⟩ => ⟨S3x1024, .f32⟩
  | .hbm, ⟨76, _⟩ => ⟨S2048x1024, .f32⟩
  | .hbm, ⟨77, _⟩ => ⟨S2048x5120, .bf16⟩
  | .hbm, ⟨78, _⟩ => ⟨S2048x1024, .bf16⟩
  | .hbm, ⟨79, _⟩ => ⟨S2048x5120, .bf16⟩
  | .hbm, ⟨80, _⟩ => ⟨S2048x11264, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Kernel16.lean ====
abbrev S2048x11264 : Shape := ⟨2, ![2048, 11264]⟩
abbrev S4x2048x512 : Shape := ⟨3, ![4, 2048, 512]⟩
abbrev S1x512 : Shape := ⟨2, ![1, 512]⟩
abbrev S8x128x128 : Shape := ⟨3, ![8, 128, 128]⟩
abbrev S128x512 : Shape := ⟨2, ![128, 512]⟩
abbrev S1x128x512 : Shape := ⟨3, ![1, 128, 512]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x384 : Shape := ⟨2, ![128, 384]⟩
abbrev S7x128x128 : Shape := ⟨3, ![7, 128, 128]⟩
abbrev S6x128x128 : Shape := ⟨3, ![6, 128, 128]⟩
abbrev S128x256 : Shape := ⟨2, ![128, 256]⟩
abbrev S5x128x128 : Shape := ⟨3, ![5, 128, 128]⟩
abbrev S2x128x128 : Shape := ⟨3, ![2, 128, 128]⟩
abbrev S4x128x128 : Shape := ⟨3, ![4, 128, 128]⟩
abbrev S3x128x128 : Shape := ⟨3, ![3, 128, 128]⟩
abbrev S512 : Shape := ⟨1, ![512]⟩

abbrev nBuf : Space → Nat
  | .hbm => 12
  | .vmem => 18
  | .smem => 0
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S4x2048x512, .f32⟩
  | .hbm, ⟨3, _⟩ => ⟨S1x512, .f32⟩
  | .hbm, ⟨4, _⟩ => ⟨S1x512, .f32⟩
  | .hbm, ⟨5, _⟩ => ⟨S8x128x128, .f32⟩
  | .hbm, ⟨6, _⟩ => ⟨S128x512, .f32⟩
  | .hbm, ⟨7, _⟩ => ⟨S2048x11264, .bf16⟩
  | .hbm, ⟨8, _⟩ => ⟨S1x512, .f32⟩
  | .hbm, ⟨9, _⟩ => ⟨S1x512, .f32⟩
  | .hbm, ⟨10, _⟩ => ⟨S8x128x128, .f32⟩
  | .hbm, ⟨11, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x512, .f32⟩
  | .local _ .vmem, ⟨7, _⟩ => ⟨S1x128x512, .f32⟩
  | .local _ .vmem, ⟨8, _⟩ => ⟨S1x512, .f32⟩
  | .local _ .vmem, ⟨9, _⟩ => ⟨S1x512, .f32⟩
  | .local _ .vmem, ⟨10, _⟩ => ⟨S8x128x128, .f32⟩
  | .local _ .vmem, ⟨11, _⟩ => ⟨S128x512, .f32⟩
  | .local _ .vmem, ⟨12, _⟩ => ⟨S128x2048, .bf16⟩
  | .local _ .vmem, ⟨13, _⟩ => ⟨S128x2048, .bf16⟩
  | .local _ .vmem, ⟨14, _⟩ => ⟨S1x512, .f32⟩
  | .local _ .vmem, ⟨15, _⟩ => ⟨S1x512, .f32⟩
  | .local _ .vmem, ⟨16, _⟩ => ⟨S8x128x128, .f32⟩
  | .local _ .vmem, ⟨17, _⟩ => ⟨S128x512, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v463 : BitVec 1 := Scalar.cmpi .eq arg0 c0_i32
  let v464 : BitVec 32 := Scalar.extui v463
  let c0_i32_139 : BitVec 32 := 0#32
  let v465 : BitVec 1 := Scalar.cmpi .ne v464 c0_i32_139
  v465

def k0_cond2 (i : grid0.Coords) : BitVec 1 :=
  let arg0 : BitVec 32 := BitVec.ofNat 32 (i 0).val
  let c0_i32_140 : BitVec 32 := 0#32
  let v466 : BitVec 1 := Scalar.cmpi .sgt arg0 c0_i32_140
  let v467 : BitVec 32 := Scalar.extui v466
  let c0_i32_141 : BitVec 32 := 0#32
  let v468 : BitVec 1 := Scalar.cmpi .ne v467 c0_i32_141
  v468

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference16Ideal.lean ====
abbrev S2048x11264 : Shape := ⟨2, ![2048, 11264]⟩
abbrev S4x2048x512 : Shape := ⟨3, ![4, 2048, 512]⟩
abbrev S1x512 : Shape := ⟨2, ![1, 512]⟩
abbrev S8x128x128 : Shape := ⟨3, ![8, 128, 128]⟩
abbrev S128x512 : Shape := ⟨2, ![128, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S16x128x8x64 : Shape := ⟨4, ![16, 128, 8, 64]⟩
abbrev S128x128 : Shape := ⟨2, ![128, 128]⟩
abbrev S8x16x64x128 : Shape := ⟨4, ![8, 16, 64, 128]⟩
abbrev S128x8x64 : Shape := ⟨3, ![128, 8, 64]⟩
abbrev S1x128x8x64 : Shape := ⟨4, ![1, 128, 8, 64]⟩
abbrev S1x2048x512 : Shape := ⟨3, ![1, 2048, 512]⟩
abbrev S512 : Shape := ⟨1, ![512]⟩
abbrev S2048x6144 : Shape := ⟨2, ![2048, 6144]⟩
abbrev S2048x3072 : Shape := ⟨2, ![2048, 3072]⟩

abbrev nBuf : Space → Nat
  | .hbm => 244
  | .vmem => 0
  | .smem => 0
  | _ => 0

abbrev hbmTy0_0 (i : Nat) : BufTy := match i % 128 with
  | 0 => ⟨S2048x11264, .f32⟩
  | 1 => ⟨S2048x11264, .bf16⟩
  | 2 => ⟨S4x2048x512, .f32⟩
  | 3 => ⟨S1x512, .f32⟩
  | 4 => ⟨S1x512, .f32⟩
  | 5 => ⟨S8x128x128, .f32⟩
  | 6 => ⟨S128x512, .f32⟩
  | 7 => ⟨S2048x512, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S_, .f32⟩
  | 21 => ⟨S2048x512, .f32⟩
  | 22 => ⟨S2048x512, .f32⟩
  | 23 => ⟨S2048x512, .f32⟩
  | 24 => ⟨S_, .f32⟩
  | 25 => ⟨S2048x512, .f32⟩
  | 26 => ⟨S2048x512, .f32⟩
  | 27 => ⟨S_, .f32⟩
  | 28 => ⟨S2048x512, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S_, .f32⟩
  | 56 => ⟨S2048x512, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S2048x512, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S2048x512, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S_, .f32⟩
  | 79 => ⟨S2048, .f32⟩
  | 80 => ⟨S2048x1, .f32⟩
  | 81 => ⟨S_, .f32⟩
  | 82 => ⟨S2048x1, .f32⟩
  | 83 => ⟨S2048x1, .f32⟩
  | 84 => ⟨S2048x512, .f32⟩
  | 85 => ⟨S2048x512, .f32⟩
  | 86 => ⟨S_, .f32⟩
  | 87 => ⟨S2048x1, .f32⟩
  | 88 => ⟨S2048x1, .f32⟩
  | 89 => ⟨S2048x1, .f32⟩
  | 90 => ⟨S2048x1, .f32⟩
  | 91 => ⟨S_, .f32⟩
  | 92 => ⟨S2048x1, .f32⟩
  | 93 => ⟨S2048x1, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S16x128x8x64, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S_, .f32⟩
  | 113 => ⟨S_, .f32⟩
  | 114 => ⟨S8x128x128, .i1⟩
  | 115 => ⟨S8x128x128, .f32⟩
  | 116 => ⟨S8x128x128, .f32⟩
  | 117 => ⟨S_, .f32⟩
  | 118 => ⟨S8x128x128, .f32⟩
  | 119 => ⟨S8x16x64x128, .f32⟩
  | 120 => ⟨S16x128x8x64, .f32⟩
  | 121 => ⟨S128x8x64, .f32⟩
  | 122 => ⟨S1x128x8x64, .f32⟩
  | 123 => ⟨S16x128x8x64, .f32⟩
  | 124 => ⟨S16x128x8x64, .f32⟩
  | 125 => ⟨S2048x512, .f32⟩
  | 126 => ⟨S2048x512, .f32⟩
  | 127 => ⟨S2048x512, .f32⟩
  | _ => ⟨S2048x11264, .f32⟩

abbrev hbmTy0_1 (i : Nat) : BufTy := match i % 128 with
  | 0 => ⟨S2048x512, .f32⟩
  | 1 => ⟨S_, .f32⟩
  | 2 => ⟨S2048x512, .f32⟩
  | 3 => ⟨S2048x512, .f32⟩
  | 4 => ⟨S_, .f32⟩
  | 5 => ⟨S2048x512, .f32⟩
  | 6 => ⟨S2048x512, .f32⟩
  | 7 => ⟨S_, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S1x2048x512, .f32⟩
  | 14 => ⟨S2048x512, .f32⟩
  | 15 => ⟨S2048x512, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S16x128x8x64, .f32⟩
  | 24 => ⟨S_, .f32⟩
  | 25 => ⟨S128x8x64, .f32⟩
  | 26 => ⟨S1x128x8x64, .f32⟩
  | 27 => ⟨S_, .f32⟩
  | 28 => ⟨S128x8x64, .f32⟩
  | 29 => ⟨S128x512, .f32⟩
  | 30 => ⟨S8x16x64x128, .f32⟩
  | 31 => ⟨S8x128x128, .f32⟩
  | 32 => ⟨S8x16x64x128, .f32⟩
  | 33 => ⟨S16x128x8x64, .f32⟩
  | 34 => ⟨S_, .f32⟩
  | 35 => ⟨S8x128x128, .f32⟩
  | 36 => ⟨S8x128x128, .f32⟩
  | 37 => ⟨S2048x512, .f32⟩
  | 38 => ⟨S_, .f32⟩
  | 39 => ⟨S512, .f32⟩
  | 40 => ⟨S1x512, .f32⟩
  | 41 => ⟨S2048x512, .f32⟩
  | 42 => ⟨S_, .f32⟩
  | 43 => ⟨S512, .f32⟩
  | 44 => ⟨S1x512, .f32⟩
  | 45 => ⟨S2048x512, .f32⟩
  | 46 => ⟨S2048x512, .f32⟩
  | 47 => ⟨S2048x512, .f32⟩
  | 48 => ⟨S_, .f32⟩
  | 49 => ⟨S2048, .f32⟩
  | 50 => ⟨S2048x1, .f32⟩
  | 51 => ⟨S2048x512, .f32⟩
  | 52 => ⟨S2048x512, .f32⟩
  | 53 => ⟨S2048x1, .f32⟩
  | 54 => ⟨S2048x512, .f32⟩
  | 55 => ⟨S_, .f32⟩
  | 56 => ⟨S2048, .f32⟩
  | 57 => ⟨S2048x1, .f32⟩
  | 58 => ⟨S_, .f32⟩
  | 59 => ⟨S2048x1, .f32⟩
  | 60 => ⟨S2048x1, .f32⟩
  | 61 => ⟨S_, .f32⟩
  | 62 => ⟨S2048, .f32⟩
  | 63 => ⟨S2048x512, .f32⟩
  | 64 => ⟨S2048x512, .f32⟩
  | 65 => ⟨S2048x512, .f32⟩
  | 66 => ⟨S_, .f32⟩
  | 67 => ⟨S2048, .f32⟩
  | 68 => ⟨S2048x1, .f32⟩
  | 69 => ⟨S2048x512, .f32⟩
  | 70 => ⟨S2048x1, .f32⟩
  | 71 => ⟨S_, .f32⟩
  | 72 => ⟨S2048x1, .f32⟩
  | 73 => ⟨S2048x1, .f32⟩
  | 74 => ⟨S_, .f32⟩
  | 75 => ⟨S2048, .f32⟩
  | 76 => ⟨S2048x512, .f32⟩
  | 77 => ⟨S2048x512, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S2048x512, .f32⟩
  | 88 => ⟨S_, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S_, .f32⟩
  | 96 => ⟨S2048x512, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S2048x512, .f32⟩
  | 103 => ⟨S_, .f32⟩
  | 104 => ⟨S2048x512, .f32⟩
  | 105 => ⟨S2048x512, .f32⟩
  | 106 => ⟨S2048x512, .f32⟩
  | 107 => ⟨S2048x512, .f32⟩
  | 108 => ⟨S2048x512, .bf16⟩
  | 109 => ⟨S2048x512, .bf16⟩
  | 110 => ⟨S2048x512, .bf16⟩
  | 111 => ⟨S_, .bf16⟩
  | 112 => ⟨S2048x512, .bf16⟩
  | 113 => ⟨S2048x6144, .bf16⟩
  | 114 => ⟨S2048x3072, .bf16⟩
  | 115 => ⟨S2048x11264, .bf16⟩
  | _ => ⟨S2048x11264, .f32⟩

abbrev hbmTy (i : Nat) : BufTy := match i / 128 with
  | 0 => hbmTy0_0 i
  | 1 => hbmTy0_1 i
  | _ => ⟨S2048x11264, .f32⟩

abbrev bufTy : (tb : Table) → Fin (tcTables nBuf tb) → BufTy
  | .hbm, ⟨i, _⟩ => hbmTy i
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c : Ref sig .tc := ⟨.hbm, 101, rfl⟩
abbrev main_v73 : Ref sig .tc := ⟨.hbm, 102, rfl⟩
abbrev main_call0_v0 : Ref sig .tc := ⟨.hbm, 103, rfl⟩
abbrev main_call0_c : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_c_0 : Ref sig .tc := ⟨.hbm, 109, rfl⟩
abbrev main_call0_v5 : Ref sig .tc := ⟨.hbm, 110, rfl⟩
abbrev main_v74 : Ref sig .tc := ⟨.hbm, 111, rfl⟩
abbrev main_cst_20 : Ref sig .tc := ⟨.hbm, 112, rfl⟩
abbrev main_call1_v0 : Ref sig .tc := ⟨.hbm, 113, rfl⟩
abbrev main_v75_1 : Ref sig .tc := ⟨.hbm, 114, rfl⟩
abbrev main_call1_v2 : Ref sig .tc := ⟨.hbm, 115, rfl⟩
abbrev main_v75_0 : Ref sig .tc := ⟨.hbm, 116, rfl⟩
abbrev main_call1_cst : Ref sig .tc := ⟨.hbm, 117, rfl⟩
abbrev main_v75_2 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_call2_v0 : Ref sig .tc := ⟨.hbm, 127, rfl⟩
abbrev main_call2_v1 : Ref sig .tc := ⟨.hbm, 128, rfl⟩
abbrev main_call2_cst : Ref sig .tc := ⟨.hbm, 129, rfl⟩
abbrev main_call2_v2 : Ref sig .tc := ⟨.hbm, 130, rfl⟩
abbrev main_call2_v3 : Ref sig .tc := ⟨.hbm, 131, rfl⟩
abbrev main_call2_cst_0 : Ref sig .tc := ⟨.hbm, 132, rfl⟩
abbrev main_call2_v4 : Ref sig .tc := ⟨.hbm, 133, rfl⟩
abbrev main_v84_2 : Ref sig .tc := ⟨.hbm, 134, rfl⟩
abbrev main_call2_cst_1 : Ref sig .tc := ⟨.hbm, 135, rfl⟩
abbrev main_call2_v6 : Ref sig .tc := ⟨.hbm, 136, rfl⟩
abbrev main_call2_v7 : Ref sig .tc := ⟨.hbm, 137, rfl⟩
abbrev main_v84_1 : Ref sig .tc := ⟨.hbm, 138, rfl⟩
abbrev main_v84_0 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_21 : Ref sig .tc := ⟨.hbm, 152, rfl⟩
abbrev main_v94 : Ref sig .tc := ⟨.hbm, 153, rfl⟩
abbrev main_v95 : Ref sig .tc := ⟨.hbm, 154, rfl⟩
abbrev main_cst_22 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_call4_cst : Ref sig .tc := ⟨.hbm, 162, rfl⟩
abbrev main_call4_v0 : Ref sig .tc := ⟨.hbm, 163, rfl⟩
abbrev main_v102 : Ref sig .tc := ⟨.hbm, 164, rfl⟩
abbrev main_v103 : Ref sig .tc := ⟨.hbm, 165, rfl⟩
abbrev main_cst_23 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_24 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_25 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_26 : Ref sig .tc := ⟨.hbm, 183, rfl⟩
abbrev main_v118 : Ref sig .tc := ⟨.hbm, 184, rfl⟩
abbrev main_v119 : Ref sig .tc := ⟨.hbm, 185, rfl⟩
abbrev main_cst_27 : Ref sig .tc := ⟨.hbm, 186, rfl⟩
abbrev main_v120 : Ref sig .tc := ⟨.hbm, 187, rfl⟩
abbrev main_v121 : Ref sig .tc := ⟨.hbm, 188, rfl⟩
abbrev main_cst_28 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_29 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_cst_30 : Ref sig .tc := ⟨.hbm, 199, rfl⟩
abbrev main_v130 : Ref sig .tc := ⟨.hbm, 200, rfl⟩
abbrev main_v131 : Ref sig .tc := ⟨.hbm, 201, rfl⟩
abbrev main_cst_31 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_cst_32 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_33 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_34 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_cst_35 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_36 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_cst_37 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_cst_38 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel18.lean ====
abbrev S4x2048x128 : Shape := ⟨3, ![4, 2048, 128]⟩
abbrev S2x2048x128 : Shape := ⟨3, ![2, 2048, 128]⟩
abbrev S4x512x128 : Shape := ⟨3, ![4, 512, 128]⟩
abbrev S1x512x128 : Shape := ⟨3, ![1, 512, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x128, .bf16⟩
  | .hbm, ⟨1, _⟩ => ⟨S4x2048x128, .bf16⟩
  | .hbm, ⟨2, _⟩ => ⟨S2x2048x128, .f32⟩
  | .hbm, ⟨3, _⟩ => ⟨S2x2048x128, .f32⟩
  | .hbm, ⟨4, _⟩ => ⟨S2x2048x128, .f32⟩
  | .hbm, ⟨5, _⟩ => ⟨S2x2048x128, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c3_i32 : BitVec 32 := 3#32
  let v2 : BitVec 32 := Scalar.select v1 arg1 c3_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c3_i32 : BitVec 32 := 3#32
  let v2 : BitVec 32 := Scalar.select v1 arg1 c3_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S4x2048x128 : Shape := ⟨3, ![4, 2048, 128]⟩
abbrev S2x2048x128 : Shape := ⟨3, ![2, 2048, 128]⟩
abbrev S_ : Shape := ⟨0, ![]⟩
abbrev S2048x128 : Shape := ⟨2, ![2048, 128]⟩
abbrev S1x2048x128 : Shape := ⟨3, ![1, 2048, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x128, .bf16⟩
  | .hbm, ⟨1, _⟩ => ⟨S4x2048x128, .bf16⟩
  | .hbm, ⟨2, _⟩ => ⟨S2x2048x128, .f32⟩
  | .hbm, ⟨3, _⟩ => ⟨S2x2048x128, .f32⟩
  | .hbm, ⟨4, _⟩ => ⟨S2x2048x128, .f32⟩
  | .hbm, ⟨5, _⟩ => ⟨S4x2048x128, .f32⟩
  | .hbm, ⟨6, _⟩ => ⟨S_, .f32⟩
  | .hbm, ⟨7, _⟩ => ⟨S2048x128, .f32⟩
  | .hbm, ⟨8, _⟩ => ⟨S4x2048x128, .f32⟩
  | .hbm, ⟨9, _⟩ => ⟨S_, .f32⟩
  | .hbm, ⟨10, _⟩ => ⟨S2048x128, .f32⟩
  | .hbm, ⟨11, _⟩ => ⟨S1x2048x128, .f32⟩
  | .hbm, ⟨12, _⟩ => ⟨S1x2048x128, .f32⟩
  | .hbm, ⟨13, _⟩ => ⟨S2x2048x128, .f32⟩
  | .hbm, ⟨14, _⟩ => ⟨S_, .f32⟩
  | .hbm, ⟨15, _⟩ => ⟨S2x2048x128, .f32⟩
  | .hbm, ⟨16, _⟩ => ⟨S2x2048x128, .f32⟩
  | .hbm, ⟨17, _⟩ => ⟨S_, .f32⟩
  | .hbm, ⟨18, _⟩ => ⟨S2x2048x128, .f32⟩
  | .hbm, ⟨19, _⟩ => ⟨S2x2048x128, .f32⟩
  | .hbm, ⟨20, _⟩ => ⟨S2x2048x128, .f32⟩
  | .hbm, ⟨21, _⟩ => ⟨S_, .f32⟩
  | .hbm, ⟨22, _⟩ => ⟨S2x2048x128, .f32⟩
  | .hbm, ⟨23, _⟩ => ⟨S2x2048x128, .f32⟩
  | .hbm, ⟨24, _⟩ => ⟨S2x2048x128, .f32⟩
  | .hbm, ⟨25, _⟩ => ⟨S_, .f32⟩
  | .hbm, ⟨26, _⟩ => ⟨S2x2048x128, .f32⟩
  | .hbm, ⟨27, _⟩ => ⟨S2x2048x128, .f32⟩
  | .hbm, ⟨28, _⟩ => ⟨S2x2048x128, .f32⟩
  | .hbm, ⟨29, _⟩ => ⟨S_, .f32⟩
  | .hbm, ⟨30, _⟩ => ⟨S2x2048x128, .f32⟩
  | .hbm, ⟨31, _⟩ => ⟨S2x2048x128, .f32⟩
  | .hbm, ⟨32, _⟩ => ⟨S_, .f32⟩
  | .hbm, ⟨33, _⟩ => ⟨S2x2048x128, .f32⟩
  | .hbm, ⟨34, _⟩ => ⟨S2x2048x128, .f32⟩
  | .hbm, ⟨35, _⟩ => ⟨S2x2048x128, .f32⟩
  | .hbm, ⟨36, _⟩ => ⟨S_, .f32⟩
  | .hbm, ⟨37, _⟩ => ⟨S2x2048x128, .f32⟩
  | .hbm, ⟨38, _⟩ => ⟨S2x2048x128, .f32⟩
  | .hbm, ⟨39, _⟩ => ⟨S2x2048x128, .f32⟩
  | .hbm, ⟨40, _⟩ => ⟨S_, .f32⟩
  | .hbm, ⟨41, _⟩ => ⟨S2x2048x128, .f32⟩
  | .hbm, ⟨42, _⟩ => ⟨S2x2048x128, .f32⟩
  | .hbm, ⟨43, _⟩ => ⟨S2x2048x128, .f32⟩
  | .hbm, ⟨44, _⟩ => ⟨S_, .f32⟩
  | .hbm, ⟨45, _⟩ => ⟨S2x2048x128, .f32⟩
  | .hbm, ⟨46, _⟩ => ⟨S2x2048x128, .f32⟩
  | _, _ => ⟨S4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel19.lean ====
abbrev S4x128x1024 : Shape := ⟨3, ![4, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let v2 : BitVec 32 := Scalar.select v1 arg1 c0_i32_1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let v2 : BitVec 32 := Scalar.select v1 arg1 c0_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S4x128x1024 : Shape := ⟨3, ![4, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel20.lean ====
abbrev S4x64x512 : Shape := ⟨3, ![4, 64, 512]⟩
abbrev S2x64x512 : Shape := ⟨3, ![2, 64, 512]⟩
abbrev S1x64x512 : Shape := ⟨3, ![1, 64, 512]⟩
abbrev S64x512 : Shape := ⟨2, ![64, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x64x512, .bf16⟩
  | .hbm, ⟨1, _⟩ => ⟨S4x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x512, .f32⟩
  | .local _ .vmem, ⟨0, _⟩ => ⟨S4x64x512, .bf16⟩
  | .local _ .vmem, ⟨1, _⟩ => ⟨S4x64x512, .bf16⟩
  | .local _ .vmem, ⟨2, _⟩ => ⟨S4x64x512, .bf16⟩
  | .local _ .vmem, ⟨3, _⟩ => ⟨S4x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | _, _ => ⟨S4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let v2 : BitVec 32 := Scalar.select v1 arg1 c0_i32_1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let v2 : BitVec 32 := Scalar.select v1 arg1 c0_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S4x64x512 : Shape := ⟨3, ![4, 64, 512]⟩
abbrev S2x64x512 : Shape := ⟨3, ![2, 64, 512]⟩
abbrev S_ : Shape := ⟨0, ![]⟩
abbrev S64x512 : Shape := ⟨2, ![64, 512]⟩
abbrev S1x64x512 : Shape := ⟨3, ![1, 64, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x64x512, .bf16⟩
  | .hbm, ⟨1, _⟩ => ⟨S4x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S4x64x512, .f32⟩
  | .hbm, ⟨6, _⟩ => ⟨S_, .f32⟩
  | .hbm, ⟨7, _⟩ => ⟨S64x512, .f32⟩
  | .hbm, ⟨8, _⟩ => ⟨S4x64x512, .f32⟩
  | .hbm, ⟨9, _⟩ => ⟨S_, .f32⟩
  | .hbm, ⟨10, _⟩ => ⟨S64x512, .f32⟩
  | .hbm, ⟨11, _⟩ => ⟨S1x64x512, .f32⟩
  | .hbm, ⟨12, _⟩ => ⟨S1x64x512, .f32⟩
  | .hbm, ⟨13, _⟩ => ⟨S2x64x512, .f32⟩
  | .hbm, ⟨14, _⟩ => ⟨S_, .f32⟩
  | .hbm, ⟨15, _⟩ => ⟨S2x64x512, .f32⟩
  | .hbm, ⟨16, _⟩ => ⟨S2x64x512, .f32⟩
  | .hbm, ⟨17, _⟩ => ⟨S_, .f32⟩
  | .hbm, ⟨18, _⟩ => ⟨S2x64x512, .f32⟩
  | .hbm, ⟨19, _⟩ => ⟨S2x64x512, .f32⟩
  | .hbm, ⟨20, _⟩ => ⟨S2x64x512, .f32⟩
  | .hbm, ⟨21, _⟩ => ⟨S_, .f32⟩
  | .hbm, ⟨22, _⟩ => ⟨S2x64x512, .f32⟩
  | .hbm, ⟨23, _⟩ => ⟨S2x64x512, .f32⟩
  | .hbm, ⟨24, _⟩ => ⟨S2x64x512, .f32⟩
  | .hbm, ⟨25, _⟩ => ⟨S_, .f32⟩
  | .hbm, ⟨26, _⟩ => ⟨S2x64x512, .f32⟩
  | .hbm, ⟨27, _⟩ => ⟨S2x64x512, .f32⟩
  | .hbm, ⟨28, _⟩ => ⟨S2x64x512, .f32⟩
  | .hbm, ⟨29, _⟩ => ⟨S_, .f32⟩
  | .hbm, ⟨30, _⟩ => ⟨S2x64x512, .f32⟩
  | .hbm, ⟨31, _⟩ => ⟨S2x64x512, .f32⟩
  | .hbm, ⟨32, _⟩ => ⟨S_, .f32⟩
  | .hbm, ⟨33, _⟩ => ⟨S2x64x512, .f32⟩
  | .hbm, ⟨34, _⟩ => ⟨S2x64x512, .f32⟩
  | .hbm, ⟨35, _⟩ => ⟨S2x64x512, .f32⟩
  | .hbm, ⟨36, _⟩ => ⟨S_, .f32⟩
  | .hbm, ⟨37, _⟩ => ⟨S2x64x512, .f32⟩
  | .hbm, ⟨38, _⟩ => ⟨S2x64x512, .f32⟩
  | .hbm, ⟨39, _⟩ => ⟨S2x64x512, .f32⟩
  | .hbm, ⟨40, _⟩ => ⟨S_, .f32⟩
  | .hbm, ⟨41, _⟩ => ⟨S2x64x512, .f32⟩
  | .hbm, ⟨42, _⟩ => ⟨S2x64x512, .f32⟩
  | .hbm, ⟨43, _⟩ => ⟨S2x64x512, .f32⟩
  | .hbm, ⟨44, _⟩ => ⟨S_, .f32⟩
  | .hbm, ⟨45, _⟩ => ⟨S2x64x512, .f32⟩
  | .hbm, ⟨46, _⟩ => ⟨S2x64x512, .f32⟩
  | _, _ => ⟨S4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel21.lean ====
abbrev S8x560x128 : Shape := ⟨3, ![8, 560, 128]⟩
abbrev S560x128 : Shape := ⟨2, ![560, 128]⟩
abbrev S1x560x128 : Shape := ⟨3, ![1, 560, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x560x128, .f32⟩
  | .hbm, ⟨1, _⟩ => ⟨S560x128, .f32⟩
  | .local _ .vmem, ⟨0, _⟩ => ⟨S8x560x128, .f32⟩
  | .local _ .vmem, ⟨1, _⟩ => ⟨S560x128, .f32⟩
  | _, _ => ⟨S8x560x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference21Ideal.lean ====
abbrev S8x560x128 : Shape := ⟨3, ![8, 560, 128]⟩
abbrev S_ : Shape := ⟨0, ![]⟩
abbrev S560x128 : Shape := ⟨2, ![560, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x560x128, .f32⟩
  | .hbm, ⟨1, _⟩ => ⟨S_, .f32⟩
  | .hbm, ⟨2, _⟩ => ⟨S560x128, .f32⟩
  | _, _ => ⟨S8x560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.MergeBlock.lean ====
/- One grid point of the merge kernel: its block indices, and its gate and logit gradient read at an index. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Merge

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The block index of every window at every grid point: the branch is `t / 2`, the row tile `t % 2`. -/
theorem idx : ∀ t : Fin cfg0.N, win0_0.index t = ![t.val / 2, t.val % 2, 0] ∧ win0_1.index t = ![t.val % 2, t.val / 2]
    ∧ win0_2.index t = ![t.val % 2, 0] ∧ win0_3.index t = ![t.val / 2, 0, 0] ∧ win0_4.index t = ![t.val / 2, 0, 0]
    ∧ win0_5.index t = ![t.val / 2, t.val % 2, 0] ∧ win0_6.index t = ![t.val % 2, t.val / 2]
    ∧ win0_7.index t = ![t.val / 2, 0, 0] ∧ win0_8.index t = ![t.val / 2, 0, 0] ∧ t.val / 2 < 4 :=
  (by decide +kernel : ∀ t : Fin grid0.N, _)

/-- The gate of one row tile, as the quotient the reference writes. -/
theorem gate_apply (z : FVec Ideal S1024x1024 .f32) (b : FVec Ideal S1x1x1024 .f32) (j : S1024x1024.Idx) :
    k0_pay6 (F := Ideal) z b j = Ideal.div 1 (1 + Ideal.exp (-(z j + b (ix3 0 0 (j 1))))) := by
  pointwise [k0_pay6]
  rfl

/-- The gradient of the logits of one row tile, with the factors in the reference's order. -/
theorem logit_grad_apply (z : FVec Ideal S1024x1024 .f32) (b : FVec Ideal S1x1x1024 .f32) (y : FVec Ideal S1x1024x512 .bf16)
    (d : FVec Ideal S1024x1024 .f32) (w : FVec Ideal S1x512x1024 .bf16) (j : S1024x1024.Idx) :
    k0_pay9 (F := Ideal) z b y d w j = (d j * ∑ k : Fin 512, w (ix3 0 k (j 1)) * y (ix3 0 (j 0) k))
      * (Ideal.div 1 (1 + Ideal.exp (-(z j + b (ix3 0 0 (j 1))))) * (1 - Ideal.div 1 (1 + Ideal.exp (-(z j + b (ix3 0 0 (j 1))))))) := by
  pointwise [k0_pay9, gate_apply, k0_pay7]
  rw [mul_assoc, mul_comm _ (d j)]
  simp only [mul_comm (y _)]

end Cert.Merge

end
-- ==== Proof.MergeBranches.lean ====
/- The merge kernel: the result array of the gradient of the branches is the reference's over the kernel's argument arrays. -/
module

public import proofs.«01_k».proof.Proof.Gen.ReferenceIdeal.Read
public import proofs.«01_k».proof.Proof.MergeBlock
public import Idealize.ShloMosaic.Lib.Pipeline.ValueKit
public import Idealize.ShloMosaic.Lib.Pointwise

@[expose] public section

set_option maxRecDepth 16384

noncomputable section

namespace Cert.Merge

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The gradient of the branches: block `t` is the gated cotangent times the transposed branch weights. -/
theorem final5 (c : Dev nD) : (dats m 0 c).arrAt 5 cfg0.N
    = val_main_v30 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have e : (outsAt0 m c t.val t.isLt).1 = k0_pay11 (F := Ideal) (iblk m c 1 t) (iblk m c 3 t) (iblk m c 2 t) (iblk m c 4 t) := by
    by_cases h : t.val % 2 = 0
    · rw [outsAt0_A m c t h (by omega) (by omega)]; frame_out
    · rw [outsAt0_B m c t h (by omega) (by omega)]; frame_out
  rw [e]
  pointwise [k0_pay11, k0_pay8, gate_apply, val_main_v30, val_main_v29, val_main_v22, val_main_v21, val_main_v15, val_main_v14, val_main_v13, val_main_v12, val_main_v11, val_main_v10, val_main_v9, val_main_v8, val_main_v7, val_main_v6, val_main_v3, val_main_v2, val_main_v1, val_main_v0, val_main_cst, val_main_cst_0]
  blk_point [iblk, V, idx t]

end Cert.Merge

end
-- ==== Proof.MergeLogits.lean ====
/- The merge kernel: the result array of the gradient of the gate logits is the reference's over the kernel's argument arrays. -/
module

public import proofs.«01_k».proof.Proof.Gen.ReferenceIdeal.Read
public import proofs.«01_k».proof.Proof.MergeBlock
public import Idealize.ShloMosaic.Lib.Pipeline.ValueKit
public import Idealize.ShloMosaic.Lib.Pointwise

@[expose] public section

set_option maxRecDepth 16384

noncomputable section

namespace Cert.Merge

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The gradient of the logits: the columns of the four branches hold it, the remaining columns keep what they had. -/
theorem final6 (c : Dev nD) : (dats m 0 c).arrAt 6 cfg0.N = fun i : S2048x11264.Idx => if (i 1 : ℕ) < 4096
    then val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i
    else (dats m 0 c).A 6 i := by
  refine (dats m 0 c).arrAt_eq_of_coversWhere 6 _ (fun β => β (1 : Fin 2) < 4) (by decide +kernel) (fun t hf y => ?_)
    (fun j => by blk_simp [Pipeline.Window.cell_apply]; omega)
  blk_simp
  rw [after0_6]
  have e : (outsAt0 m c t.val t.isLt).2.1 = k0_pay10 (F := Ideal) (iblk m c 1 t) (iblk m c 3 t) (iblk m c 0 t) (iblk m c 2 t) (iblk m c 4 t) := by
    by_cases h : t.val % 2 = 0
    · rw [outsAt0_A m c t h (by omega) (by omega)]; frame_out
    · rw [outsAt0_B m c t h (by omega) (by omega)]; frame_out
  rw [e]
  pointwise [k0_pay10, logit_grad_apply, val_main_v34, val_main_v33]
  have ht : t.val / 2 < 4 := (idx t).2.2.2.2.2.2.2.2.2
  rw [dif_pos (by blk_simp [idx t]; idx_bounds; omega)]
  pointwise [val_main_v28, val_main_v25, val_main_v24, val_main_v23, val_main_v18, val_main_v17, val_main_v16, val_main_v5, val_main_v4, val_main_cst_1, val_main_v22, val_main_v21, val_main_v15, val_main_v14, val_main_v13, val_main_v12, val_main_v11, val_main_v10, val_main_v9, val_main_v8, val_main_v7, val_main_v6, val_main_v3, val_main_v2, val_main_v1, val_main_v0, val_main_cst, val_main_cst_0]
  blk_point [iblk, V, idx t]

end Cert.Merge

end
-- ==== Proof.MergeWeights.lean ====
/- The merge kernel: the result array of the gradient of the branch weights is the reference's over the kernel's argument arrays. -/
module

public import proofs.«01_k».proof.Proof.Gen.ReferenceIdeal.Read
public import proofs.«01_k».proof.Proof.MergeBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Merge

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The gradient of the branch weights: the sum over the two row tiles is the sum over all rows. -/
theorem final7 (c : Dev nD) : (dats m 0 c).arrAt 7 cfg0.N
    = val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have h : t.val % 2 = 1 := (flush0_7 t).mp hf
  have e : (outsAt0 m c t.val t.isLt).2.2.1 = k0_pay5 (F := Ideal) (outsAt0 m c t.val t.isLt).2.2.2.2 := by
    rw [outsAt0_B m c t (by omega) h h]; frame_out
  rw [e]
  pointwise [k0_pay5]
  rw [Pipeline.eq_sum_fin_of_reset_step_apply_of_flush (fun n h => (outsAt0 m c n h).2.2.2.2) 2 (fun _ => 0)
    (fun p j => k0_pay12 (F := Ideal) (iblk m c 1 p) (iblk m c 3 p) (iblk m c 0 p) (iblk m c 2 p) j)
    (fun t h j => by rw [outsAt0_A m c t h (by omega) (by omega)]; frame_out; rw [zero_add]; pointwise [k0_pay1])
    (fun t h j => by rw [outsAt0_B m c t h (by omega) (by omega)]; frame_out; rw [read_unread_whole]; pointwise [k0_pay3])
    t h _, zero_add]
  pointwise [k0_pay12, k0_pay8, k0_pay7, gate_apply, val_main_v35, val_main_v32, val_main_v31, val_main_v29, val_main_v22, val_main_v21, val_main_v15, val_main_v14, val_main_v13, val_main_v12, val_main_v11, val_main_v10, val_main_v9, val_main_v8, val_main_v7, val_main_v6, val_main_v3, val_main_v2, val_main_v1, val_main_v0, val_main_cst, val_main_cst_0]
  refine Fin.sum_mul_add_congr fun s k hl => ?_
  blk_point [iblk, V, idx t, idx ⟨_, Pipeline.run_point_lt_of_flush t h s⟩]

end Cert.Merge

end
-- ==== Proof.MergeBias.lean ====
/- The merge kernel: the result array of the gradient of the gate bias is the reference's over the kernel's argument arrays. -/
module

public import proofs.«01_k».proof.Proof.Gen.ReferenceIdeal.Read
public import proofs.«01_k».proof.Proof.MergeBlock
public import Idealize.ShloMosaic.Lib.Pipeline.ValueKit
public import Idealize.ShloMosaic.Lib.Pointwise

@[expose] public section

set_option maxRecDepth 16384

noncomputable section

namespace Cert.Merge

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The gradient of the bias: the sum over the two row tiles is the sum over all rows. -/
theorem final8 (c : Dev nD) : (dats m 0 c).arrAt 8 cfg0.N
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  have h : t.val % 2 = 1 := (flush0_8 t).mp hf
  rw [Pipeline.eq_sum_fin_of_reset_step_apply_of_flush (fun n h => (outsAt0 m c n h).2.2.2.1) 2 (fun _ => 0)
    (fun p j => k0_pay13 (F := Ideal) (iblk m c 1 p) (iblk m c 3 p) (iblk m c 0 p) (iblk m c 2 p) (iblk m c 4 p) (ix2 0 (j 2)))
    (fun t h j => by rw [outsAt0_A m c t h (by omega) (by omega)]; frame_out; rw [zero_add]; pointwise [k0_pay2])
    (fun t h j => by rw [outsAt0_B m c t h (by omega) (by omega)]; frame_out; pointwise [k0_pay4])
    t h _, zero_add]
  pointwise [k0_pay13, logit_grad_apply, val_main_v36, val_main_v28, val_main_v27, val_main_v26, val_main_cst_3, val_main_cst_4, val_main_v25, val_main_v24, val_main_v23, val_main_v18, val_main_v17, val_main_v16, val_main_v5, val_main_v4, val_main_cst_1, val_main_v22, val_main_v21, val_main_v15, val_main_v14, val_main_v13, val_main_v12, val_main_v11, val_main_v10, val_main_v9, val_main_v8, val_main_v7, val_main_v6, val_main_v3, val_main_v2, val_main_v1, val_main_v0, val_main_cst, val_main_cst_0]
  rw [Fin.sum_univ_one]
  refine Fin.sum_mul_add_congr fun s k hl => ?_
  blk_point [iblk, V, idx t, idx ⟨_, Pipeline.run_point_lt_of_flush t h s⟩]

end Cert.Merge

end
-- ==== Proof.MergeClaim.lean ====
/- The merge kernel against its reference: the four results agree, the logit gradient on the columns of the branches. -/
module

public import proofs.«01_k».proof.Defs
public import proofs.«01_k».proof.Proof.Gen.KernelIdeal.Value
public import proofs.«01_k».proof.Proof.Gen.On_logit_columns
public import proofs.«01_k».proof.Proof.MergeBranches
public import proofs.«01_k».proof.Proof.MergeLogits
public import proofs.«01_k».proof.Proof.MergeWeights
public import proofs.«01_k».proof.Proof.MergeBias
public import Idealize.ShloMosaic.Lib.WordCmp
public import Idealize.ShloMosaic.Lib.Claim

@[expose] public section

set_option maxRecDepth 16384

noncomputable section

namespace Cert.Merge

open Idealize.ShloMosaic Idealize.ShloMosaic.TcCoe Idealize.SL.Sem

/-- The reference's frame: it runs, keeps its arguments, and leaves every counter at zero. -/
theorem reference_frame : Cert.quiescent_ReferenceIdeal (hReferenceIdeal := Cert.ReferenceIdeal.Gen.facts) := fun m g _ =>
  (θ_run _ _ _).mono (fun r h => ⟨fun c => (h c).2.2.2.2, Idealize.ShloMosaic.sem_eq_zero_of_no_sems (by decide) r.2⟩)
    (Cert.ReferenceIdeal.Value.run (F := Ideal) m g)

/-- The mask of the logit gradient selects the columns below 4096. -/
theorem mask_column (a0 a1 a2 a3 a4) (i : Cert.On_logit_columns.S2048x11264.Idx)
    (h : (letI := Cert.On_logit_columns.Gen.facts; (Cert.On_logit_columns.fn (F := Ideal) a0 a1 a2 a3 a4).2.1 i) = 1#1) : (i 1 : ℕ) < 4096 := by
  have hi : (i 1 : ℕ) < 11264 := (i 1).isLt
  have h' : IntOp.cmpi .slt (BitVec.ofNat 32 (i 1 : ℕ)) 4096#32 = 1#1 := h
  exact (WordCmp.cmpi_slt_ofNat_eq_one_iff (by omega) (by omega)).mp h'

/-- The value claim. -/
theorem algebraic : Cert.algebraic_KernelIdeal_ReferenceIdeal_on_logit_columns (hKernelIdeal := Cert.KernelIdeal.Gen.facts)
    (hReferenceIdeal := Cert.ReferenceIdeal.Gen.facts) (hOn_logit_columns := Cert.On_logit_columns.Gen.facts) := by
  intro m g m' g' _ hagree
  refine ⟨fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    (θ_run _ _ _).mono (fun r h c => ?_) (Cert.KernelIdeal.Value.run_blocks m g),
    (θ_run _ _ _).mono (fun r h c => ?_) (Cert.ReferenceIdeal.Value.run m' g')⟩
  · obtain ⟨h0, h1, h2, h3, ha⟩ := h c
    exact ⟨fun i _ => congrFun (h0.trans (final5 m c)) i,
      fun i hi => (congrFun (h1.trans (final6 m c)) i).trans (if_pos (mask_column _ _ _ _ _ i hi)),
      fun i _ => congrFun (h2.trans (final7 m c)) i, fun i _ => congrFun (h3.trans (final8 m c)) i, ha⟩
  · obtain ⟨h0, h1, h2, h3, ha⟩ := h c
    obtain ⟨e0, e1, e2, e3, e4⟩ := hagree c
    rw [e0, e2, e3, e4] at h0
    rw [e0, e1, e2, e3, e4] at h1
    rw [e0, e1, e2, e3] at h2
    rw [e0, e1, e2, e3, e4] at h3
    exact ⟨fun i _ => congrFun (h0.trans (Cert.ReferenceIdeal.Read.val_main_v30_eq _ _ _ _)) i,
      fun i _ => congrFun (h1.trans (Cert.ReferenceIdeal.Read.val_main_v34_eq _ _ _ _ _)) i,
      fun i _ => congrFun (h2.trans (Cert.ReferenceIdeal.Read.val_main_v35_eq _ _ _ _)) i,
      fun i _ => congrFun (h3.trans (Cert.ReferenceIdeal.Read.val_main_v36_eq _ _ _ _ _)) i, ha⟩

end Cert.Merge

end
-- ==== Proof.GradWeightArray.lean ====
/- The result array of the gradient of the input projection's weights, as the reference computes it over the kernel's argument arrays. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradWeight

open Cert.Kernel2Ideal Cert.Kernel2Ideal.Gen Cert.Reference2Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the column tiles. -/
theorem idx : ∀ t : Fin cfg0.N, win0_0.index t = ![0, 0] ∧ win0_1.index t = ![0, t.val] ∧ win0_2.index t = ![0, t.val] :=
  (by decide +kernel : ∀ t : Fin grid0.N, _)

/-- One column tile: the contraction over the rows, with the factors in the reference's order. -/
theorem tile_apply (a b : FVec Ideal S2048x1024 .bf16) (j : S1024x1024.Idx) :
    k0_pay1 (F := Ideal) a b j = ∑ k : Fin 2048, b (ix2 k (j 1)) * a (ix2 k (j 0)) := by
  pointwise [k0_pay1]
  simp only [mul_comm (a _)]

set_option maxHeartbeats 1600000 in
/-- Each column tile is the whole contraction for its columns. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e : outsAt0 m c t = k0_pay1 (F := Ideal) (iblk m c 0 t) (iblk m c 1 t) := by
    unfold outsAt0; frame_out
  rw [e]
  pointwise [tile_apply, val_main_v6, val_main_v5, val_main_v4, val_main_v3, val_main_v1]
  blk_point [iblk, V, idx t]

end Cert.GradWeight

end
-- ==== Proof.GradWeightClaim.lean ====
/- The gradient of the input projection's weights: kernel and reference agree. -/
module

public import proofs.«01_k».proof.Defs
public import proofs.«01_k».proof.Proof.Gen.Kernel2Ideal.Value
public import proofs.«01_k».proof.Proof.Gen.Reference2Ideal.Run
public import proofs.«01_k».proof.Proof.GradWeightArray
public import Idealize.ShloMosaic.Lib.Claim

@[expose] public section

set_option maxRecDepth 16384

noncomputable section

namespace Cert.GradWeight

open Idealize.ShloMosaic Idealize.ShloMosaic.TcCoe Idealize.SL.Sem

/-- The reference's frame: it runs, keeps its arguments, and leaves every counter at zero. -/
theorem reference_frame : Cert.quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩)
    (Cert.Reference2Ideal.Value.run (F := Ideal) m g)

/-- The value claim. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Reference2Ideal.Read.val_main_v6 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ?_) (Cert.Kernel2Ideal.Value.run_blocks m g),
    (θ_run _ _ _).mono (fun r h c => ?_) (Cert.Reference2Ideal.Value.run m' g')⟩
  · obtain ⟨h0, ha⟩ := h c
    exact ⟨h0.trans (final2 m c), ha⟩
  · obtain ⟨h0, ha⟩ := h c
    obtain ⟨e0, e1⟩ := hagree c
    rw [e0, e1] at h0
    exact ⟨h0.trans (Cert.Reference2Ideal.Read.val_main_v6_eq _ _), ha⟩

end Cert.GradWeight

end
-- ==== Proof.GradInputRows.lean ====
/- The gradient of the normalised input: the scratch tile after the last column block is the whole contraction over the columns. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradInput

open Cert.Kernel3Ideal Cert.Kernel3Ideal.Gen Cert.Reference3Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the row tile is `t / 4`, the column block of the contraction `t % 4`. -/
theorem idx : ∀ t : Fin cfg0.N, win0_0.index t = ![t.val / 4, t.val % 4] ∧ win0_1.index t = ![0, t.val % 4]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- The scratch tile after a point that starts no row tile is the tile before it and one block's product. -/
theorem scratch_step (c : Dev nD) (t : Fin cfg0.N) (h : ¬t.val % 4 = 0) (j : S512x1024.Idx) :
    (outsAt0 m c t.val t.isLt).2.2 j = (outsAt0 m c (t.val - 1) (Nat.lt_of_le_of_lt (Nat.sub_le _ _) t.isLt)).2.2 j
      + k0_pay1 (F := Ideal) (iblk m c 0 t) (iblk m c 1 t) j := by
  by_cases h2 : t.val % 4 = 3
  · by_cases h3 : t.val < 4
    · rw [outsAt0_C m c t h (by omega) h2 h3 (by omega)]; frame_out; rw [read_unread_whole]; pointwise [k0_pay3]
    · rw [outsAt0_D m c t h (by omega) h2 h3 (by omega)]; frame_out; rw [read_unread_whole]; pointwise [k0_pay3]
  · rw [outsAt0_B m c t h (by omega) h2]; frame_out; rw [read_unread_whole]; pointwise [k0_pay3]

set_option maxHeartbeats 1600000 in
/-- The scratch tile when the last column block is done. -/
theorem scratch_apply (c : Dev nD) (t : Fin cfg0.N) (h : t.val % 4 = 3) (j : S512x1024.Idx) (i : S2048x1024.Idx)
    (h0 : (i 0 : ℕ) = t.val / 4 * 512 + (j 0 : ℕ)) (h1 : (i 1 : ℕ) = j 1) :
    (outsAt0 m c t.val t.isLt).2.2 j = val_main_v20 (F := Ideal) (m ((c : Thread nD τ).loc main_arg0)) (m ((c : Thread nD τ).loc main_arg1)) i := by
  rw [Pipeline.eq_sum_fin_of_reset_step_apply_of_flush (fun n h => (outsAt0 m c n h).2.2) 4 (fun _ => 0)
    (fun p j => k0_pay1 (F := Ideal) (iblk m c 0 p) (iblk m c 1 p) j)
    (fun t h j => by rw [outsAt0_A m c t h (by omega) (by omega)]; frame_out; rw [zero_add]; pointwise [k0_pay2])
    (fun t h j => scratch_step m c t h j) t h j, zero_add]
  pointwise [k0_pay1, val_main_v20, val_main_v19, val_main_v17]
  refine Fin.sum_mul_add_congr fun s k hl => ?_
  blk_point [iblk, V, idx t, idx ⟨_, Pipeline.run_point_lt_of_flush t h s⟩]

end Cert.GradInput

end
-- ==== Proof.GradInputTokens.lean ====
/- The gradient of the tokens through the projection and the norm, and the residual. -/
module

public import proofs.«01_k».proof.Proof.Gen.Kernel3Ideal.Frame
public import proofs.«01_k».proof.Proof.Gen.Reference3Ideal.Read
public import proofs.«01_k».proof.Proof.GradInputRows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradInput

open Cert.Kernel3Ideal Cert.Kernel3Ideal.Gen Cert.Reference3Ideal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 3200000 in
/-- The gradient of the tokens, tile by tile of rows. -/
theorem final5 (c : Dev nD) : (dats m 0 c).arrAt 5 cfg0.N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h : t.val % 4 = 3 := (flush0_5 t).mp hf
  have e : (outsAt0 m c t.val t.isLt).1 = k0_pay8 (F := Ideal) (iblk m c 2 t) (iblk m c 3 t) (outsAt0 m c t.val t.isLt).2.2 (iblk m c 4 t) := by
    by_cases h3 : t.val < 4
    · rw [outsAt0_C m c t (by omega) (by omega) h h3 (by omega)]; frame_out
    · rw [outsAt0_D m c t (by omega) (by omega) h h3 (by omega)]; frame_out
  rw [e]
  generalize hs : (outsAt0 m c t.val t.isLt).2.2 = dh
  have hd (j : S512x1024.Idx) (i : S2048x1024.Idx) (h0 : (i 0 : ℕ) = t.val / 4 * 512 + (j 0 : ℕ)) (h1 : (i 1 : ℕ) = j 1) :
      dh j = val_main_v20 (F := Ideal) (m ((c : Thread nD τ).loc main_arg0)) (m ((c : Thread nD τ).loc main_arg1)) i := by rw [← hs]; exact scratch_apply m c t h j i h0 h1
  pointwise [k0_pay8, k0_pay6, k0_pay5, val_main_v41, val_main_v40, val_main_v39, val_main_v38, val_main_v37, val_main_v36, val_main_v35, val_main_cst_7, val_main_v34, val_main_v33, val_main_cst_6, val_main_v32, val_main_v31, val_main_v30, val_main_v29, val_main_v28, val_main_cst_5, val_main_v27, val_main_v25, val_main_v24, val_main_v14, val_main_v11, val_main_v10, val_main_cst_2, val_main_v9, val_main_v8, val_main_v7, val_main_v6, val_main_cst_1, val_main_v5, val_main_v4, val_main_cst_0, val_main_v3, val_main_v2, val_main_cst, val_main_v1, val_main_v0]

  blk_point [iblk, V, idx t]
  all_goals refine hd _ _ ?_ ?_ <;> blk_simp [idx t]

end Cert.GradInput

end
-- ==== Proof.GradInputScale.lean ====
/- The gradient of the norm weight, gathered over the row tiles. -/
module

public import proofs.«01_k».proof.Proof.Gen.Kernel3Ideal.Frame
public import proofs.«01_k».proof.Proof.Gen.Reference3Ideal.Read
public import proofs.«01_k».proof.Proof.GradInputRows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradInput

open Cert.Kernel3Ideal Cert.Kernel3Ideal.Gen Cert.Reference3Ideal.Read
open Idealize.ShloMosaic Idealize.ShloMosaic.TcCoe Idealize.SL.Sem
open Idealize.ShloMosaic.Pipeline (Dat)

variable (m : (ℓ : Loc nD τ sig) → Buf (Elt Ideal) ℓ)

/-- One row tile's term of the norm weight's gradient; a point inside a row tile adds nothing. -/
def tileTerm (c : Dev nD) (t : Fin cfg0.N) (j : S1x1024.Idx) : EReal :=
  if t.val % 4 = 3 then k0_pay7 (F := Ideal) (iblk m c 2 t) (outsAt0 m c t.val t.isLt).2.2 j else 0

/-- The norm weight's gradient after each point, nothing before the first row tile is done. -/
def gathered (c : Dev nD) (n : ℕ) (h : n < cfg0.N) (j : S1x1024.Idx) : EReal :=
  if n < 3 then 0 else (outsAt0 m c n h).2.1 j

theorem gathered_first (c : Dev nD) (t : Fin cfg0.N) (h : t.val % 16 = 0) (j : S1x1024.Idx) :
    gathered m c t.val t.isLt j = 0 + tileTerm m c t j := by
  have : t.val < 16 := t.isLt
  rw [gathered, tileTerm, if_pos (by omega), if_neg (by omega), zero_add]

theorem gathered_next (c : Dev nD) (t : Fin cfg0.N) (h : ¬t.val % 16 = 0) (j : S1x1024.Idx) :
    gathered m c t.val t.isLt j = gathered m c (t.val - 1) (Nat.lt_of_le_of_lt (Nat.sub_le _ _) t.isLt) j + tileTerm m c t j := by
  have : t.val < 16 := t.isLt
  by_cases h3 : t.val < 3
  · rw [gathered, gathered, tileTerm, if_pos h3, if_pos (by omega), if_neg (by omega), zero_add]
  rw [gathered, if_neg h3]
  by_cases h2 : t.val % 4 = 3
  · rw [tileTerm, if_pos h2]
    by_cases h4 : t.val < 4
    · rw [gathered, if_pos (by omega), zero_add, outsAt0_C m c t (by omega) (by omega) h2 h4 (by omega)]
      frame_out
    · rw [gathered, if_neg (by omega), outsAt0_D m c t (by omega) (by omega) h2 h4 (by omega)]
      frame_out
      pointwise [k0_pay4]
  · rw [tileTerm, if_neg h2, add_zero, gathered, if_neg (by omega)]
    by_cases h0 : t.val % 4 = 0
    · rw [outsAt0_A m c t h0 (by omega) h2]; rfl
    · rw [outsAt0_B m c t h0 (by omega) h2]; rfl

/-- Of sixteen terms that count only at the end of each group of four, the four that count. -/
theorem sum_ends (g : ℕ → EReal) : ∑ s : Fin 16, (if s.val % 4 = 3 then g (s.val / 4) else 0) = ∑ r : Fin 4, g r.val := by
  simp [Fin.sum_univ_succ]

/-- One row's term of the gradient of the norm weight: the normalised token times its gradient. -/
def rowTerm (x g : FVec Ideal S2048x1024 .f32) (r : ℕ) (l : Fin 1024) : EReal :=
  if hr : r < 2048 then
    x (ix2 ⟨r, hr⟩ l) * Ideal.rsqrt (Ideal.div (∑ k : Fin 1024, x (ix2 ⟨r, hr⟩ k) * x (ix2 ⟨r, hr⟩ k))
        (Ideal.ofBits FTy.f32 1149239296#32) + Ideal.ofBits FTy.f32 897988541#32) * g (ix2 ⟨r, hr⟩ l)
  else 0

theorem rowTerm_of (x g : FVec Ideal S2048x1024 .f32) (r : ℕ) (l : Fin 1024) (hr : r < 2048) : rowTerm x g r l =
    x (ix2 ⟨r, hr⟩ l) * Ideal.rsqrt (Ideal.div (∑ k : Fin 1024, x (ix2 ⟨r, hr⟩ k) * x (ix2 ⟨r, hr⟩ k))
        (Ideal.ofBits FTy.f32 1149239296#32) + Ideal.ofBits FTy.f32 897988541#32) * g (ix2 ⟨r, hr⟩ l) := dif_pos hr

set_option maxHeartbeats 1600000 in
/-- The term of one row tile is the sum of its rows' terms. -/
theorem tile_apply (c : Dev nD) (p : Fin cfg0.N) (y : S1x1024.Idx) (r : ℕ) (hr : p.val / 4 = r) (h : p.val % 4 = 3) :
    k0_pay7 (F := Ideal) (iblk m c 2 p) (outsAt0 m c p.val p.isLt).2.2 y = ∑ k : Fin 512, rowTerm (m (c.tc.loc main_arg2)) (val_main_v20 (F := Ideal) (m ((c : Thread nD τ).loc main_arg0)) (m ((c : Thread nD τ).loc main_arg1))) (r * 512 + k.val) (y 1) := by
  have hp : p.val < 16 := p.isLt
  generalize hs : (outsAt0 m c p.val p.isLt).2.2 = dh
  have hd (j : S512x1024.Idx) (i : S2048x1024.Idx) (h0 : (i 0 : ℕ) = p.val / 4 * 512 + (j 0 : ℕ)) (h1 : (i 1 : ℕ) = j 1) :
      dh j = val_main_v20 (F := Ideal) (m ((c : Thread nD τ).loc main_arg0)) (m ((c : Thread nD τ).loc main_arg1)) i := by rw [← hs]; exact scratch_apply m c p h j i h0 h1
  pointwise [k0_pay7, k0_pay6, k0_pay5]
  refine Finset.sum_congr rfl fun k _ => ?_
  refine Eq.trans ?_ (rowTerm_of _ _ (r * 512 + k.val) (y 1) (by omega)).symm
  blk_point [iblk, V, idx p]
  refine hd _ _ ?_ ?_ <;> blk_simp [idx p]
  show r * 512 + k.val = p.val / 4 * 512 + k.val
  omega

/-- The norm weight's gradient after the last point is the sum over all rows. -/
theorem gathered_last (c : Dev nD) (t : Fin cfg0.N) (h : t.val % 16 = 15) (y : S1x1024.Idx) :
    gathered m c t.val t.isLt y = ∑ x : Fin 2048, rowTerm (m (c.tc.loc main_arg2)) (val_main_v20 (F := Ideal) (m ((c : Thread nD τ).loc main_arg0)) (m ((c : Thread nD τ).loc main_arg1))) x.val (y 1) := by
  have h16 : t.val / 16 = 0 := by have : t.val < 16 := t.isLt; omega
  rw [Pipeline.eq_sum_fin_of_reset_step_apply_of_flush (gathered m c) 16 (fun _ => 0) (tileTerm m c)
    (gathered_first m c) (gathered_next m c) t h y, zero_add]
  refine Eq.trans (Finset.sum_congr rfl fun s _ => ?_)
    ((sum_ends fun r => ∑ k : Fin 512, rowTerm (m (c.tc.loc main_arg2)) (val_main_v20 (F := Ideal) (m ((c : Thread nD τ).loc main_arg0)) (m ((c : Thread nD τ).loc main_arg1))) (r * 512 + k.val) (y 1)).trans
      (Fin.sum_mul_add_congr (L := 2048) (f := fun x => rowTerm (m (c.tc.loc main_arg2)) (val_main_v20 (F := Ideal) (m ((c : Thread nD τ).loc main_arg0)) (m ((c : Thread nD τ).loc main_arg1))) x.val (y 1)) fun r k hl => rfl))
  by_cases h3 : s.val % 4 = 3
  · rw [if_pos h3, tileTerm, if_pos (by show (16 * (t.val / 16) + s.val) % 4 = 3; omega)]
    exact tile_apply m c _ y _ (by show (16 * (t.val / 16) + s.val) / 4 = s.val / 4; omega) (by show (16 * (t.val / 16) + s.val) % 4 = 3; omega)
  · rw [if_neg h3, tileTerm, if_neg (by show ¬(16 * (t.val / 16) + s.val) % 4 = 3; omega)]

set_option maxHeartbeats 800000 in
/-- The gradient of the norm weight. -/
theorem final6 (c : Dev nD) : (dats m 0 c).arrAt 6 cfg0.N
    = val_main_v42 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have h : t.val % 16 = 15 := (flush0_6 t).mp hf
  have e : (outsAt0 m c t.val t.isLt).2.1 y = gathered m c t.val t.isLt y := by rw [gathered, if_neg (by omega)]
  rw [e]
  refine (gathered_last m c t h y).trans ?_
  pointwise [val_main_v42, val_main_v26, val_main_cst_4, val_main_v23, val_main_v22, val_main_cst_3, val_main_v21, val_main_v13, val_main_v12, val_main_v8, val_main_v7, val_main_v6, val_main_cst_1, val_main_v5, val_main_v4, val_main_cst_0, val_main_v3, val_main_v2, val_main_cst, val_main_v1]
  rw [Fin.sum_univ_one]
  refine Finset.sum_congr rfl fun x _ => (rowTerm_of _ _ x.val (y 1) x.isLt).trans ?_
  blk_point [iblk, V, idx t]

end Cert.GradInput

end
-- ==== Proof.GradInputClaim.lean ====
/- The gradient of the projection and the norm before it: both results are the gradients of the plain projection of the normalised tokens. -/
module

public import proofs.«01_k».proof.Defs
public import proofs.«01_k».proof.Proof.Gen.Kernel3Ideal.Value
public import proofs.«01_k».proof.Proof.Gen.Reference3Ideal.Run
public import proofs.«01_k».proof.Proof.GradInputTokens
public import proofs.«01_k».proof.Proof.GradInputScale
public import Idealize.ShloMosaic.Lib.Claim

@[expose] public section

set_option maxRecDepth 16384

noncomputable section

namespace Cert.GradInput

open Idealize.ShloMosaic Idealize.ShloMosaic.TcCoe Idealize.SL.Sem

/-- The reference's frame: it runs, keeps its arguments, and leaves every counter at zero. -/
theorem reference_frame : Cert.quiescent_Reference3Ideal (hReference3Ideal := Cert.Reference3Ideal.Gen.facts) := fun m g _ =>
  (θ_run _ _ _).mono (fun r h => ⟨fun c => (h c).2.2, Idealize.ShloMosaic.sem_eq_zero_of_no_sems (by decide) r.2⟩)
    (Cert.Reference3Ideal.Value.run (F := Ideal) m g)

/-- The value claim. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Reference3Ideal.Read.val_main_v41 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Reference3Ideal.Read.val_main_v42 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run _ _ _).mono (fun r h c => ?_) (Cert.Kernel3Ideal.Value.run_blocks m g),
    (θ_run _ _ _).mono (fun r h c => ?_) (Cert.Reference3Ideal.Value.run m' g')⟩
  · obtain ⟨h0, h1, ha⟩ := h c
    exact ⟨h0.trans (final5 m c), h1.trans (final6 m c), ha⟩
  · obtain ⟨h0, h1, ha⟩ := h c
    obtain ⟨e0, e1, e2, e3, e4⟩ := hagree c
    replace h0 := h0.trans (Cert.Reference3Ideal.Read.val_main_v41_eq m' c)
    rw [e0, e1, e2, e3, e4] at h0
    rw [e0, e1, e2] at h1
    exact ⟨h0, h1.trans (Cert.Reference3Ideal.Read.val_main_v42_eq _ _ _), ha⟩

end Cert.GradInput

end
-- ==== Proof.ProjectArray.lean ====
/- The result array of the input projection, as the reference computes it over the kernel's argument arrays. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Project

open Cert.Kernel4Ideal Cert.Kernel4Ideal.Gen Cert.Reference4Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the column tiles. -/
theorem idx : ∀ t : Fin cfg0.N, win0_0.index t = ![0, 0] ∧ win0_1.index t = ![0, t.val] ∧ win0_2.index t = ![0, t.val] :=
  (by decide +kernel : ∀ t : Fin grid0.N, _)

set_option maxHeartbeats 1600000 in
/-- Each column tile is the whole contraction for its columns. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have e : outsAt0 m c t = k0_pay1 (F := Ideal) (iblk m c 0 t) (iblk m c 1 t) := by
    unfold outsAt0; frame_out
  rw [e]
  pointwise [k0_pay1, val_main_v2, val_main_v1, val_main_v0]
  blk_point [iblk, V, idx t]

end Cert.Project

end
-- ==== Proof.ProjectClaim.lean ====
/- The input projection: kernel and reference agree. -/
module

public import proofs.«01_k».proof.Defs
public import proofs.«01_k».proof.Proof.Gen.Kernel4Ideal.Value
public import proofs.«01_k».proof.Proof.Gen.Reference4Ideal.Run
public import proofs.«01_k».proof.Proof.ProjectArray
public import Idealize.ShloMosaic.Lib.Claim

@[expose] public section

set_option maxRecDepth 16384

noncomputable section

namespace Cert.Project

open Idealize.ShloMosaic Idealize.ShloMosaic.TcCoe Idealize.SL.Sem

/-- The reference's frame: it runs, keeps its arguments, and leaves every counter at zero. -/
theorem reference_frame : Cert.quiescent_Reference4Ideal (hReference4Ideal := Cert.Reference4Ideal.Gen.facts) := fun m g _ =>
  (θ_run _ _ _).mono (fun r h => ⟨fun c => (h c).2, Idealize.ShloMosaic.sem_eq_zero_of_no_sems (by decide) r.2⟩)
    (Cert.Reference4Ideal.Value.run (F := Ideal) m g)

/-- The value claim. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Reference4Ideal.Read.val_main_v2 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run _ _ _).mono (fun r h c => ?_) (Cert.Kernel4Ideal.Value.run_blocks m g),
    (θ_run _ _ _).mono (fun r h c => ?_) (Cert.Reference4Ideal.Value.run m' g')⟩
  · obtain ⟨h0, ha⟩ := h c
    exact ⟨h0.trans (final2 m c), ha⟩
  · obtain ⟨h0, ha⟩ := h c
    obtain ⟨e0, e1⟩ := hagree c
    rw [e0, e1] at h0
    exact ⟨h0.trans (Cert.Reference4Ideal.Read.val_main_v2_eq _ _), ha⟩

end Cert.Project

end
-- ==== Proof.GradHiddenArray.lean ====
/- The gradient of the normalised tokens through the input projection: the contraction over the projected columns, block after block. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradHidden

open Cert.Kernel5Ideal Cert.Kernel5Ideal.Gen Cert.Reference5Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the row tile is `t / 4`, the column block of the contraction `t % 4`. -/
theorem idx : ∀ t : Fin cfg0.N, win0_0.index t = ![t.val / 4, t.val % 4] ∧ win0_1.index t = ![0, t.val % 4]
    ∧ win0_2.index t = ![t.val / 4, 0] :=
  (by decide +kernel : ∀ t : Fin grid0.N, _)

/-- The scratch tile after a point that starts no row tile is the tile before it and one block's product. -/
theorem scratch_step (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + k0_pay1 (F := Ideal) (iblk m c 0 t) (iblk m c 1 t) j := by
  by_cases h2 : t.val % 4 = 3
  · rw [outsAt0_C m c t h (by omega) h2]; frame_out; rw [read_unread_whole]; pointwise [k0_pay3]
  · rw [outsAt0_B m c t h (by omega) h2]; frame_out; rw [read_unread_whole]; pointwise [k0_pay3]

set_option maxHeartbeats 1600000 in
/-- The scratch tile when the last column block is done. -/
theorem scratch_apply (c : Dev nD) (t : Fin cfg0.N) (h : t.val % 4 = 3) (j : S1024x1024.Idx) (i : S2048x1024.Idx)
    (h0 : (i 0 : ℕ) = t.val / 4 * 1024 + (j 0 : ℕ)) (h1 : (i 1 : ℕ) = j 1) :
    (outsAt0 m c t.val t.isLt).2 j = val_main_v4 (F := Ideal) (m ((c : Thread nD τ).loc main_arg0)) (m ((c : Thread nD τ).loc main_arg1)) i := by
  rw [Pipeline.eq_sum_fin_of_reset_step_apply_of_flush (fun n h => (outsAt0 m c n h).2) 4 (fun _ => 0)
    (fun p j => k0_pay1 (F := Ideal) (iblk m c 0 p) (iblk m c 1 p) j)
    (fun t h j => by rw [outsAt0_A m c t h (by omega) (by omega)]; frame_out; rw [zero_add]; pointwise [k0_pay2])
    (fun t h j => scratch_step m c t h j) t h j, zero_add]
  pointwise [k0_pay1, val_main_v4, val_main_v3, val_main_v1]
  refine Fin.sum_mul_add_congr fun s k hl => ?_
  blk_point [iblk, V, idx t, idx ⟨_, Pipeline.run_point_lt_of_flush t h s⟩]

set_option maxHeartbeats 1600000 in
/-- The whole gradient, row tile by row tile. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have h : t.val % 4 = 3 := (flush0_2 t).mp hf
  have e : (outsAt0 m c t.val t.isLt).1 = (outsAt0 m c t.val t.isLt).2 := by
    rw [outsAt0_C m c t (by omega) (by omega) h]; frame_out
  rw [e]
  exact scratch_apply m c t h y _ (by blk_simp [idx t]) (by blk_simp [idx t])

end Cert.GradHidden

end
-- ==== Proof.GradHiddenClaim.lean ====
/- The gradient of the normalised tokens through the input projection: kernel and reference agree. -/
module

public import proofs.«01_k».proof.Defs
public import proofs.«01_k».proof.Proof.Gen.Kernel5Ideal.Value
public import proofs.«01_k».proof.Proof.Gen.Reference5Ideal.Run
public import proofs.«01_k».proof.Proof.GradHiddenArray
public import Idealize.ShloMosaic.Lib.Claim

@[expose] public section

set_option maxRecDepth 16384

noncomputable section

namespace Cert.GradHidden

open Idealize.ShloMosaic Idealize.ShloMosaic.TcCoe Idealize.SL.Sem

/-- The reference's frame: it runs, keeps its arguments, and leaves every counter at zero. -/
theorem reference_frame : Cert.quiescent_Reference5Ideal (hReference5Ideal := Cert.Reference5Ideal.Gen.facts) := fun m g _ =>
  (θ_run _ _ _).mono (fun r h => ⟨fun c => (h c).2, Idealize.ShloMosaic.sem_eq_zero_of_no_sems (by decide) r.2⟩)
    (Cert.Reference5Ideal.Value.run (F := Ideal) m g)

/-- The value claim. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Reference5Ideal.Read.val_main_v4 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run _ _ _).mono (fun r h c => ?_) (Cert.Kernel5Ideal.Value.run_blocks m g),
    (θ_run _ _ _).mono (fun r h c => ?_) (Cert.Reference5Ideal.Value.run m' g')⟩
  · obtain ⟨h0, ha⟩ := h c
    exact ⟨h0.trans (final2 m c), ha⟩
  · obtain ⟨h0, ha⟩ := h c
    obtain ⟨e0, e1⟩ := hagree c
    rw [e0, e1] at h0
    exact ⟨h0.trans (Cert.Reference5Ideal.Read.val_main_v4_eq _ _), ha⟩

end Cert.GradHidden

end
-- ==== Proof.GradNormArray.lean ====
/- The gradient of the norm: the tokens row tile by row tile, the norm weight gathered over the row tiles. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradNorm

open Cert.Kernel6Ideal Cert.Kernel6Ideal.Gen Cert.Reference6Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the row tiles. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

set_option maxHeartbeats 1600000 in
/-- The gradient of the tokens and the residual. -/
theorem final4 (c : Dev nD) : (dats m 0 c).arrAt 4 cfg0.N
    = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : (outsAt0 m c t.val t.isLt).1 = k0_pay5 (F := Ideal) (iblk m c 0 t) (iblk m c 1 t) (iblk m c 2 t) (iblk m c 3 t) := by
    have : t.val < 4 := t.isLt
    by_cases h0 : t.val % 4 = 0
    · rw [outsAt0_A m c t h0 (by omega)]; frame_out
    · rw [outsAt0_B m c t h0 (by omega)]; frame_out
  rw [e]
  pointwise [k0_pay5, k0_pay3, k0_pay2, val_main_v37, val_main_v36, val_main_v35, val_main_v34, val_main_v33, val_main_v32, val_main_v31, val_main_cst_7, val_main_v30, val_main_v29, val_main_cst_6, val_main_v28, val_main_v27, val_main_v26, val_main_v25, val_main_v24, val_main_cst_5, val_main_v23, val_main_v21, val_main_v20, val_main_v14, val_main_v11, val_main_v10, val_main_cst_2, val_main_v9, val_main_v8, val_main_v7, val_main_v6, val_main_cst_1, val_main_v5, val_main_v4, val_main_cst_0, val_main_v3, val_main_v2, val_main_cst, val_main_v1, val_main_v0]
  blk_point [iblk, V, idx t]

set_option maxHeartbeats 1600000 in
/-- The gradient of the norm weight: the sum over all rows. -/
theorem final5 (c : Dev nD) : (dats m 0 c).arrAt 5 cfg0.N
    = val_main_v38 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  have h : t.val % 4 = 3 := (flush0_5 t).mp hf
  have h4 : t.val / 4 = 0 := by have : t.val < 4 := t.isLt; omega
  rw [Pipeline.eq_sum_fin_of_reset_step_apply_of_flush (fun n h => (outsAt0 m c n h).2) 4 (fun _ => 0)
    (fun p j => k0_pay4 (F := Ideal) (iblk m c 0 p) (iblk m c 2 p) j)
    (fun t h j => by
      have : t.val < 4 := t.isLt
      rw [outsAt0_A m c t h (by omega)]; frame_out; rw [zero_add])
    (fun t h j => by
      rw [outsAt0_B m c t h (by omega)]; frame_out; pointwise [k0_pay1]) t h y, zero_add]
  pointwise [k0_pay4, k0_pay3, k0_pay2, val_main_v38, val_main_v22, val_main_cst_4, val_main_v19, val_main_v18, val_main_cst_3, val_main_v17, val_main_v13, val_main_v12, val_main_v8, val_main_v7, val_main_v6, val_main_cst_1, val_main_v5, val_main_v4, val_main_cst_0, val_main_v3, val_main_v2, val_main_cst, val_main_v1]
  rw [Fin.sum_univ_one]
  refine Fin.sum_mul_add_congr fun s k hl => ?_
  blk_point [iblk, V, idx t, idx ⟨_, Pipeline.run_point_lt_of_flush t h s⟩]

end Cert.GradNorm

end
-- ==== Proof.GradNormClaim.lean ====
/- The gradient of the norm: kernel and reference agree on both results. -/
module

public import proofs.«01_k».proof.Defs
public import proofs.«01_k».proof.Proof.Gen.Kernel6Ideal.Value
public import proofs.«01_k».proof.Proof.Gen.Reference6Ideal.Run
public import proofs.«01_k».proof.Proof.GradNormArray
public import Idealize.ShloMosaic.Lib.Claim

@[expose] public section

set_option maxRecDepth 16384

noncomputable section

namespace Cert.GradNorm

open Idealize.ShloMosaic Idealize.ShloMosaic.TcCoe Idealize.SL.Sem

/-- The reference's frame: it runs, keeps its arguments, and leaves every counter at zero. -/
theorem reference_frame : Cert.quiescent_Reference6Ideal (hReference6Ideal := Cert.Reference6Ideal.Gen.facts) := fun m g _ =>
  (θ_run _ _ _).mono (fun r h => ⟨fun c => (h c).2.2, Idealize.ShloMosaic.sem_eq_zero_of_no_sems (by decide) r.2⟩)
    (Cert.Reference6Ideal.Value.run (F := Ideal) m g)

/-- The value claim. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Reference6Ideal.Read.val_main_v37 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    fun c => Cert.Reference6Ideal.Read.val_main_v38 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)),
    (θ_run _ _ _).mono (fun r h c => ?_) (Cert.Kernel6Ideal.Value.run_blocks m g),
    (θ_run _ _ _).mono (fun r h c => ?_) (Cert.Reference6Ideal.Value.run m' g')⟩
  · obtain ⟨h0, h1, ha⟩ := h c
    exact ⟨h0.trans (final4 m c), h1.trans (final5 m c), ha⟩
  · obtain ⟨h0, h1, ha⟩ := h c
    obtain ⟨e0, e1, e2, e3⟩ := hagree c
    replace h0 := h0.trans (Cert.Reference6Ideal.Read.val_main_v37_eq m' c)
    rw [e0, e1, e2, e3] at h0
    rw [e0, e2] at h1
    exact ⟨h0, h1.trans (Cert.Reference6Ideal.Read.val_main_v38_eq _ _), ha⟩

end Cert.GradNorm

end
-- ==== Proof.GradOutArray.lean ====
/- The gradient of the output projection: the merged tokens row tile by row tile, the weights gathered over the row tiles. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GradOut

open Cert.Kernel7Ideal Cert.Kernel7Ideal.Gen Cert.Reference7Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the row tiles. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- One row tile's product for the weights, with the factors in the reference's order. -/
theorem tile_apply (d : FVec Ideal S512x1024 .f32) (y : FVec Ideal S512x1024 .bf16) (j : S1024x1024.Idx) :
    k0_pay3 (F := Ideal) d y j = ∑ k : Fin 512, d (ix2 k (j 1)) * y (ix2 k (j 0)) := by
  pointwise [k0_pay3, k0_pay1]
  simp only [mul_comm (y _)]

set_option maxHeartbeats 1600000 in
/-- The gradient of the merged tokens. -/
theorem final3 (c : Dev nD) : (dats m 0 c).arrAt 3 cfg0.N
    = val_main_v7 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  have e : (outsAt0 m c t.val t.isLt).1 = k0_pay2 (F := Ideal) (iblk m c 0 t) (iblk m c 1 t) := by
    have : t.val < 4 := t.isLt
    by_cases h0 : t.val % 4 = 0
    · rw [outsAt0_A m c t h0 (by omega) (by omega)]; frame_out
    · by_cases h2 : t.val % 4 = 3
      · rw [outsAt0_C m c t h0 (by omega) h2]; frame_out
      · rw [outsAt0_B m c t h0 (by omega) h2]; frame_out
  rw [e]
  pointwise [k0_pay2, k0_pay1, val_main_v7, val_main_v4, val_main_v3, val_main_v1]
  blk_point [iblk, V, idx t]

/-- The scratch tile after a point other than the first is the tile before it and one row tile's product. -/
theorem scratch_step (c : Dev nD) (t : Fin cfg0.N) (h : ¬t.val % 4 = 0) (j : S1024x1024.Idx) :
    (outsAt0 m c t.val t.isLt).2.2 j = (outsAt0 m c (t.val - 1) (Nat.lt_of_le_of_lt (Nat.sub_le _ _) t.isLt)).2.2 j
      + k0_pay3 (F := Ideal) (iblk m c 0 t) (iblk m c 2 t) j := by
  by_cases h2 : t.val % 4 = 3
  · rw [outsAt0_C m c t h (by omega) h2]; frame_out; rw [read_unread_whole]; pointwise [k0_pay5]
  · rw [outsAt0_B m c t h (by omega) h2]; frame_out; rw [read_unread_whole]; pointwise [k0_pay5]

set_option maxHeartbeats 1600000 in
/-- The gradient of the output projection's weights: the sum over all rows. -/
theorem final4 (c : Dev nD) : (dats m 0 c).arrAt 4 cfg0.N
    = val_main_v8 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  have h : t.val % 4 = 3 := (flush0_4 t).mp hf
  have h4 : t.val / 4 = 0 := by have : t.val < 4 := t.isLt; omega
  have e : (outsAt0 m c t.val t.isLt).2.1 = k0_pay6 (F := Ideal) (outsAt0 m c t.val t.isLt).2.2 := by
    rw [outsAt0_C m c t (by omega) (by omega) h]; frame_out
  rw [e]
  pointwise [k0_pay6]
  rw [Pipeline.eq_sum_fin_of_reset_step_apply_of_flush (fun n h => (outsAt0 m c n h).2.2) 4 (fun _ => 0)
    (fun p j => k0_pay3 (F := Ideal) (iblk m c 0 p) (iblk m c 2 p) j)
    (fun t h j => by
      have : t.val < 4 := t.isLt
      rw [outsAt0_A m c t h (by omega) (by omega)]; frame_out; rw [zero_add]; pointwise [k0_pay4])
    (fun t h j => scratch_step m c t h j) t h y, zero_add]
  pointwise [tile_apply, val_main_v8, val_main_v6, val_main_v5, val_main_v4, val_main_v3, val_main_v0]
  refine Fin.sum_mul_add_congr fun s k hl => ?_
  blk_point [iblk, V, idx t, idx ⟨_, Pipeline.run_point_lt_of_flush t h s⟩]

end Cert.GradOut

end
-- ==== Proof.GradOutClaim.lean ====
/- The gradient of the output projection: kernel and reference agree on both results. -/
module

public import proofs.«01_k».proof.Defs
public import proofs.«01_k».proof.Proof.Gen.Kernel7Ideal.Value
public import proofs.«01_k».proof.Proof.Gen.Reference7Ideal.Run
public import proofs.«01_k».proof.Proof.GradOutArray
public import Idealize.ShloMosaic.Lib.Claim

@[expose] public section

set_option maxRecDepth 16384

noncomputable section

namespace Cert.GradOut

open Idealize.ShloMosaic Idealize.ShloMosaic.TcCoe Idealize.SL.Sem

/-- The reference's frame: it runs, keeps its arguments, and leaves every counter at zero. -/
theorem reference_frame : Cert.quiescent_Reference7Ideal (hReference7Ideal := Cert.Reference7Ideal.Gen.facts) := fun m g _ =>
  (θ_run _ _ _).mono (fun r h => ⟨fun c => (h c).2.2, Idealize.ShloMosaic.sem_eq_zero_of_no_sems (by decide) r.2⟩)
    (Cert.Reference7Ideal.Value.run (F := Ideal) m g)

/-- The value claim. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Reference7Ideal.Read.val_main_v7 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Reference7Ideal.Read.val_main_v8 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)),
    (θ_run _ _ _).mono (fun r h c => ?_) (Cert.Kernel7Ideal.Value.run_blocks m g),
    (θ_run _ _ _).mono (fun r h c => ?_) (Cert.Reference7Ideal.Value.run m' g')⟩
  · obtain ⟨h0, h1, ha⟩ := h c
    exact ⟨h0.trans (final3 m c), h1.trans (final4 m c), ha⟩
  · obtain ⟨h0, h1, ha⟩ := h c
    obtain ⟨e0, e1, e2⟩ := hagree c
    rw [e0, e1] at h0
    rw [e0, e2] at h1
    exact ⟨h0.trans (Cert.Reference7Ideal.Read.val_main_v7_eq _ _), h1.trans (Cert.Reference7Ideal.Read.val_main_v8_eq _ _), ha⟩

end Cert.GradOut

end
-- ==== Proof.MergeFwdArray.lean ====
/- The gated sum of the four projected branches, row tile by row tile. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MergeFwd

open Cert.Kernel8Ideal Cert.Kernel8Ideal.Gen Cert.Reference8Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the row tiles. -/
theorem idx : ∀ t : Fin cfg0.N, win0_0.index t = ![0, t.val, 0] ∧ win0_1.index t = ![t.val, 0] ∧ win0_2.index t = ![0, 0, 0]
    ∧ win0_3.index t = ![0, 0, 0] ∧ win0_4.index t = ![t.val, 0] :=
  (by decide +kernel : ∀ t : Fin grid0.N, _)

/-- One branch of the merge at an index: its gate times its projection, with the factors in the reference's order. -/
def branch (z : FVec Ideal S256x1024 .f32) (b : FVec Ideal S1x1x1024 .f32) (y : FVec Ideal S1x256x512 .bf16)
    (w : FVec Ideal S1x512x1024 .bf16) (j : S256x1024.Idx) : EReal :=
  Ideal.div 1 (1 + Ideal.exp (-(z j + b (ix3 0 0 (j 1))))) * ∑ k : Fin 512, w (ix3 0 k (j 1)) * y (ix3 0 (j 0) k)

theorem tile_apply (z0 z1 z2 z3 : FVec Ideal S256x1024 .f32) (b0 b1 b2 b3 : FVec Ideal S1x1x1024 .f32)
    (y0 y1 y2 y3 : FVec Ideal S1x256x512 .bf16) (w0 w1 w2 w3 : FVec Ideal S1x512x1024 .bf16) (j : S256x1024.Idx) :
    k0_pay1 (F := Ideal) (k0_pay2 z0 b0 y0 w0 z1 b1 y1 w1) z2 b2 y2 w2 z3 b3 y3 w3 j
      = branch z0 b0 y0 w0 j + branch z1 b1 y1 w1 j + branch z2 b2 y2 w2 j + branch z3 b3 y3 w3 j := by
  pointwise [k0_pay1, k0_pay2, branch]
  simp only [mul_comm (y0 _), mul_comm (y1 _), mul_comm (y2 _), mul_comm (y3 _)]
  rfl

/-- The logits of one row tile are the tile's rows of the argument; no block of it is cut off at the array's edge. -/
theorem logits_apply (c : Dev nD) (t : Fin cfg0.N) (j : S256x4096.Idx) (i : S2048x11264.Idx)
    (h0 : (i 0 : ℕ) = t.val * 256 + (j 0 : ℕ)) (h1 : (i 1 : ℕ) = j 1) :
    X0_1 m c t j = m (c.tc.loc main_arg0) i := by
  unfold X0_1 Pipeline.Window.fill
  rw [dif_pos (((cfg0.win 1).moved_iff _ j).mpr fun a => by rw [xsize0_1 t a]; exact (j a).isLt)]
  blk_point [iblk, V, idx t]

set_option maxHeartbeats 1600000 in
/-- The merged tokens. -/
theorem final4 (c : Dev nD) : (dats m 0 c).arrAt 4 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  generalize hz : X0_1 m c t = z
  have hl (j : S256x4096.Idx) (i : S2048x11264.Idx) (h0 : (i 0 : ℕ) = t.val * 256 + (j 0 : ℕ)) (h1 : (i 1 : ℕ) = j 1) :
      z j = m (c.tc.loc main_arg0) i := by rw [← hz]; exact logits_apply m c t j i h0 h1
  frame_out
  pointwise [tile_apply, branch, val_main_v18, val_main_v17, val_main_cst_1, val_main_v16, val_main_v15, val_main_v14, val_main_cst_0, val_main_v13, val_main_v12, val_main_cst, val_main_v11, val_main_v10, val_main_v9, val_main_v8, val_main_v7, val_main_v6, val_main_v5, val_main_v4, val_main_v3, val_main_v2, val_main_v1, val_main_v0]
  rw [Fin.sum_univ_four]
  blk_point [iblk, V, idx t]
  all_goals refine hl _ _ ?_ ?_
  all_goals first | (blk_simp [idx t]; done) | exact Nat.zero_add _ | rfl

end Cert.MergeFwd

end
-- ==== Proof.MergeFwdClaim.lean ====
/- The gated merge of the branches: kernel and reference agree. -/
module

public import proofs.«01_k».proof.Defs
public import proofs.«01_k».proof.Proof.Gen.Kernel8Ideal.Value
public import proofs.«01_k».proof.Proof.Gen.Reference8Ideal.Run
public import proofs.«01_k».proof.Proof.MergeFwdArray
public import Idealize.ShloMosaic.Lib.Claim

@[expose] public section

set_option maxRecDepth 16384

noncomputable section

namespace Cert.MergeFwd

open Idealize.ShloMosaic Idealize.ShloMosaic.TcCoe Idealize.SL.Sem

/-- The reference's frame: it runs, keeps its arguments, and leaves every counter at zero. -/
theorem reference_frame : Cert.quiescent_Reference8Ideal (hReference8Ideal := Cert.Reference8Ideal.Gen.facts) := fun m g _ =>
  (θ_run _ _ _).mono (fun r h => ⟨fun c => (h c).2, Idealize.ShloMosaic.sem_eq_zero_of_no_sems (by decide) r.2⟩)
    (Cert.Reference8Ideal.Value.run (F := Ideal) m g)

/-- The value claim. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Reference8Ideal.Read.val_main_v18 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    (θ_run _ _ _).mono (fun r h c => ?_) (Cert.Kernel8Ideal.Value.run_blocks m g),
    (θ_run _ _ _).mono (fun r h c => ?_) (Cert.Reference8Ideal.Value.run m' g')⟩
  · obtain ⟨h0, ha⟩ := h c
    exact ⟨h0.trans (final4 m c), ha⟩
  · obtain ⟨h0, ha⟩ := h c
    obtain ⟨e0, e1, e2, e3⟩ := hagree c
    rw [e0, e1, e2, e3] at h0
    exact ⟨h0.trans (Cert.Reference8Ideal.Read.val_main_v18_eq _ _ _ _), ha⟩

end Cert.MergeFwd

end
-- ==== Proof.OutNormArray.lean ====
/- The output projection with the residual, and the norm of its result, row tile by row tile. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutNorm

open Cert.Kernel9Ideal Cert.Kernel9Ideal.Gen Cert.Reference9Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the row tiles. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

set_option maxHeartbeats 1600000 in
/-- The new tokens. -/
theorem final4 (c : Dev nD) : (dats m 0 c).arrAt 4 cfg0.N
    = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, val_main_v3, val_main_v2, val_main_v1, val_main_v0]
  blk_point [iblk, V, idx t]

set_option maxHeartbeats 1600000 in
/-- The normalised tokens. -/
theorem final5 (c : Dev nD) : (dats m 0 c).arrAt 5 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay2, k0_pay1, val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]
  blk_point [iblk, V, idx t]

end Cert.OutNorm

end
-- ==== Proof.OutNormClaim.lean ====
/- The output projection and the norm after it: kernel and reference agree on both results. -/
module

public import proofs.«01_k».proof.Defs
public import proofs.«01_k».proof.Proof.Gen.Kernel9Ideal.Value
public import proofs.«01_k».proof.Proof.Gen.Reference9Ideal.Run
public import proofs.«01_k».proof.Proof.OutNormArray
public import Idealize.ShloMosaic.Lib.Claim

@[expose] public section

set_option maxRecDepth 16384

noncomputable section

namespace Cert.OutNorm

open Idealize.ShloMosaic Idealize.ShloMosaic.TcCoe Idealize.SL.Sem

/-- The reference's frame: it runs, keeps its arguments, and leaves every counter at zero. -/
theorem reference_frame : Cert.quiescent_Reference9Ideal (hReference9Ideal := Cert.Reference9Ideal.Gen.facts) := fun m g _ =>
  (θ_run _ _ _).mono (fun r h => ⟨fun c => (h c).2.2, Idealize.ShloMosaic.sem_eq_zero_of_no_sems (by decide) r.2⟩)
    (Cert.Reference9Ideal.Value.run (F := Ideal) m g)

/-- The value claim. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Reference9Ideal.Read.val_main_v3 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    fun c => Cert.Reference9Ideal.Read.val_main_v18 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)),
    (θ_run _ _ _).mono (fun r h c => ?_) (Cert.Kernel9Ideal.Value.run_blocks m g),
    (θ_run _ _ _).mono (fun r h c => ?_) (Cert.Reference9Ideal.Value.run m' g')⟩
  · obtain ⟨h0, h1, ha⟩ := h c
    exact ⟨h0.trans (final4 m c), h1.trans (final5 m c), ha⟩
  · obtain ⟨h0, h1, ha⟩ := h c
    obtain ⟨e0, e1, e2, e3⟩ := hagree c
    rw [e0, e1, e2] at h0
    rw [e0, e1, e2, e3] at h1
    exact ⟨h0.trans (Cert.Reference9Ideal.Read.val_main_v3_eq _ _ _), h1.trans (Cert.Reference9Ideal.Read.val_main_v18_eq _ _ _ _), ha⟩

end Cert.OutNorm

end
-- ==== Proof.OutLossHalf.lean ====
/- The constants of the loss: the factor one half and the factor of the mean distribute over sums, being non-negative and finite. -/
module

public import proofs.«01_k».proof.Proof.Gen.Kernel10Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutLoss

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

/-- The constant two. -/
theorem two : Ideal.ofBits .f32 0x40000000#32 = (1 + 1 : EReal) := by
  rw [show (1 + 1 : EReal) = ((2 : ℝ) : EReal) by norm_cast]
  simp [Ideal.ofBits, Ideal.ieee, -EReal.coe_mul]; norm_num

/-- The constant one half. -/
theorem half : Ideal.ofBits .f32 0x3F000000#32 = ((1 / 2 : ℝ) : EReal) := by
  simp [Ideal.ofBits, Ideal.ieee, -EReal.coe_mul]; norm_num

/-- The constant 1024. -/
theorem width : Ideal.ofBits .f32 0x44800000#32 = ((1024 : ℝ) : EReal) := by
  simp [Ideal.ofBits, Ideal.ieee, -EReal.coe_mul]; norm_num

/-- A non-negative finite factor taken out of a sum. -/
theorem mul_sum_real {n : ℕ} (r : ℝ) (hr : 0 ≤ r) (f : Fin n → EReal) : ∑ i, (r : EReal) * f i = (r : EReal) * ∑ i, f i := by
  let φ : EReal →+ EReal := ⟨⟨fun x => (r : EReal) * x, mul_zero _⟩, fun x y =>
    EReal.left_distrib_of_nonneg_of_ne_top (EReal.coe_nonneg.mpr hr) (EReal.coe_ne_top r) x y⟩
  exact (map_sum φ f Finset.univ).symm

theorem half_sum {n : ℕ} (f : Fin n → EReal) :
    ∑ i, Ideal.ofBits .f32 0x3F000000#32 * f i = Ideal.ofBits .f32 0x3F000000#32 * ∑ i, f i := by
  rw [half]; exact mul_sum_real _ (by norm_num) f

/-- The factor of the mean, one half over the width, is a non-negative real. -/
theorem scale : Ideal.div (Ideal.ofBits .f32 0x3F000000#32) (Ideal.ofBits .f32 0x44800000#32) = ((1 / 2 * (1 / 1024) : ℝ) : EReal) := by
  rw [half, width, Ideal.div_coe (by norm_num), ← EReal.coe_mul]

/-- The gradient of a square, as the product rule writes it and as twice the value. -/
theorem square_grad (x : EReal) : x * Ideal.div (Ideal.ofBits .f32 0x3F000000#32) (Ideal.ofBits .f32 0x44800000#32)
      + Ideal.div (Ideal.ofBits .f32 0x3F000000#32) (Ideal.ofBits .f32 0x44800000#32) * x
    = Ideal.div (Ideal.ofBits .f32 0x3F000000#32) (Ideal.ofBits .f32 0x44800000#32) * (Ideal.ofBits .f32 0x40000000#32 * x) := by
  rw [scale, two, EReal.right_distrib_of_nonneg zero_le_one zero_le_one, one_mul, EReal.left_distrib_of_nonneg_of_ne_top (EReal.coe_nonneg.mpr (by norm_num)) (EReal.coe_ne_top _), mul_comm x]

/-- The gradient of the error of one row tile, with the factors in the reference's order. -/
theorem grad_apply (e : FVec Ideal S512x1024 .f32) (j : S512x1024.Idx) : k0_pay1 (F := Ideal) e k0_pay14 j
    = Ideal.div (Ideal.ofBits .f32 0x3F000000#32) (Ideal.ofBits .f32 0x44800000#32) * (Ideal.ofBits .f32 0x40000000#32 * e j) := by
  pointwise [k0_pay1, k0_pay14]
  exact square_grad _

/-- The block index of every window: the grid walks the row tiles. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] :=
  (by decide +kernel : ∀ t : Fin grid0.N, _)

end Cert.OutLoss

end
-- ==== Proof.OutLossArray.lean ====
/- The loss and its gradient: the tokens row tile by row tile, the loss and the norm weight gathered over the row tiles. -/
module

public import proofs.«01_k».proof.Proof.Gen.Kernel10Ideal.Frame
public import proofs.«01_k».proof.Proof.Gen.Reference10Ideal.Read
public import proofs.«01_k».proof.Proof.OutLossHalf
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutLoss

open Cert.Kernel10Ideal Cert.Kernel10Ideal.Gen Cert.Reference10Ideal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The loss. -/
theorem final5 (c : Dev nD) : (dats m 0 c).arrAt 5 cfg0.N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h : t.val % 4 = 3 := (flush0_5 t).mp hf
  have h4 : t.val / 4 = 0 := by have : t.val < 4 := t.isLt; omega
  rw [Pipeline.eq_sum_fin_of_reset_step_apply_of_flush (fun n h => (outsAt0 m c n h).1) 4 (fun _ => 0)
    (fun p j => k0_pay4 (F := Ideal) (k0_pay13 (iblk m c 0 p) (iblk m c 1 p) (iblk m c 2 p) (iblk m c 4 p) (iblk m c 3 p)) j)
    (fun t h j => by
      have : t.val < 4 := t.isLt
      rw [outsAt0_A m c t h (by omega)]; frame_out; rw [zero_add])
    (fun t h j => by
      rw [outsAt0_B m c t h (by omega)]; frame_out; pointwise [k0_pay6]) t h y, zero_add]
  pointwise [k0_pay4, k0_pay13, k0_pay12, k0_pay11, k0_pay9, k0_pay8, k0_pay7, val_main_v56, val_main_v29, val_main_cst_7, val_main_v28, val_main_cst_6, val_main_v27, val_main_v26, val_main_cst_5, val_main_v25, val_main_cst_4, val_main_v22, val_main_v21, val_main_v20, val_main_v19, val_main_v18, val_main_v17, val_main_v16, val_main_v12, val_main_v11, val_main_v10, val_main_cst_1, val_main_v9, val_main_v8, val_main_cst_0, val_main_v7, val_main_v6, val_main_cst, val_main_v5, val_main_v4, val_main_v3, val_main_v2, val_main_v1, val_main_v0]
  rw [half_sum]
  refine congrArg (Ideal.ofBits .f32 0x3F000000#32 * ·) ?_
  refine Fin.sum_mul_add_congr fun s k hl => ?_
  blk_point [iblk, V, idx t, idx ⟨_, Pipeline.run_point_lt_of_flush t h s⟩]

set_option maxHeartbeats 1600000 in
/-- The gradient of the tokens. -/
theorem final6 (c : Dev nD) : (dats m 0 c).arrAt 6 cfg0.N
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have e : (outsAt0 m c t.val t.isLt).2.1 = k0_pay3 (F := Ideal) (k0_pay7 (iblk m c 0 t) (iblk m c 1 t) (iblk m c 2 t)) (iblk m c 3 t) (k0_pay9 (iblk m c 0 t) (iblk m c 1 t) (iblk m c 2 t)) (k0_pay10 (iblk m c 0 t) (iblk m c 1 t) (iblk m c 2 t)) (k0_pay12 (iblk m c 0 t) (iblk m c 1 t) (iblk m c 2 t) (iblk m c 4 t) (iblk m c 3 t)) k0_pay14 := by
    have : t.val < 4 := t.isLt
    by_cases h0 : t.val % 4 = 0
    · rw [outsAt0_A m c t h0 (by omega)]; frame_out
    · rw [outsAt0_B m c t h0 (by omega)]; frame_out
  rw [e]
  pointwise [k0_pay3, grad_apply, k0_pay12, k0_pay11, k0_pay10, k0_pay9, k0_pay8, k0_pay7, val_main_v55, val_main_v54, val_main_v53, val_main_v52, val_main_v51, val_main_v50, val_main_cst_15, val_main_v49, val_main_v48, val_main_cst_14, val_main_v47, val_main_v46, val_main_v45, val_main_v44, val_main_v43, val_main_cst_13, val_main_v42, val_main_v40, val_main_v39, val_main_v35, val_main_v34, val_main_v33, val_main_v32, val_main_cst_10, val_main_v31, val_main_v30, val_main_cst_9, val_main_cst_8, val_main_v24, val_main_v23, val_main_cst_3, val_main_v21, val_main_v20, val_main_v19, val_main_v18, val_main_v17, val_main_v16, val_main_v15, val_main_v14, val_main_cst_2, val_main_v13, val_main_v12, val_main_v11, val_main_v10, val_main_cst_1, val_main_v9, val_main_v8, val_main_cst_0, val_main_v7, val_main_v6, val_main_cst, val_main_v5, val_main_v4, val_main_v3, val_main_v2, val_main_v1, val_main_v0]
  blk_point [iblk, V, idx t]

set_option maxHeartbeats 1600000 in
/-- The gradient of the norm weight: the sum over all rows. -/
theorem final7 (c : Dev nD) : (dats m 0 c).arrAt 7 cfg0.N
    = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  have h : t.val % 4 = 3 := (flush0_7 t).mp hf
  have h4 : t.val / 4 = 0 := by have : t.val < 4 := t.isLt; omega
  rw [Pipeline.eq_sum_fin_of_reset_step_apply_of_flush (fun n h => (outsAt0 m c n h).2.2) 4 (fun _ => 0)
    (fun p j => k0_pay2 (F := Ideal) (k0_pay11 (iblk m c 0 p) (iblk m c 1 p) (iblk m c 2 p)) (k0_pay12 (iblk m c 0 p) (iblk m c 1 p) (iblk m c 2 p) (iblk m c 4 p) (iblk m c 3 p)) k0_pay14 j)
    (fun t h j => by
      have : t.val < 4 := t.isLt
      rw [outsAt0_A m c t h (by omega)]; frame_out; rw [zero_add])
    (fun t h j => by
      rw [outsAt0_B m c t h (by omega)]; frame_out; pointwise [k0_pay5]) t h y, zero_add]
  pointwise [k0_pay2, grad_apply, k0_pay12, k0_pay11, k0_pay9, k0_pay8, k0_pay7, val_main_v57, val_main_v41, val_main_cst_12, val_main_v38, val_main_v37, val_main_cst_11, val_main_v36, val_main_v35, val_main_v34, val_main_v33, val_main_v32, val_main_cst_10, val_main_v31, val_main_v30, val_main_cst_9, val_main_cst_8, val_main_v24, val_main_v23, val_main_cst_3, val_main_v21, val_main_v20, val_main_v19, val_main_v18, val_main_v17, val_main_v16, val_main_v12, val_main_v11, val_main_v10, val_main_cst_1, val_main_v9, val_main_v8, val_main_cst_0, val_main_v7, val_main_v6, val_main_cst, val_main_v5, val_main_v4, val_main_v3, val_main_v2, val_main_v1, val_main_v0]
  rw [Fin.sum_univ_one]
  refine Fin.sum_mul_add_congr fun s k hl => ?_
  blk_point [iblk, V, idx t, idx ⟨_, Pipeline.run_point_lt_of_flush t h s⟩]

end Cert.OutLoss

end
-- ==== Proof.OutLossClaim.lean ====
/- The loss and its gradient: kernel and reference agree on all three results. -/
module

public import proofs.«01_k».proof.Defs
public import proofs.«01_k».proof.Proof.Gen.Kernel10Ideal.Value
public import proofs.«01_k».proof.Proof.Gen.Reference10Ideal.Run
public import proofs.«01_k».proof.Proof.OutLossArray
public import Idealize.ShloMosaic.Lib.Claim

@[expose] public section

set_option maxRecDepth 16384

noncomputable section

namespace Cert.OutLoss

open Idealize.ShloMosaic Idealize.ShloMosaic.TcCoe Idealize.SL.Sem

/-- The reference's frame: it runs, keeps its arguments, and leaves every counter at zero. -/
theorem reference_frame : Cert.quiescent_Reference10Ideal (hReference10Ideal := Cert.Reference10Ideal.Gen.facts) := fun m g _ =>
  (θ_run _ _ _).mono (fun r h => ⟨fun c => (h c).2.2.2, Idealize.ShloMosaic.sem_eq_zero_of_no_sems (by decide) r.2⟩)
    (Cert.Reference10Ideal.Value.run (F := Ideal) m g)

/-- The value claim. -/
theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Reference10Ideal.Read.val_main_v56 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)),
    fun c => Cert.Reference10Ideal.Read.val_main_v55 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)),
    fun c => Cert.Reference10Ideal.Read.val_main_v57 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)),
    (θ_run _ _ _).mono (fun r h c => ?_) (Cert.Kernel10Ideal.Value.run_blocks m g),
    (θ_run _ _ _).mono (fun r h c => ?_) (Cert.Reference10Ideal.Value.run m' g')⟩
  · obtain ⟨h0, h1, h2, ha⟩ := h c
    exact ⟨h0.trans (final5 m c), h1.trans (final6 m c), h2.trans (final7 m c), ha⟩
  · obtain ⟨h0, h1, h2, ha⟩ := h c
    obtain ⟨e0, e1, e2, e3, e4⟩ := hagree c
    rw [e0, e1, e2, e3, e4] at h0
    replace h1 := h1.trans (Cert.Reference10Ideal.Read.val_main_v55_eq m' c)
    rw [e0, e1, e2, e3, e4] at h1
    rw [e0, e1, e2, e3, e4] at h2
    exact ⟨h0.trans (Cert.Reference10Ideal.Read.val_main_v56_eq _ _ _ _ _), h1, h2.trans (Cert.Reference10Ideal.Read.val_main_v57_eq _ _ _ _ _), ha⟩

end Cert.OutLoss

end
-- ==== Proof.GateFwdHidden.lean ====
/- The spatial gate, chunk by chunk: the activations and the normalised values of a chunk. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateFwd

open Cert.Kernel11Ideal Cert.Kernel11Ideal.Gen Cert.Reference11Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the chunk is `t`. -/
theorem idx : ∀ t : Fin cfg0.N, win0_0.index t = ![t.val, 12] ∧ win0_1.index t = ![t.val, 13] ∧ win0_2.index t = ![t.val, 14]
    ∧ win0_3.index t = ![0, 0] ∧ win0_4.index t = ![0, 0] ∧ win0_5.index t = ![0, 0, 0] ∧ win0_6.index t = ![0, 0]
    ∧ win0_7.index t = ![1, t.val, 0] :=
  (by decide +kernel : ∀ t : Fin grid0.N, _)

/-- Half of `x` times `y` is `x` times half of `y`. -/
theorem half_mul (a x y : EReal) : a * x * y = x * (a * y) := by rw [mul_comm a x, mul_assoc]

/-- The activation of `v`, with the factors in the reference's order. -/
theorem act_v (v1 : FVec Ideal S128x512 .f32) (j : S128x512.Idx) :
    k0_pay4 (F := Ideal) v1 j = v1 j * (Ideal.ofBits .f32 0x3F000000#32 * (Ideal.ofBits .f32 0x3F800000#32
      + Ideal.tanh (Ideal.ofBits .f32 0x3F4C422A#32 * (v1 j + Ideal.ofBits .f32 0x3D372713#32 * (v1 j * v1 j * v1 j))))) := by
  pointwise [k0_pay4]
  exact half_mul _ _ _

/-- The activation of `u`, with the factors in the reference's order. -/
theorem act_u (v0 : FVec Ideal S128x512 .f32) (j : S128x512.Idx) :
    k0_pay3 (F := Ideal) v0 j = v0 j * (Ideal.ofBits .f32 0x3F000000#32 * (Ideal.ofBits .f32 0x3F800000#32
      + Ideal.tanh (Ideal.ofBits .f32 0x3F4C422A#32 * (v0 j + Ideal.ofBits .f32 0x3D372713#32 * (v0 j * v0 j * v0 j))))) := by
  pointwise [k0_pay3]
  exact half_mul _ _ _

set_option maxHeartbeats 1600000 in
/-- The normalised values of a chunk are the reference's. -/
theorem hidden_apply (c : Dev nD) (t : Fin cfg0.N) (r : Fin 128) (l : Fin 512) (R : Fin 2048) (h : (R : ℕ) = t.val * 128 + r.val) :
    k0_pay6 (F := Ideal) (iblk m c 3 t) (iblk m c 4 t) (k0_pay4 (iblk m c 1 t)) (k0_pay5 (iblk m c 1 t)) (ix2 r l)
      = val_main_v54 (F := Ideal) (m ((c : Thread nD τ).loc main_arg0)) (m ((c : Thread nD τ).loc main_arg2)) (m ((c : Thread nD τ).loc main_arg3)) (ix2 R l) := by
  have ht : t.val < 16 := t.isLt
  pointwise [k0_pay6, k0_pay5, act_v, val_main_v54, val_main_v53, val_main_v52, val_main_v51, val_main_v50, val_main_v49, val_main_v48, val_main_v47, val_main_v46, val_main_v45, val_main_v44, val_main_cst_11, val_main_v43, val_main_v42, val_main_v41, val_main_v40, val_main_cst_10, val_main_v39, val_main_v38, val_main_cst_9, val_main_v37, val_main_v36, val_main_v35, val_main_v34, val_main_v33, val_main_cst_8, val_main_v32, val_main_v31, val_main_cst_7, val_main_v30, val_main_v29, val_main_v28, val_main_cst_6, val_main_v27, val_main_v26, val_main_cst_5, val_main_v25, val_main_v24, val_main_v23, val_main_cst_4, val_main_v22, val_main_v21, val_main_v20, val_main_cst_3, val_main_v19, val_main_v18, val_main_v4, val_main_v3, val_main_v1]
  blk_point [iblk, V, idx t]

set_option maxHeartbeats 1600000 in
/-- The activation of `u` in a chunk is the reference's. -/
theorem act_apply (c : Dev nD) (t : Fin cfg0.N) (r : Fin 128) (l : Fin 512) (R : Fin 2048) (h : (R : ℕ) = t.val * 128 + r.val) :
    k0_pay3 (F := Ideal) (iblk m c 0 t) (ix2 r l) = val_main_v17 (F := Ideal) (m ((c : Thread nD τ).loc main_arg0)) (ix2 R l) := by
  have ht : t.val < 16 := t.isLt
  pointwise [act_u, val_main_v17, val_main_v16, val_main_v15, val_main_cst_2, val_main_v14, val_main_v13, val_main_cst_1, val_main_v12, val_main_v11, val_main_v10, val_main_cst_0, val_main_v9, val_main_v8, val_main_v7, val_main_cst, val_main_v6, val_main_v5, val_main_v0]
  blk_point [iblk, V, idx t]

/-- The kernel's gate. -/
theorem gate_comm (v : FVec Ideal S128x512 .f32) (j : S128x512.Idx) :
    k0_pay9 (F := Ideal) v j = v j * Ideal.div 1 (1 + Ideal.exp (-v j)) := by
  pointwise [k0_pay9]
  rfl

set_option maxHeartbeats 1600000 in
/-- The gate in a chunk is the reference's. -/
theorem gate_apply (c : Dev nD) (t : Fin cfg0.N) (r : Fin 128) (l : Fin 512) (R : Fin 2048) (h : (R : ℕ) = t.val * 128 + r.val) :
    k0_pay9 (F := Ideal) (iblk m c 2 t) (ix2 r l) = val_main_v67 (F := Ideal) (m ((c : Thread nD τ).loc main_arg0)) (ix2 R l) := by
  have ht : t.val < 16 := t.isLt
  pointwise [gate_comm, val_main_v67, val_main_call2_v5, val_main_call2_v4, val_main_call2_cst_0, val_main_call2_v3, val_main_call2_v2, val_main_call2_cst, val_main_call2_v1, val_main_call2_v0, val_main_v2]
  blk_point [iblk, V, idx t]

end Cert.GateFwd

end
-- ==== Proof.Shift.lean ====
/- A column of 2048 values delayed or advanced by a few places, zeros moving in: as a kernel spells it, by a rotation and a mask. -/
module

public import Idealize.ShloMosaic.Lib.Pointwise
public import Idealize.ShloMosaic.Lib.WordCmp

@[expose] public section

noncomputable section

namespace Cert

open Idealize.ShloMosaic

/-- The value `s` places before `r`, or zero. -/
def delay (s : ℕ) (f : Fin 2048 → EReal) (r : Fin 2048) : EReal := if h : r.val < s then 0 else f ⟨r.val - s, by omega⟩

/-- The value `s` places after `r`, or zero. -/
def advance (s : ℕ) (f : Fin 2048 → EReal) (r : Fin 2048) : EReal := if h : r.val + s < 2048 then f ⟨r.val + s, h⟩ else 0

/-- A rotation masked at its first rows is a delay. -/
theorem mul_select_delay (s : ℕ) (hs : s < 2048) (f : Fin 2048 → EReal) (r : Fin 2048) (w : EReal) (h : (r.val + 2048 - s) % 2048 < 2048) :
    Scalar.select (IntOp.cmpi .sge (BitVec.ofNat 32 r.val) (BitVec.ofNat 32 s)) (w * f ⟨(r.val + 2048 - s) % 2048, h⟩) 0 = w * delay s f r := by
  have hr := r.isLt
  unfold delay
  by_cases hc : r.val < s
  · rw [WordCmp.select_of_eq_zero ((WordCmp.cmpi_sge_ofNat_eq_zero_iff (by omega) (by omega)).mpr (by omega)), dif_pos hc, mul_zero]
  · rw [WordCmp.select_of_eq_one ((WordCmp.cmpi_sge_ofNat_eq_one_iff (by omega) (by omega)).mpr (by omega)), dif_neg hc]
    congr 3
    omega

/-- A read `k` places into a column that begins with `p` zeros is a delay by the difference. -/
theorem padded_eq_delay (p k s : ℕ) (e : k + s = p) (f : Fin 2048 → EReal) (r : Fin 2048) (h : ∀ _ : ¬k + r.val < p, k + r.val - p < 2048) :
    (if g : k + r.val < p then 0 else f ⟨k + r.val - p, h g⟩) = delay s f r := by
  have hr := r.isLt
  unfold delay
  by_cases hc : r.val < s
  · rw [dif_pos (by omega), dif_pos hc]
  · rw [dif_neg (by omega), dif_neg hc]
    congr 2
    omega

/-- The masked rotation alone is a delay. -/
theorem select_delay (s : ℕ) (hs : s < 2048) (f : Fin 2048 → EReal) (r : Fin 2048) (h : (r.val + 2048 - s) % 2048 < 2048) :
    Scalar.select (IntOp.cmpi .sge (BitVec.ofNat 32 r.val) (BitVec.ofNat 32 s)) (f ⟨(r.val + 2048 - s) % 2048, h⟩) 0 = delay s f r := by
  have e := mul_select_delay s hs f r 1 h
  rwa [one_mul, one_mul] at e

/-- A rotation masked at its last rows is an advance. -/
theorem mul_select_advance (s k : ℕ) (hs : 0 < s) (e : k + s = 2048) (f : Fin 2048 → EReal) (r : Fin 2048) (w : EReal)
    (h : (r.val + 2048 - k) % 2048 < 2048) :
    Scalar.select (IntOp.cmpi .slt (BitVec.ofNat 32 r.val) (BitVec.ofNat 32 k)) (w * f ⟨(r.val + 2048 - k) % 2048, h⟩) 0 = w * advance s f r := by
  have hr := r.isLt
  unfold advance
  by_cases hc : r.val < k
  · rw [WordCmp.select_of_eq_one ((WordCmp.cmpi_slt_ofNat_eq_one_iff (by omega) (by omega)).mpr (by omega)), dif_pos (by omega)]
    congr 3
    omega
  · rw [WordCmp.select_of_eq_zero ((WordCmp.cmpi_slt_ofNat_eq_zero_iff (by omega) (by omega)).mpr (by omega)), dif_neg (by omega), mul_zero]

/-- A weighted read `s` places on, zero beyond the end, is an advance. -/
theorem mul_dite_advance (s : ℕ) (f : Fin 2048 → EReal) (w : EReal) (r : Fin 2048) :
    (if h : s + r.val < 2048 then w * f ⟨s + r.val, h⟩ else 0) = w * advance s f r := by
  unfold advance
  by_cases hc : s + r.val < 2048
  · rw [dif_pos hc, dif_pos (by omega)]
    congr 3
    omega
  · rw [dif_neg hc, dif_neg (by omega), mul_zero]

/-- A weighted read `k` places into a column that ends in zeros, less `p`, is an advance by the difference. -/
theorem mul_padded_advance (p k s : ℕ) (e : p + s = k) (f : Fin 2048 → EReal) (w : EReal) (r : Fin 2048) :
    (if h : p ≤ k + r.val ∧ k + r.val - p < 2048 then w * f ⟨k + r.val - p, h.2⟩ else 0) = w * advance s f r := by
  unfold advance
  by_cases hc : s + r.val < 2048
  · rw [dif_pos (by omega), dif_pos (by omega)]
    congr 3
    omega
  · rw [dif_neg (by omega), dif_neg (by omega), mul_zero]

/-- A delayed value does not depend on how the earlier values are named. -/
theorem delay_congr (s : ℕ) {f g : Fin 2048 → EReal} (h : ∀ k, f k = g k) (r : Fin 2048) : delay s f r = delay s g r := by
  rw [funext h]

/-- An advanced value does not depend on how the later values are named. -/
theorem advance_congr (s : ℕ) {f g : Fin 2048 → EReal} (h : ∀ k, f k = g k) (r : Fin 2048) : advance s f r = advance s g r := by
  rw [funext h]

end Cert

end
-- ==== Proof.GateFwdMix.lean ====
/- The spatial gate: the mixing of a chunk over its positions, two heads side by side in 128 lanes. -/
module

public import proofs.«01_k».proof.Proof.Gen.Kernel11Ideal.Frame
public import proofs.«01_k».proof.Proof.Gen.Reference11Ideal.Read
public import proofs.«01_k».proof.Proof.GateFwdHidden
public import proofs.«01_k».proof.Proof.Shift
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateFwd

open Cert.Kernel11Ideal Cert.Kernel11Ideal.Gen Cert.Reference11Ideal.Read
open Idealize.ShloMosaic Idealize.ShloMosaic.TcCoe Idealize.SL.Sem
open Idealize.ShloMosaic.Pipeline (Dat)

variable (m : (ℓ : Loc nD τ sig) → Buf (Elt Ideal) ℓ)

/-- The mixing at one place: the causal weights of the lane's head against the normalised values. -/
def mixed (v a b : Fin 128 → EReal) (r x : Fin 128) : EReal :=
  ∑ s : Fin 128, v s * (if s.val ≤ r.val then (if x.val < 64 then a s else b s) else 0)

/-- The gated value at one place. -/
def gated (v a b : Fin 128 → EReal) (u bias g : EReal) (r x : Fin 128) : EReal := u * (mixed v a b r x + bias) * g

/-- The two masked products of a pair of heads add up to the mixing. -/
theorem heads (a b v : Fin 128 → EReal) (r x : Fin 128) :
    (∑ s : Fin 128, Scalar.select (IntOp.cmpi .slt (BitVec.ofNat 32 x.val) 64#32)
        (Scalar.select (IntOp.cmpi .sge (BitVec.ofNat 32 r.val) (BitVec.ofNat 32 s.val)) (a s * v s) 0) 0)
      + (∑ s : Fin 128, Scalar.select (IntOp.cmpi .slt (BitVec.ofNat 32 x.val) 64#32) 0
        (Scalar.select (IntOp.cmpi .sge (BitVec.ofNat 32 r.val) (BitVec.ofNat 32 s.val)) (b s * v s) 0)) = mixed v a b r x := by
  have hx := x.isLt
  have hr := r.isLt
  have hs : ∀ (s : Fin 128) (y : EReal), Scalar.select (IntOp.cmpi .sge (BitVec.ofNat 32 r.val) (BitVec.ofNat 32 s.val)) y 0
      = if s.val ≤ r.val then y else 0 := fun s y => by
    have := s.isLt
    word_cmp
  simp only [hs]
  unfold mixed
  by_cases h : x.val < 64
  · simp only [WordCmp.select_of_eq_one ((WordCmp.cmpi_slt_ofNat_eq_one_iff (w := 32) (a := x.val) (b := 64) (by omega) (by omega)).mpr h),
      Finset.sum_const_zero, add_zero, if_pos h]
    exact Finset.sum_congr rfl fun s _ => by split_ifs <;> simp [mul_comm]
  · simp only [WordCmp.select_of_eq_zero ((WordCmp.cmpi_slt_ofNat_eq_zero_iff (w := 32) (a := x.val) (b := 64) (by omega) (by omega)).mpr h),
      Finset.sum_const_zero, zero_add, if_neg h]
    exact Finset.sum_congr rfl fun s _ => by split_ifs <;> simp [mul_comm]

/-- The columns of the second pair of heads. -/
theorem piece1_apply (v5 : FVec Ideal S8x128x128 .f32) (v6 v19 v54 v62 : FVec Ideal S128x512 .f32) (r x : Fin 128) :
    k0_pay13 (F := Ideal) v5 v6 v19 v54 k0_pay7 k0_pay8 v62 (ix2 r x)
      = gated (fun s => v54 (ix2 s ⟨128 + x, by omega⟩)) (fun s => v5 (ix3 2 r s)) (fun s => v5 (ix3 3 r s))
        (v19 (ix2 r ⟨128 + x, by omega⟩)) (v6 (ix2 r ⟨128 + x, by omega⟩)) (v62 (ix2 r ⟨128 + x, by omega⟩)) r x := by
  pointwise [k0_pay13, k0_pay7, k0_pay8]
  rw [heads (fun s => v5 (ix3 2 r s)) (fun s => v5 (ix3 3 r s)) (fun s => v54 (ix2 s ⟨128 + x, by omega⟩)) r x]
  rfl

/-- The columns of the third pair of heads. -/
theorem piece2_apply (v5 : FVec Ideal S8x128x128 .f32) (v6 v19 v54 v62 : FVec Ideal S128x512 .f32) (r x : Fin 128) :
    k0_pay21 (F := Ideal) v6 v19 v62 (k0_pay15 v5 v54 k0_pay7 k0_pay8) (k0_pay16 v5 k0_pay7) (k0_pay17 v54 k0_pay8) (ix2 r x)
      = gated (fun s => v54 (ix2 s ⟨256 + x, by omega⟩)) (fun s => v5 (ix3 4 r s)) (fun s => v5 (ix3 5 r s))
        (v19 (ix2 r ⟨256 + x, by omega⟩)) (v6 (ix2 r ⟨256 + x, by omega⟩)) (v62 (ix2 r ⟨256 + x, by omega⟩)) r x := by
  pointwise [k0_pay21, k0_pay15, k0_pay16, k0_pay17, k0_pay14, k0_pay7, k0_pay8]
  rw [heads (fun s => v5 (ix3 4 r s)) (fun s => v5 (ix3 5 r s)) (fun s => v54 (ix2 s ⟨256 + x, by omega⟩)) r x]
  rfl

/-- The columns of the fourth pair of heads. -/
theorem piece3_apply (v5 : FVec Ideal S8x128x128 .f32) (v6 v19 v54 v62 : FVec Ideal S128x512 .f32) (r x : Fin 128) :
    k0_pay18 (F := Ideal) v5 v6 v19 v54 k0_pay7 k0_pay8 v62 (ix2 r x)
      = gated (fun s => v54 (ix2 s ⟨384 + x, by omega⟩)) (fun s => v5 (ix3 6 r s)) (fun s => v5 (ix3 7 r s))
        (v19 (ix2 r ⟨384 + x, by omega⟩)) (v6 (ix2 r ⟨384 + x, by omega⟩)) (v62 (ix2 r ⟨384 + x, by omega⟩)) r x := by
  pointwise [k0_pay18, k0_pay7, k0_pay8]
  rw [heads (fun s => v5 (ix3 6 r s)) (fun s => v5 (ix3 7 r s)) (fun s => v54 (ix2 s ⟨384 + x, by omega⟩)) r x]
  rfl

/-- The columns of the first pair of heads. -/
theorem piece0_apply (v3 v4 : FVec Ideal S1x512 .f32) (v5 : FVec Ideal S8x128x128 .f32) (v6 v19 v32 v62 : FVec Ideal S128x512 .f32) (v34 : FVec Ideal S128x1 .f32) (r x : Fin 128) :
    k0_pay12 (F := Ideal) v6 v62 (k0_pay10 v3 v4 v5 v32 v34) (k0_pay11 v19) (ix2 r x)
      = gated (fun s => k0_pay6 v3 v4 v32 v34 (ix2 s ⟨x, by omega⟩)) (fun s => v5 (ix3 0 r s)) (fun s => v5 (ix3 1 r s))
        (v19 (ix2 r ⟨x, by omega⟩)) (v6 (ix2 r ⟨x, by omega⟩)) (v62 (ix2 r ⟨x, by omega⟩)) r x := by
  pointwise [k0_pay12, k0_pay11, k0_pay10, k0_pay7, k0_pay8]
  rw [heads (fun s => v5 (ix3 0 r s)) (fun s => v5 (ix3 1 r s)) (fun s => k0_pay6 v3 v4 v32 v34 (ix2 s ⟨x, by omega⟩)) r x]
  rfl

/-- A causal mask as the reference spells it. -/
theorem tril (R : ℕ) (s : Fin 128) (w z : EReal) (hz : z = 0) : Scalar.select (Scalar.select
      (IntOp.cmpi .sge (IntOp.addi (BitVec.ofNat 32 (R % 128)) 0#32) (BitVec.ofNat 32 s.val)) 1#1 0#1) w z
    = if s.val ≤ R % 128 then w else 0 := by
  have := s.isLt
  have h0 : IntOp.addi (BitVec.ofNat 32 (R % 128)) 0#32 = BitVec.ofNat 32 (R % 128) := by simp [IntOp.addi]
  rw [h0, hz]
  word_cmp
  by_cases h : s.val ≤ R % 128 <;> simp [h, Scalar.select]

set_option maxHeartbeats 1600000 in
/-- The gated values of the reference. -/
theorem reference_apply (c : Dev nD) (t : Fin cfg0.N) (p : ℕ) (hp : p < 4) (r x : Fin 128) (R : Fin 2048) (L : Fin 512)
    (hR : (R : ℕ) = t.val * 128 + r.val) (hL : (L : ℕ) = 128 * p + x.val) :
    gated (fun s => (k0_pay6 (iblk m c 3 t) (iblk m c 4 t) (k0_pay4 (iblk m c 1 t)) (k0_pay5 (iblk m c 1 t))) (ix2 s L)) (fun s => iblk m c 5 t (ix3 ⟨2 * p, by omega⟩ r s))
      (fun s => iblk m c 5 t (ix3 ⟨2 * p + 1, by omega⟩ r s)) (k0_pay3 (F := Ideal) (iblk m c 0 t) (ix2 r L))
      (iblk m c 6 t (ix2 r L)) (k0_pay9 (F := Ideal) (iblk m c 2 t) (ix2 r L)) r x
      = val_main_v68 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 R L) := by
  have ht : t.val < 16 := t.isLt
  rw [act_apply m c t r L R hR, gate_apply m c t r L R hR]
  pointwise [val_main_v68, val_main_v66, val_main_v65, val_main_v64, val_main_v63, val_main_v62, val_main_v61, val_main_v60, val_main_v59, val_main_v58, val_main_call1_v2, val_main_call1_v1, val_main_call1_v0, val_main_cst_12, val_main_v57, val_main_call0_v5, val_main_call0_c_0, val_main_call0_v4, val_main_call0_v3, val_main_call0_v2, val_main_call0_v1, val_main_call0_c, val_main_call0_v0, val_main_v56, val_main_c, val_main_v55, gated, mixed]
  have hz : (id (constant Reference11Ideal.S_ .f32 0x00000000#32) ix0 : Ideal .f32) = 0 := Ideal.ofBits_zero .f32
  have hr : (R : ℕ) % 128 = r.val := by omega
  have hv : ∀ s : Fin 128, (k0_pay6 (iblk m c 3 t) (iblk m c 4 t) (k0_pay4 (iblk m c 1 t)) (k0_pay5 (iblk m c 1 t))) (ix2 s L) = val_main_v54 (F := Ideal) (m ((c : Thread nD τ).loc main_arg0)) (m ((c : Thread nD τ).loc main_arg2)) (m ((c : Thread nD τ).loc main_arg3)) (ix2 ⟨(R : ℕ) / 128 * 128 + s.val, by omega⟩ L) := fun s =>
    hidden_apply m c t s L _ (by show (R : ℕ) / 128 * 128 + s.val = _; omega)
  have hb : iblk m c 6 t (ix2 r L) = m (c.tc.loc main_arg5) (ix2 ⟨(R : ℕ) % 128, by omega⟩ L) := by
    blk_point [iblk, V, idx t]
  have hw : ∀ s : Fin 128, (if x.val < 64 then iblk m c 5 t (ix3 ⟨2 * p, by omega⟩ r s) else iblk m c 5 t (ix3 ⟨2 * p + 1, by omega⟩ r s))
      = m (c.tc.loc main_arg4) (ix3 ⟨(L : ℕ) / 64, by omega⟩ ⟨(R : ℕ) % 128, by omega⟩ s) := fun s => by
    by_cases h : x.val < 64
    · rw [if_pos h]
      blk_point [iblk, V, idx t]
    · rw [if_neg h]
      blk_point [iblk, V, idx t]
  simp only [hv, hb, hw]
  congr 3
  exact Finset.sum_congr rfl fun s _ => by rw [tril _ s _ _ hz, if_congr (show s.val ≤ r.val ↔ s.val ≤ (R : ℕ) % 128 by rw [hr]) rfl rfl]

end Cert.GateFwd

end
-- ==== Proof.GateFwdArray.lean ====
/- The spatial gate: the branch the call writes, the others left as they were. -/
module

public import proofs.«01_k».proof.Proof.Gen.Kernel11Ideal.Frame
public import proofs.«01_k».proof.Proof.Gen.Reference11Ideal.Read
public import proofs.«01_k».proof.Proof.GateFwdMix
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateFwd

open Cert.Kernel11Ideal Cert.Kernel11Ideal.Gen Cert.Reference11Ideal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The first pair of heads: the kernel's columns are the reference's. -/
theorem columns0 (c : Dev nD) (t : Fin cfg0.N) (r x : Fin 128) (R : Fin 2048) (L : Fin 512)
    (hR : (R : ℕ) = t.val * 128 + r.val) (hL : (L : ℕ) = 0 + x.val) :
    k0_pay12 (F := Ideal) (iblk m c 6 t) (k0_pay9 (iblk m c 2 t)) (k0_pay10 (iblk m c 3 t) (iblk m c 4 t) (iblk m c 5 t) (k0_pay4 (iblk m c 1 t)) (k0_pay5 (iblk m c 1 t))) (k0_pay11 (k0_pay3 (iblk m c 0 t))) (ix2 r x) = val_main_v68 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 R L) := by
  have hl : (⟨x, by omega⟩ : Fin 512) = L := Fin.ext (hL.trans (Nat.zero_add _)).symm
  rw [piece0_apply _ _ _ _ _ _ _ _ r x, hl]
  exact reference_apply m c t 0 (by omega) r x R L hR hL

set_option maxHeartbeats 1600000 in
/-- The second pair of heads: the kernel's columns are the reference's. -/
theorem columns1 (c : Dev nD) (t : Fin cfg0.N) (r x : Fin 128) (R : Fin 2048) (L : Fin 512)
    (hR : (R : ℕ) = t.val * 128 + r.val) (hL : (L : ℕ) = 128 + x.val) :
    k0_pay13 (F := Ideal) (iblk m c 5 t) (iblk m c 6 t) (k0_pay3 (iblk m c 0 t)) (k0_pay6 (iblk m c 3 t) (iblk m c 4 t) (k0_pay4 (iblk m c 1 t)) (k0_pay5 (iblk m c 1 t))) k0_pay7 k0_pay8 (k0_pay9 (iblk m c 2 t)) (ix2 r x) = val_main_v68 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 R L) := by
  have hl : (⟨128 + x, by omega⟩ : Fin 512) = L := Fin.ext hL.symm
  rw [piece1_apply _ _ _ _ _ r x, hl]
  exact reference_apply m c t 1 (by omega) r x R L hR hL

set_option maxHeartbeats 1600000 in
/-- The third pair of heads: the kernel's columns are the reference's. -/
theorem columns2 (c : Dev nD) (t : Fin cfg0.N) (r x : Fin 128) (R : Fin 2048) (L : Fin 512)
    (hR : (R : ℕ) = t.val * 128 + r.val) (hL : (L : ℕ) = 256 + x.val) :
    k0_pay21 (F := Ideal) (iblk m c 6 t) (k0_pay3 (iblk m c 0 t)) (k0_pay9 (iblk m c 2 t)) (k0_pay15 (iblk m c 5 t) (k0_pay6 (iblk m c 3 t) (iblk m c 4 t) (k0_pay4 (iblk m c 1 t)) (k0_pay5 (iblk m c 1 t))) k0_pay7 k0_pay8) (k0_pay16 (iblk m c 5 t) k0_pay7) (k0_pay17 (k0_pay6 (iblk m c 3 t) (iblk m c 4 t) (k0_pay4 (iblk m c 1 t)) (k0_pay5 (iblk m c 1 t))) k0_pay8) (ix2 r x) = val_main_v68 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 R L) := by
  have hl : (⟨256 + x, by omega⟩ : Fin 512) = L := Fin.ext hL.symm
  rw [piece2_apply _ _ _ _ _ r x, hl]
  exact reference_apply m c t 2 (by omega) r x R L hR hL

set_option maxHeartbeats 1600000 in
/-- The fourth pair of heads: the kernel's columns are the reference's. -/
theorem columns3 (c : Dev nD) (t : Fin cfg0.N) (r x : Fin 128) (R : Fin 2048) (L : Fin 512)
    (hR : (R : ℕ) = t.val * 128 + r.val) (hL : (L : ℕ) = 384 + x.val) :
    k0_pay18 (F := Ideal) (iblk m c 5 t) (iblk m c 6 t) (k0_pay3 (iblk m c 0 t)) (k0_pay6 (iblk m c 3 t) (iblk m c 4 t) (k0_pay4 (iblk m c 1 t)) (k0_pay5 (iblk m c 1 t))) k0_pay7 k0_pay8 (k0_pay9 (iblk m c 2 t)) (ix2 r x) = val_main_v68 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 R L) := by
  have hl : (⟨384 + x, by omega⟩ : Fin 512) = L := Fin.ext hL.symm
  rw [piece3_apply _ _ _ _ _ r x, hl]
  exact reference_apply m c t 3 (by omega) r x R L hR hL

set_option maxHeartbeats 1600000 in
/-- The branches after the call: the second one is the reference's. -/
theorem final7 (c : Dev nD) : (dats m 0 c).arrAt 7 cfg0.N = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hw : (dats m 0 c).arrAt 7 cfg0.N = fun i : S4x2048x512.Idx => if (i 0 : ℕ) = 1 then val_main_v68 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 (i 1) (i 2)) else (dats m 0 c).A 7 i := by
    refine (dats m 0 c).arrAt_eq_of_coversWhere 7 _ (fun β => β (0 : Fin 3) = 1) (by decide +kernel) (fun t hf y => ?_) (fun j => by
      blk_simp [Pipeline.Window.cell_apply]; omega)
    blk_simp
    rw [after0_7]
    have ht : t.val < 16 := t.isLt
    unfold outsAt0
    frame_out
    canon_tiles y h
    · pointwise [k0_pay2]
      exact columns3 m c t (y 1) (y 2) _ _ (by blk_simp [idx t]; omega) (by blk_simp [idx t]; omega)
    · pointwise [k0_pay1]
      exact columns2 m c t (y 1) (y 2) _ _ (by blk_simp [idx t]; omega) (by blk_simp [idx t]; omega)
    · pointwise [k0_pay20]
      exact columns1 m c t (y 1) (y 2) _ _ (by blk_simp [idx t]; omega) (by blk_simp [idx t]; omega)
    · pointwise [k0_pay19]
      exact columns0 m c t (y 1) (y 2) _ _ (by blk_simp [idx t]; omega) (by blk_simp [idx t]; omega)
  rw [hw]
  funext i
  by_cases h : (i 0 : ℕ) = 1
  · rw [if_pos h]
    pointwise [val_main_v73, val_main_v72, val_main_v71, val_main_v70, val_main_v69]
    have h4 : (i 0 : ℕ) < 4 := (i 0).isLt
    rw [dif_neg (by omega), dif_pos (by omega)]
  · rw [if_neg h]
    rw [A_eq]
    entry_read
    pointwise [val_main_v73, val_main_v72, val_main_v71, val_main_v70, val_main_v69]
    have h4 : (i 0 : ℕ) < 4 := (i 0).isLt
    by_cases h0 : (i 0 : ℕ) < 1
    · rw [dif_pos h0]
    · rw [dif_neg h0, dif_neg (by omega)]
      have e : (i 0 : ℕ) = 2 + ((i 0 : ℕ) - 1 - 1) := by omega
      idx_vars i
      blk_point

end Cert.GateFwd

end
-- ==== Proof.GateFwdClaim.lean ====
/- The spatial gate: kernel and reference agree. -/
module

public import proofs.«01_k».proof.Defs
public import proofs.«01_k».proof.Proof.Gen.Kernel11Ideal.Value
public import proofs.«01_k».proof.Proof.Gen.Reference11Ideal.Run
public import proofs.«01_k».proof.Proof.GateFwdArray
public import Idealize.ShloMosaic.Lib.Claim

@[expose] public section

set_option maxRecDepth 16384

noncomputable section

namespace Cert.GateFwd

open Idealize.ShloMosaic Idealize.ShloMosaic.TcCoe Idealize.SL.Sem

/-- The reference's frame: it runs, keeps its arguments, and leaves every counter at zero. -/
theorem reference_frame : Cert.quiescent_Reference11Ideal (hReference11Ideal := Cert.Reference11Ideal.Gen.facts) := fun m g _ =>
  (θ_run _ _ _).mono (fun r h => ⟨fun c => (h c).2, Idealize.ShloMosaic.sem_eq_zero_of_no_sems (by decide) r.2⟩)
    (Cert.Reference11Ideal.Value.run (F := Ideal) m g)

/-- The value claim. -/
theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Reference11Ideal.Read.val_main_v73 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)),
    (θ_run _ _ _).mono (fun r h c => ?_) (Cert.Kernel11Ideal.Value.run_blocks m g),
    (θ_run _ _ _).mono (fun r h c => ?_) (Cert.Reference11Ideal.Value.run m' g')⟩
  · obtain ⟨h0, ha⟩ := h c
    exact ⟨h0.trans (final7 m c), ha⟩
  · obtain ⟨h0, ha⟩ := h c
    obtain ⟨e0, e1, e2, e3, e4, e5⟩ := hagree c
    replace h0 := h0.trans (Cert.Reference11Ideal.Read.val_main_v73_eq m' c)
    rw [e0, e1, e2, e3, e4, e5] at h0
    exact ⟨h0, ha⟩

end Cert.GateFwd

end
-- ==== Proof.ShortConvFwdArray.lean ====
/- The gated short convolution in column tiles of 128 lanes, written into the fourth branch. -/
module

public import proofs.«01_k».proof.Proof.Gen.Kernel12Ideal.Frame
public import proofs.«01_k».proof.Proof.Gen.Reference12Ideal.Read
public import proofs.«01_k».proof.Proof.Shift
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ShortConvFwd

open Cert.Kernel12Ideal Cert.Kernel12Ideal.Gen Cert.Reference12Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the column tile is `t`; a tile's four columns of the projection lie side by side. -/
theorem idx : ∀ t : Fin cfg0.N, win0_0.index t = ![0, 72 + 4 * t.val] ∧ win0_1.index t = ![0, 72 + (4 * t.val + 1)]
    ∧ win0_2.index t = ![0, 72 + (4 * t.val + 2)] ∧ win0_3.index t = ![0, 72 + (4 * t.val + 3)]
    ∧ win0_4.index t = ![0, t.val] ∧ win0_5.index t = ![3, 0, t.val] :=
  (by decide +kernel : ∀ t : Fin grid0.N, _)

/-- The gated short convolution at one place: the convolved column, the filter, the two gates. -/
def gated (f : Fin 2048 → EReal) (w0 w1 w2 b g : EReal) (r : Fin 2048) : EReal :=
  b * (w0 * delay 2 f r + w1 * delay 1 f r + w2 * f r) * (g * Ideal.logistic g)

/-- A column of the convolved values. -/
def prod (v0 v1 : FVec Ideal S2048x128 .f32) (l : Fin 128) (k : Fin 2048) : EReal := v0 (ix2 k l) * v1 (ix2 k l)

/-- A tile of the kernel's result. -/
theorem tile_apply (v0 v1 v28 v30 : FVec Ideal S2048x128 .f32) (v4 v14 v24 : FVec Ideal S1x128 .f32) (r : Fin 2048) (l : Fin 128) :
    k0_pay2 (F := Ideal) v0 v1 v4 v14 v24 v28 v30 (ix2 r l)
      = gated (prod v0 v1 l) (v4 (ix2 0 l)) (v14 (ix2 0 l)) (v24 (ix2 0 l)) (v28 (ix2 r l)) (v30 (ix2 r l)) r := by
  pointwise [k0_pay2]
  rw [mul_select_delay 2 (by omega) (fun k => v0 (ix2 k l) * v1 (ix2 k l)) r _ _,
    mul_select_delay 1 (by omega) (fun k => v0 (ix2 k l) * v1 (ix2 k l)) r _ _]
  rfl

/-- The reference's gated short convolution. -/
theorem reference_apply (c : Dev nD) (r : Fin 2048) (l : Fin 512) : val_main_v41 (F := Ideal) (m ((c : Thread nD τ).loc main_arg0)) (m ((c : Thread nD τ).loc main_arg2)) (ix2 r l)
      = gated (fun k => val_main_v15 (F := Ideal) (m ((c : Thread nD τ).loc main_arg0)) (ix2 k l)) (m ((c : Thread nD τ).loc main_arg2) (ix2 0 l))
        (m ((c : Thread nD τ).loc main_arg2) (ix2 1 l)) (m ((c : Thread nD τ).loc main_arg2) (ix2 2 l))
        (val_main_v4 (F := Ideal) (m ((c : Thread nD τ).loc main_arg0)) (ix2 r l)) (val_main_v13 (F := Ideal) (m ((c : Thread nD τ).loc main_arg0)) (ix2 r l)) r := by
  pointwise [val_main_v41, val_main_v40, val_main_call0_v5, val_main_call0_v4, val_main_call0_cst_0, val_main_call0_v3, val_main_call0_v2, val_main_call0_cst, val_main_call0_v1, val_main_call0_v0, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_0, val_main_v22, val_main_v21, val_main_v20, val_main_v19, val_main_v18, val_main_v17, val_main_v16, val_main_v14, val_main_cst, gated]
  rw [padded_eq_delay 2 1 1 rfl (fun k => val_main_v15 (F := Ideal) (m ((c : Thread nD τ).loc main_arg0)) (ix2 k l)) r _]
  rfl

set_option maxHeartbeats 1600000 in
/-- A tile of the kernel's result is the reference's. -/
theorem point_apply (c : Dev nD) (t : Fin cfg0.N) (r : Fin 2048) (l : Fin 128) (k : Fin 2048) (i : Fin 512) (h0 : (k : ℕ) = r)
    (h1 : (i : ℕ) = t.val * 128 + l.val) :
    k0_pay2 (F := Ideal) (iblk m c 1 t) (iblk m c 2 t) (View.ld (iblk m c 4 t) (Rect.unit ![0, 0] ![1, 128] inb_S3x128_S1x128_0_0))
      (View.ld (iblk m c 4 t) (Rect.unit ![1, 0] ![1, 128] inb_S3x128_S1x128_1_0))
      (View.ld (iblk m c 4 t) (Rect.unit ![2, 0] ![1, 128] inb_S3x128_S1x128_2_0)) (iblk m c 0 t) (iblk m c 3 t) (ix2 r l)
      = val_main_v41 (F := Ideal) (m ((c : Thread nD τ).loc main_arg0)) (m ((c : Thread nD τ).loc main_arg2)) (ix2 k i) := by
  have ht : t.val < 4 := t.isLt
  obtain rfl : k = r := Fin.ext h0
  rw [tile_apply, reference_apply]
  have hx : prod (iblk m c 1 t) (iblk m c 2 t) l = fun k => val_main_v15 (F := Ideal) (m ((c : Thread nD τ).loc main_arg0)) (ix2 k i) :=
    funext fun k => by
      unfold prod
      pointwise [val_main_v15, val_main_v10, val_main_v9, val_main_v8, val_main_v7, val_main_v6, val_main_v5, val_main_v1, val_main_v0]; blk_point [iblk, V, idx t]
  rw [hx]
  have hb : iblk m c 0 t (ix2 k l) = val_main_v4 (F := Ideal) (m ((c : Thread nD τ).loc main_arg0)) (ix2 k i) := by
    pointwise [val_main_v4, val_main_v3, val_main_v2, val_main_v1, val_main_v0]; blk_point [iblk, V, idx t]
  have hg : iblk m c 3 t (ix2 k l) = val_main_v13 (F := Ideal) (m ((c : Thread nD τ).loc main_arg0)) (ix2 k i) := by
    pointwise [val_main_v13, val_main_v12, val_main_v11, val_main_v1, val_main_v0]; blk_point [iblk, V, idx t]
  have hw : ∀ k : Fin 3, iblk m c 4 t (ix2 k l) = m ((c : Thread nD τ).loc main_arg2) (ix2 k i) := fun k => by blk_point [iblk, V, idx t]
  rw [hb, hg]
  pointwise
  rw [hw 0, hw 1, hw 2]

set_option maxHeartbeats 1600000 in
/-- The branch outputs: the fourth branch is the gated short convolution, the others are kept. -/
theorem final5 (c : Dev nD) : (dats m 0 c).arrAt 5 cfg0.N
    = val_main_v45 (F := Ideal) (m ((c : Thread nD τ).loc main_arg0)) (m ((c : Thread nD τ).loc main_arg1)) (m ((c : Thread nD τ).loc main_arg2)) := by
  have hw : (dats m 0 c).arrAt 5 cfg0.N = fun i : S4x2048x512.Idx => if (i 0 : ℕ) = 3 then val_main_v45 (F := Ideal) (m ((c : Thread nD τ).loc main_arg0)) (m ((c : Thread nD τ).loc main_arg1)) (m ((c : Thread nD τ).loc main_arg2)) i else (dats m 0 c).A 5 i := by
    refine (dats m 0 c).arrAt_eq_of_coversWhere 5 _ (fun β => β (0 : Fin 3) = 3) (by decide +kernel) (fun t hf y => ?_)
      (fun j => by blk_simp [Pipeline.Window.cell_apply]; omega)
    blk_simp
    rw [after0_5]
    have ht : t.val < 4 := t.isLt
    unfold outsAt0
    frame_out
    pointwise [k0_pay1, val_main_v45, val_main_v44, val_main_v43, val_main_v42]
    rw [dif_neg (by blk_simp [idx t]; omega)]
    exact point_apply m c t (y 1) (y 2) _ _ (by blk_simp [idx t]) (by blk_simp [idx t])
  rw [hw]
  funext i
  by_cases h : (i 0 : ℕ) = 3
  · rw [if_pos h]
  · rw [if_neg h]
    rw [A_eq]
    entry_read
    pointwise [val_main_v45, val_main_v44, val_main_v43, val_main_v42]
    have h4 : (i 0 : ℕ) < 4 := (i 0).isLt
    rw [dif_pos (by omega)]

end Cert.ShortConvFwd

end
-- ==== Proof.ShortConvFwdClaim.lean ====
/- The gated short convolution: kernel and reference agree. -/
module

public import proofs.«01_k».proof.Defs
public import proofs.«01_k».proof.Proof.Gen.Kernel12Ideal.Value
public import proofs.«01_k».proof.Proof.Gen.Reference12Ideal.Run
public import proofs.«01_k».proof.Proof.ShortConvFwdArray
public import Idealize.ShloMosaic.Lib.Claim

@[expose] public section

set_option maxRecDepth 16384

noncomputable section

namespace Cert.ShortConvFwd

open Idealize.ShloMosaic Idealize.ShloMosaic.TcCoe Idealize.SL.Sem

/-- The reference's frame: it runs, keeps its arguments, and leaves every counter at zero. -/
theorem reference_frame : Cert.quiescent_Reference12Ideal (hReference12Ideal := Cert.Reference12Ideal.Gen.facts) := fun m g _ =>
  (θ_run _ _ _).mono (fun r h => ⟨fun c => (h c).2, Idealize.ShloMosaic.sem_eq_zero_of_no_sems (by decide) r.2⟩)
    (Cert.Reference12Ideal.Value.run (F := Ideal) m g)

/-- The value claim. -/
theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Reference12Ideal.Read.val_main_v45 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    (θ_run _ _ _).mono (fun r h c => ?_) (Cert.Kernel12Ideal.Value.run_blocks m g),
    (θ_run _ _ _).mono (fun r h c => ?_) (Cert.Reference12Ideal.Value.run m' g')⟩
  · obtain ⟨h0, ha⟩ := h c
    exact ⟨h0.trans (final5 m c), ha⟩
  · obtain ⟨h0, ha⟩ := h c
    obtain ⟨e0, e1, e2⟩ := hagree c
    replace h0 := h0.trans (Cert.Reference12Ideal.Read.val_main_v45_eq m' c)
    rw [e0, e1, e2] at h0
    exact ⟨h0, ha⟩

end Cert.ShortConvFwd

end
-- ==== Proof.ConvArray.lean ====
/- The causal convolution and its activation in column tiles of 256 channels. -/
module

public import proofs.«01_k».proof.Proof.Gen.Kernel13Ideal.Frame
public import proofs.«01_k».proof.Proof.Gen.Reference13Ideal.Read
public import proofs.«01_k».proof.Proof.Shift
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Conv

open Cert.Kernel13Ideal Cert.Kernel13Ideal.Gen Cert.Reference13Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the column tile is `t`. -/
theorem idx : ∀ t : Fin cfg0.N, win0_0.index t = ![0, 20 + t.val] ∧ win0_1.index t = ![0, t.val] ∧ win0_2.index t = ![0, t.val]
    ∧ win0_3.index t = ![0, t.val] :=
  (by decide +kernel : ∀ t : Fin grid0.N, _)

/-- The convolution at one place: the column, the filter, the bias. -/
def conv (f : Fin 2048 → EReal) (w0 w1 w2 w3 b : EReal) (r : Fin 2048) : EReal :=
  w0 * delay 3 f r + w1 * delay 2 f r + w2 * delay 1 f r + w3 * f r + b

/-- A sum of five with its last term first. -/
theorem bias_first (a b c d e : EReal) : e + a + b + c + d = a + b + c + d + e := by ac_rfl

/-- A tile of the kernel's result; its convolution begins with the bias. -/
theorem tile_apply (v0 : FVec Ideal S2048x256 .f32) (v2 v5 v15 v25 v35 : FVec Ideal S1x256 .f32) (r : Fin 2048) (l : Fin 256) :
    k0_pay1 (F := Ideal) v0 (k0_pay2 v0 v2 v5 v15 v25) (k0_pay3 v35) (ix2 r l)
      = conv (fun k => v0 (ix2 k l)) (v5 (ix2 0 l)) (v15 (ix2 0 l)) (v25 (ix2 0 l)) (v35 (ix2 0 l)) (v2 (ix2 0 l)) r
        * Ideal.logistic (conv (fun k => v0 (ix2 k l)) (v5 (ix2 0 l)) (v15 (ix2 0 l)) (v25 (ix2 0 l)) (v35 (ix2 0 l)) (v2 (ix2 0 l)) r) := by
  pointwise [k0_pay1, k0_pay2, k0_pay3]
  rw [mul_select_delay 3 (by omega) (fun k => v0 (ix2 k l)) r _ _, mul_select_delay 2 (by omega) (fun k => v0 (ix2 k l)) r _ _,
    mul_select_delay 1 (by omega) (fun k => v0 (ix2 k l)) r _ _, bias_first]
  rfl

/-- The reference's convolution. -/
theorem reference_apply (c : Dev nD) (r : Fin 2048) (l : Fin 1024) : val_main_v35 (F := Ideal) (m ((c : Thread nD τ).loc main_arg0)) (m ((c : Thread nD τ).loc main_arg1)) (m ((c : Thread nD τ).loc main_arg2)) (ix2 r l)
      = conv (fun k => val_main_v0 (F := Ideal) (m ((c : Thread nD τ).loc main_arg0)) (ix2 k l)) (m ((c : Thread nD τ).loc main_arg1) (ix2 0 l))
        (m ((c : Thread nD τ).loc main_arg1) (ix2 1 l)) (m ((c : Thread nD τ).loc main_arg1) (ix2 2 l))
        (m ((c : Thread nD τ).loc main_arg1) (ix2 3 l)) (m ((c : Thread nD τ).loc main_arg2) (ix2 0 l)) r := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst_0, val_main_v9, val_main_v8, val_main_v7, val_main_v6, val_main_v5, val_main_v4, val_main_v3, val_main_v2, val_main_cst, val_main_v1, conv]
  rw [padded_eq_delay 3 1 2 rfl (fun k => val_main_v0 (F := Ideal) (m ((c : Thread nD τ).loc main_arg0)) (ix2 k l)) r _, padded_eq_delay 3 2 1 rfl (fun k => val_main_v0 (F := Ideal) (m ((c : Thread nD τ).loc main_arg0)) (ix2 k l)) r _]
  rfl

set_option maxHeartbeats 1600000 in
/-- A tile of the kernel's result is the reference's. -/
theorem point_apply (c : Dev nD) (t : Fin cfg0.N) (y : S2048x256.Idx) (i : S2048x1024.Idx) (h0 : (i 0 : ℕ) = y 0)
    (h1 : (i 1 : ℕ) = t.val * 256 + (y 1 : ℕ)) :
    k0_pay1 (F := Ideal) (iblk m c 0 t) (k0_pay2 (iblk m c 0 t) (iblk m c 2 t) (View.ld (iblk m c 1 t) r0_2) (View.ld (iblk m c 1 t) r0_3)
        (View.ld (iblk m c 1 t) r0_4)) (k0_pay3 (View.ld (iblk m c 1 t) r0_5)) y
      = val_main_v36 (F := Ideal) (m ((c : Thread nD τ).loc main_arg0)) (m ((c : Thread nD τ).loc main_arg1)) (m ((c : Thread nD τ).loc main_arg2)) i := by
  have ht : t.val < 4 := t.isLt
  idx_vars y
  idx_vars i
  obtain rfl : i0 = y0 := Fin.ext h0
  rw [tile_apply]
  pointwise [val_main_v36, val_main_call0_v5, val_main_call0_v4, val_main_call0_cst_0, val_main_call0_v3, val_main_call0_v2, val_main_call0_cst, val_main_call0_v1, val_main_call0_v0]
  rw [reference_apply]
  have hx : ∀ k : Fin 2048, iblk m c 0 t (ix2 k y1) = val_main_v0 (F := Ideal) (m ((c : Thread nD τ).loc main_arg0)) (ix2 k i1) := fun k => by
    pointwise [val_main_v0]; blk_point [iblk, V, idx t]
  simp only [hx]
  have hw : ∀ k : Fin 4, iblk m c 1 t (ix2 k y1) = m ((c : Thread nD τ).loc main_arg1) (ix2 k i1) := fun k => by blk_point [iblk, V, idx t]
  have hb : iblk m c 2 t (ix2 0 y1) = m ((c : Thread nD τ).loc main_arg2) (ix2 0 i1) := by blk_point [iblk, V, idx t]
  rw [hb, hw 0, hw 1, hw 2, hw 3]
  rfl

set_option maxHeartbeats 1600000 in
/-- The activated convolution. -/
theorem final3 (c : Dev nD) : (dats m 0 c).arrAt 3 cfg0.N
    = val_main_v36 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 4 := t.isLt
  frame_out
  exact point_apply m c t y _ (by blk_simp [idx t]) (by blk_simp [idx t])

end Cert.Conv

end
-- ==== Proof.ConvClaim.lean ====
/- The causal convolution and its activation: kernel and reference agree. -/
module

public import proofs.«01_k».proof.Defs
public import proofs.«01_k».proof.Proof.Gen.Kernel13Ideal.Value
public import proofs.«01_k».proof.Proof.Gen.Reference13Ideal.Run
public import proofs.«01_k».proof.Proof.ConvArray
public import Idealize.ShloMosaic.Lib.Claim

@[expose] public section

set_option maxRecDepth 16384

noncomputable section

namespace Cert.Conv

open Idealize.ShloMosaic Idealize.ShloMosaic.TcCoe Idealize.SL.Sem

/-- The reference's frame: it runs, keeps its arguments, and leaves every counter at zero. -/
theorem reference_frame : Cert.quiescent_Reference13Ideal (hReference13Ideal := Cert.Reference13Ideal.Gen.facts) := fun m g _ =>
  (θ_run _ _ _).mono (fun r h => ⟨fun c => (h c).2, Idealize.ShloMosaic.sem_eq_zero_of_no_sems (by decide) r.2⟩)
    (Cert.Reference13Ideal.Value.run (F := Ideal) m g)

/-- The value claim. -/
theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Reference13Ideal.Read.val_main_v36 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    (θ_run _ _ _).mono (fun r h c => ?_) (Cert.Kernel13Ideal.Value.run_blocks m g),
    (θ_run _ _ _).mono (fun r h c => ?_) (Cert.Reference13Ideal.Value.run m' g')⟩
  · obtain ⟨h0, ha⟩ := h c
    exact ⟨h0.trans (final3 m c), ha⟩
  · obtain ⟨h0, ha⟩ := h c
    obtain ⟨e0, e1, e2⟩ := hagree c
    replace h0 := h0.trans (Cert.Reference13Ideal.Read.val_main_v36_eq m' c)
    rw [e0, e1, e2] at h0
    exact ⟨h0, ha⟩

end Cert.Conv

end
-- ==== Proof.SiluGrad.lean ====
/- The derivative of the activation `x · σ(x)`, written two ways. -/
module

public import Idealize.ShloMosaic.Lib.Pointwise

@[expose] public section

noncomputable section

namespace Cert

open Idealize.ShloMosaic

/-- One less one. -/
theorem one_sub_one : (1 : EReal) - 1 = 0 := by
  have h : ((1 : ℝ) : EReal) - ((1 : ℝ) : EReal) = ((1 - 1 : ℝ) : EReal) := (EReal.coe_sub 1 1).symm
  simpa using h

/-- For a finite gradient `d` the derivative of `x · σ(x)` may be taken as one factor or by the product rule. -/
theorem silu_grad (x : EReal) (d : ℝ) :
    (d : EReal) * (Ideal.logistic x * (1 + x * (1 - Ideal.logistic x)))
      = d * Ideal.logistic x + x * d * (Ideal.logistic x * (1 - Ideal.logistic x)) := by
  induction x with
  | bot => simp [Ideal.logistic_bot]
  | top => simp [Ideal.logistic_top, one_sub_one]
  | coe x =>
    rw [Ideal.logistic_coe]
    norm_cast
    ring

/-- The bit pattern of infinity. -/
theorem ofBits_inf : Ideal.ofBits .f32 0x7F800000#32 = (⊤ : EReal) := by
  simp [Ideal.ofBits, Ideal.ieee]

/-- A value below infinity in size is a real number. -/
theorem real_of_abs_lt (x : EReal) (h : BitVec.ofBool (decide (max x (-x) < Ideal.ofBits .f32 0x7F800000#32)) = 1#1) :
    ∃ r : ℝ, x = (r : EReal) := by
  rw [ofBits_inf] at h
  induction x with
  | bot => simp at h
  | top => simp at h
  | coe r => exact ⟨r, rfl⟩

end Cert

end
-- ==== Proof.ShortConvTile.lean ====
/- The gradient of the gated short convolution: a column tile of 128 channels. -/
module

public import proofs.«01_k».proof.Proof.Gen.Kernel14Ideal.Frame
public import proofs.«01_k».proof.Proof.Shift
public import proofs.«01_k».proof.Proof.SiluGrad
public import Idealize.ShloMosaic.Lib.Pipeline.ValueKit
public import Idealize.ShloMosaic.Lib.Pointwise

@[expose] public section

set_option maxRecDepth 16384

noncomputable section

namespace Cert.ShortConv

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- A column of the filtered product. -/
def prod (v0 v1 : FVec Ideal S2048x128 .f32) (l : Fin 128) (k : Fin 2048) : EReal := v0 (ix2 k l) * v1 (ix2 k l)

/-- The filtered values, at one place: three taps. -/
def conv (p : Fin 2048 → EReal) (w0 w1 w2 : EReal) (r : Fin 2048) : EReal := w0 * delay 2 p r + w1 * delay 1 p r + w2 * p r

/-- The gradient entering the filter, at one place, for the outer gate `b`, the incoming gradient `d` and the activated gate `g`. -/
def enter (b d g : EReal) : EReal := b * (d * (g * Ideal.logistic g))

/-- The gradient of the filtered product, at one place. -/
def back (u : Fin 2048 → EReal) (w0 w1 w2 : EReal) (r : Fin 2048) : EReal := w0 * advance 2 u r + w1 * advance 1 u r + w2 * u r

/-- The entering gradient of a tile. -/
theorem enter_apply (g d b : FVec Ideal S2048x128 .f32) (j : S2048x128.Idx) :
    k0_pay16 (F := Ideal) g (k0_pay10 g) d b j = enter (b j) (d j) (g j) := by
  pointwise [k0_pay16, k0_pay10]
  rw [mul_comm (d j) (b j), mul_assoc]
  rfl

/-- The filtered values of a tile. -/
theorem conv_apply (v0 v1 : FVec Ideal S2048x128 .f32) (w0 w1 w2 : FVec Ideal S1x128 .f32) (r : Fin 2048) (l : Fin 128) :
    k0_pay9 (F := Ideal) v0 v1 w0 w1 w2 (ix2 r l) = conv (prod v0 v1 l) (w0 (ix2 0 l)) (w1 (ix2 0 l)) (w2 (ix2 0 l)) r := by
  pointwise [k0_pay9, k0_pay8, k0_pay7, k0_pay6]
  exact congrArg₂ _ (congrArg₂ _ (mul_select_delay 2 (by omega) (prod v0 v1 l) r _ _) (mul_select_delay 1 (by omega) (prod v0 v1 l) r _ _)) rfl

/-- The gradient of the filtered product, in a tile. -/
theorem back_apply (v2 v29 v31 v32 : FVec Ideal S2048x128 .f32) (w0 w1 w2 : FVec Ideal S1x128 .f32) (r : Fin 2048) (l : Fin 128) :
    k0_pay2 (F := Ideal) (k0_pay16 v2 v29 v31 v32) (k0_pay17 v2 v29 v31 v32 w0) w1 k0_pay19 (k0_pay20 v2 v29 v31 v32) (Scalar.ofBits .f32 0x00000000#32) w2 (ix2 r l)
      = back (fun k => k0_pay16 v2 v29 v31 v32 (ix2 k l)) (w0 (ix2 0 l)) (w1 (ix2 0 l)) (w2 (ix2 0 l)) r := by
  pointwise [k0_pay2, k0_pay17, k0_pay19, k0_pay20]
  rw [mul_select_advance 2 2046 (by omega) (by omega) (fun k => k0_pay16 v2 v29 v31 v32 (ix2 k l)) r _ _,
    mul_select_advance 1 2047 (by omega) (by omega) (fun k => k0_pay16 v2 v29 v31 v32 (ix2 k l)) r _ _]
  rfl

/-- The gradient of the first factor of the filtered product. -/
theorem inner_gate_apply (v1 u a z : FVec Ideal S2048x128 .f32) (b : S2048x128.Idx → BitVec 1) (w1 w2 : FVec Ideal S1x128 .f32) (s : Ideal .f32) (j : S2048x128.Idx) :
    k0_pay4 (F := Ideal) v1 u a w1 b z s w2 j = k0_pay2 u a w1 b z s w2 j * v1 j := rfl

/-- The gradient of the second factor of the filtered product. -/
theorem values_apply (v0 u a z : FVec Ideal S2048x128 .f32) (b : S2048x128.Idx → BitVec 1) (w1 w2 : FVec Ideal S1x128 .f32) (s : Ideal .f32) (j : S2048x128.Idx) :
    k0_pay5 (F := Ideal) v0 u a w1 b z s w2 j = k0_pay2 u a w1 b z s w2 j * v0 j := rfl

/-- The first row of the filter's gradient, in a tile. -/
theorem row0_apply (v0 v1 v2 v29 v31 v32 : FVec Ideal S2048x128 .f32) (l : Fin 128) : k0_pay18 (F := Ideal) v2 (k0_pay7 v0 v1) v29 v31 v32 (ix2 0 l)
    = ∑ r : Fin 2048, k0_pay16 v2 v29 v31 v32 (ix2 r l) * delay 2 (prod v0 v1 l) r := by
  pointwise [k0_pay18, k0_pay7, k0_pay6]
  exact Finset.sum_congr rfl fun r _ => mul_select_delay 2 (by omega) (prod v0 v1 l) r _ _

/-- The second row of the filter's gradient, in a tile. -/
theorem row1_apply (v0 v1 u : FVec Ideal S2048x128 .f32) (l : Fin 128) : k0_pay1 (F := Ideal) (k0_pay8 v0 v1) u (ix2 0 l)
    = ∑ r : Fin 2048, u (ix2 r l) * delay 1 (prod v0 v1 l) r := by
  pointwise [k0_pay1, k0_pay8, k0_pay6]
  exact Finset.sum_congr rfl fun r _ => mul_select_delay 1 (by omega) (prod v0 v1 l) r _ _

/-- The third row of the filter's gradient, in a tile. -/
theorem row2_apply (v0 v1 u : FVec Ideal S2048x128 .f32) (l : Fin 128) : k0_pay3 (F := Ideal) (k0_pay6 v0 v1) u (ix2 0 l)
    = ∑ r : Fin 2048, u (ix2 r l) * prod v0 v1 l r := by
  pointwise [k0_pay3, k0_pay6]
  rfl

/-- The outer gate's gradient, in a tile. -/
theorem outer_apply (v0 v1 v2 : FVec Ideal S2048x128 .f32) (v30 : FVec Ideal S1x2048x128 .f32) (w0 w1 w2 : FVec Ideal S1x128 .f32) (r : Fin 2048) (l : Fin 128) :
    k0_pay14 (F := Ideal) (k0_pay12 v0 v1 w0 w1 w2 v30) (k0_pay13 v2) (ix2 r l)
      = (v30 (ix3 0 r l) * (v2 (ix2 r l) * Ideal.logistic (v2 (ix2 r l)))) * conv (prod v0 v1 l) (w0 (ix2 0 l)) (w1 (ix2 0 l)) (w2 (ix2 0 l)) r := by
  pointwise [k0_pay14, k0_pay12, k0_pay13, k0_pay10, k0_pay11]
  rw [conv_apply, mul_right_comm]

/-- The inner gate's gradient, in a tile, for finite values of its factors. -/
theorem inner_apply (v2 v28 v31 v32 : FVec Ideal S2048x128 .f32) (j : S2048x128.Idx) (x y z : ℝ) (hx : v32 j = x) (hy : v28 j = y) (hz : v31 j = z) :
    k0_pay15 (F := Ideal) v2 v28 (k0_pay10 v2) v31 v32 j
      = (v32 j * v28 j * v31 j) * Ideal.logistic (v2 j) + v2 j * (v32 j * v28 j * v31 j) * (Ideal.logistic (v2 j) * (1 - Ideal.logistic (v2 j))) := by
  pointwise [k0_pay15, k0_pay10]
  have e : v31 j * v32 j * v28 j = ((x * y * z : ℝ) : EReal) := by
    rw [hx, hy, hz]
    norm_cast
    ring
  have e' : v32 j * v28 j * v31 j = ((x * y * z : ℝ) : EReal) := by
    rw [hx, hy, hz]
    norm_cast
  rw [e, e']
  exact silu_grad (v2 j) (x * y * z)

end Cert.ShortConv

end
-- ==== Proof.ShortConvRef.lean ====
/- The gradient of the gated short convolution: the reference, place by place. -/
module

public import proofs.«01_k».proof.Proof.Gen.Kernel14Ideal.Frame
public import proofs.«01_k».proof.Proof.Gen.Reference14Ideal.Read
public import proofs.«01_k».proof.Proof.ShortConvTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ShortConv

open Cert.Kernel14Ideal Cert.Kernel14Ideal.Gen Cert.Reference14Ideal.Read
open Idealize.ShloMosaic Idealize.ShloMosaic.TcCoe Idealize.SL.Sem
open Idealize.ShloMosaic.Pipeline (Dat)

variable (m : (ℓ : Loc nD τ sig) → Buf (Elt Ideal) ℓ)

/-- The filtered values of the reference. -/
theorem ref_conv (c : Dev nD) (r : Fin 2048) (l : Fin 512) : val_main_v39 (F := Ideal) (m ((c : Thread nD τ).loc main_arg0)) (m ((c : Thread nD τ).loc main_arg3)) (ix2 r l)
    = conv (fun k => val_main_v15 (F := Ideal) (m ((c : Thread nD τ).loc main_arg0)) (ix2 k l)) ((m ((c : Thread nD τ).loc main_arg3)) (ix2 0 l)) ((m ((c : Thread nD τ).loc main_arg3)) (ix2 1 l)) ((m ((c : Thread nD τ).loc main_arg3)) (ix2 2 l)) r := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_cst_1, val_main_v23, val_main_v22, val_main_v21, val_main_v20, val_main_v19, val_main_v18, val_main_v16, val_main_v14, val_main_cst, conv]
  rw [padded_eq_delay 2 1 1 rfl (fun k => val_main_v15 (F := Ideal) (m ((c : Thread nD τ).loc main_arg0)) (ix2 k l)) r _]
  rfl

/-- The entering gradient of the reference. -/
theorem ref_enter (c : Dev nD) (r : Fin 2048) (l : Fin 512) : val_main_v48 (F := Ideal) (m ((c : Thread nD τ).loc main_arg0)) (m ((c : Thread nD τ).loc main_arg2)) (ix2 r l)
    = enter (val_main_v4 (F := Ideal) (m ((c : Thread nD τ).loc main_arg0)) (ix2 r l)) ((m ((c : Thread nD τ).loc main_arg2)) (ix3 3 r l)) (val_main_v13 (F := Ideal) (m ((c : Thread nD τ).loc main_arg0)) (ix2 r l)) := by
  pointwise [val_main_v48, val_main_v46, val_main_v44, val_main_v43, val_main_v41_0, val_main_v41_2, val_main_call0_v4, val_main_call0_cst_0, val_main_call0_v3, val_main_call0_v2, val_main_call0_cst, val_main_call0_v1, val_main_call0_v0, enter]
  rfl

/-- The gradient of the filtered product in the reference. -/
theorem ref_back (c : Dev nD) (r : Fin 2048) (l : Fin 512) : val_main_v82 (F := Ideal) (m ((c : Thread nD τ).loc main_arg0)) (m ((c : Thread nD τ).loc main_arg2)) (m ((c : Thread nD τ).loc main_arg3)) (ix2 r l)
    = back (fun k => val_main_v48 (F := Ideal) (m ((c : Thread nD τ).loc main_arg0)) (m ((c : Thread nD τ).loc main_arg2)) (ix2 k l)) ((m ((c : Thread nD τ).loc main_arg3)) (ix2 0 l)) ((m ((c : Thread nD τ).loc main_arg3)) (ix2 1 l)) ((m ((c : Thread nD τ).loc main_arg3)) (ix2 2 l)) r := by
  pointwise [val_main_v82, val_main_v77, val_main_v76, val_main_cst_12, val_main_v71, val_main_v70, val_main_v66, val_main_v65, val_main_cst_8, val_main_v60, val_main_v59, val_main_v56, val_main_cst_4, val_main_v51, val_main_v50, val_main_v36, val_main_v34, val_main_v33, val_main_v29, val_main_v27, val_main_v26, val_main_v21, val_main_v19, val_main_v18, back]
  rw [mul_padded_advance 1 2 1 rfl (fun k => val_main_v48 (F := Ideal) (m ((c : Thread nD τ).loc main_arg0)) (m ((c : Thread nD τ).loc main_arg2)) (ix2 k l)) _ r, mul_dite_advance 2 (fun k => val_main_v48 (F := Ideal) (m ((c : Thread nD τ).loc main_arg0)) (m ((c : Thread nD τ).loc main_arg2)) (ix2 k l)) _ r, add_right_comm, add_assoc, add_comm]

/-- The values the first tap reads. -/
theorem ref_window0 (c : Dev nD) (r : Fin 2048) (l : Fin 512) : val_main_v20 (F := Ideal) (m ((c : Thread nD τ).loc main_arg0)) (ix2 r l) = delay 2 (fun k => val_main_v15 (F := Ideal) (m ((c : Thread nD τ).loc main_arg0)) (ix2 k l)) r := by
  pointwise [val_main_v20, val_main_v16, val_main_v14, val_main_cst]
  rfl

/-- The values the second tap reads. -/
theorem ref_window1 (c : Dev nD) (r : Fin 2048) (l : Fin 512) : val_main_v28 (F := Ideal) (m ((c : Thread nD τ).loc main_arg0)) (ix2 r l) = delay 1 (fun k => val_main_v15 (F := Ideal) (m ((c : Thread nD τ).loc main_arg0)) (ix2 k l)) r := by
  pointwise [val_main_v28, val_main_v16, val_main_v14, val_main_cst]
  exact padded_eq_delay 2 1 1 rfl (fun k => val_main_v15 (F := Ideal) (m ((c : Thread nD τ).loc main_arg0)) (ix2 k l)) r _

/-- The first row of the filter's gradient in the reference. -/
theorem ref_row0 (c : Dev nD) (l : Fin 512) : val_main_v80 (F := Ideal) (m ((c : Thread nD τ).loc main_arg0)) (m ((c : Thread nD τ).loc main_arg2)) (ix2 0 l) = ∑ r : Fin 2048, val_main_v48 (F := Ideal) (m ((c : Thread nD τ).loc main_arg0)) (m ((c : Thread nD τ).loc main_arg2)) (ix2 r l) * delay 2 (fun k => val_main_v15 (F := Ideal) (m ((c : Thread nD τ).loc main_arg0)) (ix2 k l)) r := by
  pointwise [val_main_v80, val_main_v79, val_main_cst_13, val_main_v78, val_main_v75, val_main_cst_11, val_main_v74, val_main_v73, val_main_cst_10, val_main_v72, val_main_v69, val_main_v68, val_main_cst_9, val_main_v67, val_main_v64, val_main_cst_7, val_main_v63, val_main_v62, val_main_cst_6, val_main_v61, val_main_v58, val_main_cst_5, val_main_v57, val_main_v55, val_main_cst_3, val_main_v54, val_main_v53, val_main_cst_2, val_main_v52, val_main_v35, val_main_v16, val_main_v14, val_main_cst]
  rw [Fin.sum_univ_one]
  exact Finset.sum_congr rfl fun r _ => by rw [ref_window0]

/-- The second row of the filter's gradient in the reference. -/
theorem ref_row1 (c : Dev nD) (l : Fin 512) : val_main_v80 (F := Ideal) (m ((c : Thread nD τ).loc main_arg0)) (m ((c : Thread nD τ).loc main_arg2)) (ix2 1 l) = ∑ r : Fin 2048, val_main_v48 (F := Ideal) (m ((c : Thread nD τ).loc main_arg0)) (m ((c : Thread nD τ).loc main_arg2)) (ix2 r l) * delay 1 (fun k => val_main_v15 (F := Ideal) (m ((c : Thread nD τ).loc main_arg0)) (ix2 k l)) r := by
  pointwise [val_main_v80, val_main_v79, val_main_cst_13, val_main_v78, val_main_v75, val_main_cst_11, val_main_v74, val_main_v73, val_main_cst_10, val_main_v72, val_main_v69, val_main_v68, val_main_cst_9, val_main_v67, val_main_v64, val_main_cst_7, val_main_v63, val_main_v62, val_main_cst_6, val_main_v61, val_main_v58, val_main_cst_5, val_main_v57, val_main_v55, val_main_cst_3, val_main_v54, val_main_v53, val_main_cst_2, val_main_v52, val_main_v35, val_main_v16, val_main_v14, val_main_cst]
  rw [Fin.sum_univ_one]
  exact Finset.sum_congr rfl fun r _ => by rw [ref_window1]

/-- The third row of the filter's gradient in the reference. -/
theorem ref_row2 (c : Dev nD) (l : Fin 512) : val_main_v80 (F := Ideal) (m ((c : Thread nD τ).loc main_arg0)) (m ((c : Thread nD τ).loc main_arg2)) (ix2 2 l) = ∑ r : Fin 2048, val_main_v48 (F := Ideal) (m ((c : Thread nD τ).loc main_arg0)) (m ((c : Thread nD τ).loc main_arg2)) (ix2 r l) * val_main_v15 (F := Ideal) (m ((c : Thread nD τ).loc main_arg0)) (ix2 r l) := by
  pointwise [val_main_v80, val_main_v79, val_main_cst_13, val_main_v78, val_main_v75, val_main_cst_11, val_main_v74, val_main_v73, val_main_cst_10, val_main_v72, val_main_v69, val_main_v68, val_main_cst_9, val_main_v67, val_main_v64, val_main_cst_7, val_main_v63, val_main_v62, val_main_cst_6, val_main_v61, val_main_v58, val_main_cst_5, val_main_v57, val_main_v55, val_main_cst_3, val_main_v54, val_main_v53, val_main_cst_2, val_main_v52, val_main_v35, val_main_v16, val_main_v14, val_main_cst]
  rw [Fin.sum_univ_one]

/-- The inner gate's gradient in the reference. -/
theorem ref_inner (c : Dev nD) (i : S2048x512.Idx) : val_main_v47 (F := Ideal) (m ((c : Thread nD τ).loc main_arg0)) (m ((c : Thread nD τ).loc main_arg2)) (m ((c : Thread nD τ).loc main_arg3)) i
    = (val_main_v4 (F := Ideal) (m ((c : Thread nD τ).loc main_arg0)) i * val_main_v39 (F := Ideal) (m ((c : Thread nD τ).loc main_arg0)) (m ((c : Thread nD τ).loc main_arg3)) i * (m ((c : Thread nD τ).loc main_arg2)) (ix3 3 (i 0) (i 1))) * Ideal.logistic (val_main_v13 (F := Ideal) (m ((c : Thread nD τ).loc main_arg0)) i) + val_main_v13 (F := Ideal) (m ((c : Thread nD τ).loc main_arg0)) i * (val_main_v4 (F := Ideal) (m ((c : Thread nD τ).loc main_arg0)) i * val_main_v39 (F := Ideal) (m ((c : Thread nD τ).loc main_arg0)) (m ((c : Thread nD τ).loc main_arg3)) i * (m ((c : Thread nD τ).loc main_arg2)) (ix3 3 (i 0) (i 1))) * (Ideal.logistic (val_main_v13 (F := Ideal) (m ((c : Thread nD τ).loc main_arg0)) i) * (1 - Ideal.logistic (val_main_v13 (F := Ideal) (m ((c : Thread nD τ).loc main_arg0)) i))) := by
  pointwise [val_main_v47, val_main_call1_v2, val_main_call1_v1, val_main_call1_v0, val_main_v45, val_main_v44, val_main_v43, val_main_v41_1, val_main_call0_v7, val_main_call0_v6, val_main_call0_cst_1, val_main_v41_2, val_main_call0_v4, val_main_call0_cst_0, val_main_call0_v3, val_main_call0_v2, val_main_call0_cst, val_main_call0_v1, val_main_call0_v0, val_main_v40]
  rfl

/-- The reference's gradient of the projection: the first column tile of each group of four. -/
theorem ref_column0 (c : Dev nD) (t : ℕ) (ht : t < 4) (R : Fin 2048) (x : Fin 128) (L : Fin 11264) (hL : (L : ℕ) = (18 + t) * 512 + (0 + x.val)) :
    val_main_v93 (F := Ideal) (m ((c : Thread nD τ).loc main_arg0)) (m ((c : Thread nD τ).loc main_arg1)) (m ((c : Thread nD τ).loc main_arg2)) (m ((c : Thread nD τ).loc main_arg3)) (ix2 R L) = val_main_v49 (F := Ideal) (m ((c : Thread nD τ).loc main_arg0)) (m ((c : Thread nD τ).loc main_arg2)) (m ((c : Thread nD τ).loc main_arg3)) (ix2 R ⟨t * 128 + x.val, by omega⟩) := by
  pointwise [val_main_v93, val_main_v92, val_main_v91, val_main_v90, val_main_v89, val_main_v88, val_main_v87, val_main_v86, val_main_v85]
  rw [dif_neg (by omega), dif_pos (by omega)]
  blk_point

/-- The reference's gradient of the projection: the second column tile of each group of four. -/
theorem ref_column1 (c : Dev nD) (t : ℕ) (ht : t < 4) (R : Fin 2048) (x : Fin 128) (L : Fin 11264) (hL : (L : ℕ) = (18 + t) * 512 + (128 + x.val)) :
    val_main_v93 (F := Ideal) (m ((c : Thread nD τ).loc main_arg0)) (m ((c : Thread nD τ).loc main_arg1)) (m ((c : Thread nD τ).loc main_arg2)) (m ((c : Thread nD τ).loc main_arg3)) (ix2 R L) = val_main_v84 (F := Ideal) (m ((c : Thread nD τ).loc main_arg0)) (m ((c : Thread nD τ).loc main_arg2)) (m ((c : Thread nD τ).loc main_arg3)) (ix2 R ⟨t * 128 + x.val, by omega⟩) := by
  pointwise [val_main_v93, val_main_v92, val_main_v91, val_main_v90, val_main_v89, val_main_v88, val_main_v87, val_main_v86, val_main_v85]
  rw [dif_neg (by omega), dif_neg (by omega), dif_pos (by omega)]
  blk_point

/-- The reference's gradient of the projection: the third column tile of each group of four. -/
theorem ref_column2 (c : Dev nD) (t : ℕ) (ht : t < 4) (R : Fin 2048) (x : Fin 128) (L : Fin 11264) (hL : (L : ℕ) = (18 + t) * 512 + (256 + x.val)) :
    val_main_v93 (F := Ideal) (m ((c : Thread nD τ).loc main_arg0)) (m ((c : Thread nD τ).loc main_arg1)) (m ((c : Thread nD τ).loc main_arg2)) (m ((c : Thread nD τ).loc main_arg3)) (ix2 R L) = val_main_v83 (F := Ideal) (m ((c : Thread nD τ).loc main_arg0)) (m ((c : Thread nD τ).loc main_arg2)) (m ((c : Thread nD τ).loc main_arg3)) (ix2 R ⟨t * 128 + x.val, by omega⟩) := by
  pointwise [val_main_v93, val_main_v92, val_main_v91, val_main_v90, val_main_v89, val_main_v88, val_main_v87, val_main_v86, val_main_v85]
  rw [dif_neg (by omega), dif_neg (by omega), dif_neg (by omega), dif_pos (by omega)]
  blk_point

/-- The reference's gradient of the projection: the fourth column tile of each group of four. -/
theorem ref_column3 (c : Dev nD) (t : ℕ) (ht : t < 4) (R : Fin 2048) (x : Fin 128) (L : Fin 11264) (hL : (L : ℕ) = (18 + t) * 512 + (384 + x.val)) :
    val_main_v93 (F := Ideal) (m ((c : Thread nD τ).loc main_arg0)) (m ((c : Thread nD τ).loc main_arg1)) (m ((c : Thread nD τ).loc main_arg2)) (m ((c : Thread nD τ).loc main_arg3)) (ix2 R L) = val_main_v47 (F := Ideal) (m ((c : Thread nD τ).loc main_arg0)) (m ((c : Thread nD τ).loc main_arg2)) (m ((c : Thread nD τ).loc main_arg3)) (ix2 R ⟨t * 128 + x.val, by omega⟩) := by
  pointwise [val_main_v93, val_main_v92, val_main_v91, val_main_v90, val_main_v89, val_main_v88, val_main_v87, val_main_v86, val_main_v85]
  rw [dif_neg (by omega), dif_neg (by omega), dif_neg (by omega), dif_neg (by omega)]
  blk_point

end Cert.ShortConv

end
-- ==== Proof.ShortConvArray.lean ====
/- The gradient of the gated short convolution. -/
module

public import proofs.«01_k».proof.Proof.Gen.Kernel14Ideal.Frame
public import proofs.«01_k».proof.Proof.Gen.Reference14Ideal.Read
public import proofs.«01_k».proof.Proof.ShortConvRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ShortConv

open Cert.Kernel14Ideal Cert.Kernel14Ideal.Gen Cert.Reference14Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the column tile is `t`; a tile's four columns of the projection lie side by side. -/
theorem idx : ∀ t : Fin cfg0.N, win0_0.index t = ![0, 72 + 4 * t.val] ∧ win0_1.index t = ![0, 72 + (4 * t.val + 1)]
    ∧ win0_2.index t = ![0, 72 + (4 * t.val + 2)] ∧ win0_3.index t = ![0, 72 + (4 * t.val + 3)] ∧ win0_4.index t = ![3, 0, t.val]
    ∧ win0_5.index t = ![0, t.val] ∧ win0_6.index t = ![0, 18 + t.val] ∧ win0_7.index t = ![0, t.val] :=
  (by decide +kernel : ∀ t : Fin grid0.N, _)

/-- The outer gate's tile. -/
theorem tile0 (c : Dev nD) (t : Fin cfg0.N) (ht : t.val < 4) (r : Fin 2048) (l : Fin 128) :
    iblk m c 0 t (ix2 r l) = val_main_v4 (F := Ideal) (m ((c : Thread nD τ).loc main_arg0)) (ix2 r ⟨t.val * 128 + l.val, by omega⟩) := by
  pointwise [val_main_v4, val_main_v3, val_main_v2, val_main_v1, val_main_v0]; blk_point [iblk, V, idx t]

/-- The inner gate's tile. -/
theorem tile1 (c : Dev nD) (t : Fin cfg0.N) (ht : t.val < 4) (r : Fin 2048) (l : Fin 128) :
    iblk m c 1 t (ix2 r l) = val_main_v7 (F := Ideal) (m ((c : Thread nD τ).loc main_arg0)) (ix2 r ⟨t.val * 128 + l.val, by omega⟩) := by
  pointwise [val_main_v7, val_main_v6, val_main_v5, val_main_v1, val_main_v0]; blk_point [iblk, V, idx t]

/-- The values' tile. -/
theorem tile2 (c : Dev nD) (t : Fin cfg0.N) (ht : t.val < 4) (r : Fin 2048) (l : Fin 128) :
    iblk m c 2 t (ix2 r l) = val_main_v10 (F := Ideal) (m ((c : Thread nD τ).loc main_arg0)) (ix2 r ⟨t.val * 128 + l.val, by omega⟩) := by
  pointwise [val_main_v10, val_main_v9, val_main_v8, val_main_v1, val_main_v0]; blk_point [iblk, V, idx t]

/-- The activated gate's tile. -/
theorem tile3 (c : Dev nD) (t : Fin cfg0.N) (ht : t.val < 4) (r : Fin 2048) (l : Fin 128) :
    iblk m c 3 t (ix2 r l) = val_main_v13 (F := Ideal) (m ((c : Thread nD τ).loc main_arg0)) (ix2 r ⟨t.val * 128 + l.val, by omega⟩) := by
  pointwise [val_main_v13, val_main_v12, val_main_v11, val_main_v1, val_main_v0]; blk_point [iblk, V, idx t]

/-- The incoming gradient's tile. -/
theorem tile4 (c : Dev nD) (t : Fin cfg0.N) (ht : t.val < 4) (r : Fin 2048) (l : Fin 128) :
    iblk m c 4 t (ix3 0 r l) = (m ((c : Thread nD τ).loc main_arg2)) (ix3 3 r ⟨t.val * 128 + l.val, by omega⟩) := by
  blk_point [iblk, V, idx t]

/-- The filter's tile. -/
theorem tile5 (c : Dev nD) (t : Fin cfg0.N) (ht : t.val < 4) (k : Fin 3) (l : Fin 128) :
    iblk m c 5 t (ix2 k l) = (m ((c : Thread nD τ).loc main_arg3)) (ix2 k ⟨t.val * 128 + l.val, by omega⟩) := by
  blk_point [iblk, V, idx t]

/-- The filtered product's tile. -/
theorem product_eq (c : Dev nD) (t : Fin cfg0.N) (ht : t.val < 4) (l : Fin 128) :
    prod (iblk m c 1 t) (iblk m c 2 t) l = fun k => val_main_v15 (F := Ideal) (m ((c : Thread nD τ).loc main_arg0)) (ix2 k ⟨t.val * 128 + l.val, by omega⟩) := by
  funext k
  unfold prod
  rw [tile1 m c t ht, tile2 m c t ht]
  rfl

/-- The entering gradient's tile. -/
theorem enter_eq (c : Dev nD) (t : Fin cfg0.N) (ht : t.val < 4) (r : Fin 2048) (l : Fin 128) :
    k0_pay16 (F := Ideal) (iblk m c 3 t) (k0_pay10 (iblk m c 3 t)) (k0_pay11 (iblk m c 4 t)) (iblk m c 0 t) (ix2 r l) = val_main_v48 (F := Ideal) (m ((c : Thread nD τ).loc main_arg0)) (m ((c : Thread nD τ).loc main_arg2)) (ix2 r ⟨t.val * 128 + l.val, by omega⟩) := by
  have h4 : k0_pay11 (F := Ideal) (iblk m c 4 t) (ix2 r l) = iblk m c 4 t (ix3 0 r l) := by pointwise [k0_pay11]
  rw [enter_apply, ref_enter, h4, tile0 m c t ht, tile3 m c t ht, tile4 m c t ht]

/-- The filtered values' tile. -/
theorem conv_eq (c : Dev nD) (t : Fin cfg0.N) (ht : t.val < 4) (r : Fin 2048) (l : Fin 128) :
    conv (prod (iblk m c 1 t) (iblk m c 2 t) l) ((View.ld (iblk m c 5 t) (Rect.unit ![0, 0] ![1, 128] inb_S3x128_S1x128_0_0)) (ix2 0 l)) ((View.ld (iblk m c 5 t) (Rect.unit ![1, 0] ![1, 128] inb_S3x128_S1x128_1_0)) (ix2 0 l)) ((View.ld (iblk m c 5 t) (Rect.unit ![2, 0] ![1, 128] inb_S3x128_S1x128_2_0)) (ix2 0 l)) r = val_main_v39 (F := Ideal) (m ((c : Thread nD τ).loc main_arg0)) (m ((c : Thread nD τ).loc main_arg3)) (ix2 r ⟨t.val * 128 + l.val, by omega⟩) := by
  rw [product_eq m c t ht l, ref_conv]
  pointwise
  rw [tile5 m c t ht 0, tile5 m c t ht 1, tile5 m c t ht 2]

set_option maxHeartbeats 1600000 in
/-- The tile of the filtered product's gradient. -/
theorem back_eq (c : Dev nD) (t : Fin cfg0.N) (ht : t.val < 4) (r : Fin 2048) (l : Fin 128) :
    k0_pay2 (F := Ideal) (k0_pay16 (iblk m c 3 t) (k0_pay10 (iblk m c 3 t)) (k0_pay11 (iblk m c 4 t)) (iblk m c 0 t)) (k0_pay17 (iblk m c 3 t) (k0_pay10 (iblk m c 3 t)) (k0_pay11 (iblk m c 4 t)) (iblk m c 0 t) (View.ld (iblk m c 5 t) (Rect.unit ![0, 0] ![1, 128] inb_S3x128_S1x128_0_0))) (View.ld (iblk m c 5 t) (Rect.unit ![1, 0] ![1, 128] inb_S3x128_S1x128_1_0)) k0_pay19 (k0_pay20 (iblk m c 3 t) (k0_pay10 (iblk m c 3 t)) (k0_pay11 (iblk m c 4 t)) (iblk m c 0 t)) (FloatOps.ofBits FTy.f32 0#32) (View.ld (iblk m c 5 t) (Rect.unit ![2, 0] ![1, 128] inb_S3x128_S1x128_2_0)) (ix2 r l) = val_main_v82 (F := Ideal) (m ((c : Thread nD τ).loc main_arg0)) (m ((c : Thread nD τ).loc main_arg2)) (m ((c : Thread nD τ).loc main_arg3)) (ix2 r ⟨t.val * 128 + l.val, by omega⟩) := by
  rw [back_apply, ref_back]
  simp only [enter_eq m c t ht _ l]
  pointwise
  rw [tile5 m c t ht 0, tile5 m c t ht 1, tile5 m c t ht 2]

set_option maxHeartbeats 1600000 in
/-- The outer gate's gradient. -/
theorem piece0 (c : Dev nD) (t : Fin cfg0.N) (ht : t.val < 4) (r : Fin 2048) (l : Fin 128) :
    k0_pay14 (F := Ideal) (k0_pay12 (iblk m c 1 t) (iblk m c 2 t) (View.ld (iblk m c 5 t) (Rect.unit ![0, 0] ![1, 128] inb_S3x128_S1x128_0_0)) (View.ld (iblk m c 5 t) (Rect.unit ![1, 0] ![1, 128] inb_S3x128_S1x128_1_0)) (View.ld (iblk m c 5 t) (Rect.unit ![2, 0] ![1, 128] inb_S3x128_S1x128_2_0)) (iblk m c 4 t)) (k0_pay13 (iblk m c 3 t)) (ix2 r l)
      = val_main_v49 (F := Ideal) (m ((c : Thread nD τ).loc main_arg0)) (m ((c : Thread nD τ).loc main_arg2)) (m ((c : Thread nD τ).loc main_arg3)) (ix2 r ⟨t.val * 128 + l.val, by omega⟩) := by
  rw [outer_apply, conv_eq m c t ht r l, tile3 m c t ht, tile4 m c t ht]
  pointwise [val_main_v49, val_main_v46, val_main_v44, val_main_v43, val_main_v41_0, val_main_v41_2, val_main_call0_v4, val_main_call0_cst_0, val_main_call0_v3, val_main_call0_v2, val_main_call0_cst, val_main_call0_v1, val_main_call0_v0]
  rfl

set_option maxHeartbeats 1600000 in
/-- The inner gate's gradient. -/
theorem piece1 (c : Dev nD) (t : Fin cfg0.N) (ht : t.val < 4) (r : Fin 2048) (l : Fin 128) :
    k0_pay4 (F := Ideal) (iblk m c 2 t) (k0_pay16 (iblk m c 3 t) (k0_pay10 (iblk m c 3 t)) (k0_pay11 (iblk m c 4 t)) (iblk m c 0 t)) (k0_pay17 (iblk m c 3 t) (k0_pay10 (iblk m c 3 t)) (k0_pay11 (iblk m c 4 t)) (iblk m c 0 t) (View.ld (iblk m c 5 t) (Rect.unit ![0, 0] ![1, 128] inb_S3x128_S1x128_0_0))) (View.ld (iblk m c 5 t) (Rect.unit ![1, 0] ![1, 128] inb_S3x128_S1x128_1_0)) k0_pay19 (k0_pay20 (iblk m c 3 t) (k0_pay10 (iblk m c 3 t)) (k0_pay11 (iblk m c 4 t)) (iblk m c 0 t)) (FloatOps.ofBits FTy.f32 0#32) (View.ld (iblk m c 5 t) (Rect.unit ![2, 0] ![1, 128] inb_S3x128_S1x128_2_0)) (ix2 r l) = val_main_v84 (F := Ideal) (m ((c : Thread nD τ).loc main_arg0)) (m ((c : Thread nD τ).loc main_arg2)) (m ((c : Thread nD τ).loc main_arg3)) (ix2 r ⟨t.val * 128 + l.val, by omega⟩) := by
  rw [inner_gate_apply, back_eq m c t ht r l, tile2 m c t ht]
  rfl

set_option maxHeartbeats 1600000 in
/-- The values' gradient. -/
theorem piece2 (c : Dev nD) (t : Fin cfg0.N) (ht : t.val < 4) (r : Fin 2048) (l : Fin 128) :
    k0_pay5 (F := Ideal) (iblk m c 1 t) (k0_pay16 (iblk m c 3 t) (k0_pay10 (iblk m c 3 t)) (k0_pay11 (iblk m c 4 t)) (iblk m c 0 t)) (k0_pay17 (iblk m c 3 t) (k0_pay10 (iblk m c 3 t)) (k0_pay11 (iblk m c 4 t)) (iblk m c 0 t) (View.ld (iblk m c 5 t) (Rect.unit ![0, 0] ![1, 128] inb_S3x128_S1x128_0_0))) (View.ld (iblk m c 5 t) (Rect.unit ![1, 0] ![1, 128] inb_S3x128_S1x128_1_0)) k0_pay19 (k0_pay20 (iblk m c 3 t) (k0_pay10 (iblk m c 3 t)) (k0_pay11 (iblk m c 4 t)) (iblk m c 0 t)) (FloatOps.ofBits FTy.f32 0#32) (View.ld (iblk m c 5 t) (Rect.unit ![2, 0] ![1, 128] inb_S3x128_S1x128_2_0)) (ix2 r l) = val_main_v83 (F := Ideal) (m ((c : Thread nD τ).loc main_arg0)) (m ((c : Thread nD τ).loc main_arg2)) (m ((c : Thread nD τ).loc main_arg3)) (ix2 r ⟨t.val * 128 + l.val, by omega⟩) := by
  rw [values_apply, back_eq m c t ht r l, tile1 m c t ht, mul_comm]
  rfl

set_option maxHeartbeats 1600000 in
/-- The activated gate's gradient, where its factors are finite. -/
theorem piece3 (c : Dev nD) (hb : ∀ i, ∃ x : ℝ, val_main_v4 (F := Ideal) (m ((c : Thread nD τ).loc main_arg0)) i = (x : EReal)) (hy : ∀ r i, ∃ x : ℝ, val_main_v39 (F := Ideal) (m ((c : Thread nD τ).loc main_arg0)) (m ((c : Thread nD τ).loc main_arg3)) (ix2 r i) = (x : EReal))
    (hd : ∀ r j, ∃ x : ℝ, (m ((c : Thread nD τ).loc main_arg2)) (ix3 3 r j) = (x : EReal)) (t : Fin cfg0.N) (ht : t.val < 4) (r : Fin 2048) (l : Fin 128) :
    k0_pay15 (F := Ideal) (iblk m c 3 t) (k0_pay9 (iblk m c 1 t) (iblk m c 2 t) (View.ld (iblk m c 5 t) (Rect.unit ![0, 0] ![1, 128] inb_S3x128_S1x128_0_0)) (View.ld (iblk m c 5 t) (Rect.unit ![1, 0] ![1, 128] inb_S3x128_S1x128_1_0)) (View.ld (iblk m c 5 t) (Rect.unit ![2, 0] ![1, 128] inb_S3x128_S1x128_2_0))) (k0_pay10 (iblk m c 3 t)) (k0_pay11 (iblk m c 4 t)) (iblk m c 0 t) (ix2 r l)
      = val_main_v47 (F := Ideal) (m ((c : Thread nD τ).loc main_arg0)) (m ((c : Thread nD τ).loc main_arg2)) (m ((c : Thread nD τ).loc main_arg3)) (ix2 r ⟨t.val * 128 + l.val, by omega⟩) := by
  have h4 : k0_pay11 (F := Ideal) (iblk m c 4 t) (ix2 r l) = (m ((c : Thread nD τ).loc main_arg2)) (ix3 3 r ⟨t.val * 128 + l.val, by omega⟩) := by
    rw [← tile4 m c t ht]
    pointwise [k0_pay11]
  have h9 : k0_pay9 (F := Ideal) (iblk m c 1 t) (iblk m c 2 t) (View.ld (iblk m c 5 t) (Rect.unit ![0, 0] ![1, 128] inb_S3x128_S1x128_0_0)) (View.ld (iblk m c 5 t) (Rect.unit ![1, 0] ![1, 128] inb_S3x128_S1x128_1_0)) (View.ld (iblk m c 5 t) (Rect.unit ![2, 0] ![1, 128] inb_S3x128_S1x128_2_0)) (ix2 r l) = val_main_v39 (F := Ideal) (m ((c : Thread nD τ).loc main_arg0)) (m ((c : Thread nD τ).loc main_arg3)) (ix2 r ⟨t.val * 128 + l.val, by omega⟩) :=
    (conv_apply _ _ _ _ _ r l).trans (conv_eq m c t ht r l)
  obtain ⟨x, hx⟩ := hb (ix2 r ⟨t.val * 128 + l.val, by omega⟩)
  obtain ⟨y, hy⟩ := hy r ⟨t.val * 128 + l.val, by omega⟩
  obtain ⟨z, hz⟩ := hd r ⟨t.val * 128 + l.val, by omega⟩
  rw [inner_apply _ _ _ _ _ x y z ((tile0 m c t ht r l).trans hx) (h9.trans hy) (h4.trans hz), ref_inner, h4, h9, tile0 m c t ht, tile3 m c t ht]
  rfl

set_option maxHeartbeats 1600000 in
/-- The projection's gradient. -/
theorem final6 (c : Dev nD) (hb : ∀ i, ∃ x : ℝ, val_main_v4 (F := Ideal) (m ((c : Thread nD τ).loc main_arg0)) i = (x : EReal)) (hy : ∀ r i, ∃ x : ℝ, val_main_v39 (F := Ideal) (m ((c : Thread nD τ).loc main_arg0)) (m ((c : Thread nD τ).loc main_arg3)) (ix2 r i) = (x : EReal)) (hd : ∀ r j, ∃ x : ℝ, (m ((c : Thread nD τ).loc main_arg2)) (ix3 3 r j) = (x : EReal)) : (dats m 0 c).arrAt 6 cfg0.N = val_main_v93 (F := Ideal) (m ((c : Thread nD τ).loc main_arg0)) (m ((c : Thread nD τ).loc main_arg1)) (m ((c : Thread nD τ).loc main_arg2)) (m ((c : Thread nD τ).loc main_arg3)) := by
  have hw : (dats m 0 c).arrAt 6 cfg0.N = fun i : S2048x11264.Idx => if 9216 ≤ (i 1 : ℕ) then val_main_v93 (F := Ideal) (m ((c : Thread nD τ).loc main_arg0)) (m ((c : Thread nD τ).loc main_arg1)) (m ((c : Thread nD τ).loc main_arg2)) (m ((c : Thread nD τ).loc main_arg3)) i else (dats m 0 c).A 6 i := by
    refine (dats m 0 c).arrAt_eq_of_coversWhere 6 _ (fun β => 18 ≤ β (1 : Fin 2)) (by decide +kernel) (fun t hf y => ?_)
      (fun j => by blk_simp [Pipeline.Window.cell_apply]; omega)
    blk_simp
    rw [after0_6]
    have ht : t.val < 4 := t.isLt
    unfold outsAt0
    frame_out
    canon_tiles y h
    · refine (congrArg _ (eq_ix2 y)).trans ((piece2 m c t ht (y 0) (y 1)).trans ((ref_column2 m c t.val ht (y 0) (y 1) ⟨(18 + t.val) * 512 + (256 + (y 1).val), by omega⟩ rfl).symm.trans ?_))
      blk_point [idx t]
    · refine (congrArg _ (eq_ix2 y)).trans ((piece1 m c t ht (y 0) (y 1)).trans ((ref_column1 m c t.val ht (y 0) (y 1) ⟨(18 + t.val) * 512 + (128 + (y 1).val), by omega⟩ rfl).symm.trans ?_))
      blk_point [idx t]
    · refine (congrArg _ (eq_ix2 y)).trans ((piece3 m c hb hy hd t ht (y 0) (y 1)).trans ((ref_column3 m c t.val ht (y 0) (y 1) ⟨(18 + t.val) * 512 + (384 + (y 1).val), by omega⟩ rfl).symm.trans ?_))
      blk_point [idx t]
    · refine (congrArg _ (eq_ix2 y)).trans ((piece0 m c t ht (y 0) (y 1)).trans ((ref_column0 m c t.val ht (y 0) (y 1) ⟨(18 + t.val) * 512 + (0 + (y 1).val), by omega⟩ rfl).symm.trans ?_))
      blk_point [idx t]
  rw [hw]
  funext i
  by_cases h : 9216 ≤ (i 1 : ℕ)
  · rw [if_pos h]
  · rw [if_neg h]
    rw [A_eq]
    entry_read
    pointwise [val_main_v93, val_main_v92, val_main_v91, val_main_v90, val_main_v89, val_main_v88, val_main_v87, val_main_v86, val_main_v85]
    rw [dif_pos (by omega)]

set_option maxHeartbeats 1600000 in
/-- The filter's gradient. -/
theorem final7 (c : Dev nD) : (dats m 0 c).arrAt 7 cfg0.N = val_main_v80 (F := Ideal) (m ((c : Thread nD τ).loc main_arg0)) (m ((c : Thread nD τ).loc main_arg2)) := by
  refine (dats m 0 c).arrAt_eq_of_covers 7 _ (by decide +kernel) fun t hf y => ?_
  blk_simp
  rw [after0_7]
  have ht : t.val < 4 := t.isLt
  unfold outsAt0
  frame_out
  canon_tiles y h
  · have e : y = ix2 0 (y 1) := (eq_ix2 y).trans (congrArg (fun k : Fin 1 => ix2 k (y 1)) (Subsingleton.elim _ _))
    refine (congrArg _ e).trans ((row2_apply _ _ _ (y 1)).trans ?_)
    refine Eq.trans ?_ ((ref_row2 m c ⟨t.val * 128 + (y 1).val, by omega⟩).symm.trans ?_)
    · exact Finset.sum_congr rfl fun r _ => congrArg₂ _ (enter_eq m c t ht r (y 1)) (congrFun (product_eq m c t ht (y 1)) r)
    · blk_point [idx t]
  · have e : y = ix2 0 (y 1) := (eq_ix2 y).trans (congrArg (fun k : Fin 1 => ix2 k (y 1)) (Subsingleton.elim _ _))
    refine (congrArg _ e).trans ((row1_apply _ _ _ (y 1)).trans ?_)
    refine Eq.trans ?_ ((ref_row1 m c ⟨t.val * 128 + (y 1).val, by omega⟩).symm.trans ?_)
    · exact Finset.sum_congr rfl fun r _ => congrArg₂ _ (enter_eq m c t ht r (y 1)) (congrArg (delay 1 · r) (product_eq m c t ht (y 1)))
    · blk_point [idx t]
  · have e : y = ix2 0 (y 1) := (eq_ix2 y).trans (congrArg (fun k : Fin 1 => ix2 k (y 1)) (Subsingleton.elim _ _))
    refine (congrArg _ e).trans ((row0_apply _ _ _ _ _ _ (y 1)).trans ?_)
    refine Eq.trans ?_ ((ref_row0 m c ⟨t.val * 128 + (y 1).val, by omega⟩).symm.trans ?_)
    · exact Finset.sum_congr rfl fun r _ => congrArg₂ _ (enter_eq m c t ht r (y 1)) (congrArg (delay 2 · r) (product_eq m c t ht (y 1)))
    · blk_point [idx t]

end Cert.ShortConv

end
-- ==== Proof.ShortConvFinite.lean ====
/- The gradient of the gated short convolution: finite arguments give finite filtered values. -/
module

public import proofs.«01_k».proof.Proof.Gen.Kernel14Ideal.Frame
public import proofs.«01_k».proof.Proof.Gen.Reference14Ideal.Read
public import proofs.«01_k».proof.Proof.ShortConvRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ShortConv

open Cert.Kernel14Ideal Cert.Kernel14Ideal.Gen Cert.Reference14Ideal.Read
open Idealize.ShloMosaic Idealize.ShloMosaic.TcCoe Idealize.SL.Sem
open Idealize.ShloMosaic.Pipeline (Dat)

variable (m : (ℓ : Loc nD τ sig) → Buf (Elt Ideal) ℓ)

/-- A delayed real column is real. -/
theorem delay_real (s : ℕ) (f : Fin 2048 → EReal) (hf : ∀ k, ∃ x : ℝ, f k = (x : EReal)) (r : Fin 2048) : ∃ x : ℝ, delay s f r = (x : EReal) := by
  unfold delay
  split
  · exact ⟨0, rfl⟩
  · exact hf _

/-- The filtered values of a real column under a real filter are real. -/
theorem conv_real (p : Fin 2048 → EReal) (hp : ∀ k, ∃ x : ℝ, p k = (x : EReal)) (w0 w1 w2 : ℝ) (r : Fin 2048) : ∃ x : ℝ, conv p w0 w1 w2 r = (x : EReal) := by
  obtain ⟨a, ha⟩ := delay_real 2 p hp r
  obtain ⟨b, hb⟩ := delay_real 1 p hp r
  obtain ⟨d, hd⟩ := hp r
  exact ⟨w0 * a + w1 * b + w2 * d, by unfold conv; rw [ha, hb, hd]; norm_cast⟩

/-- The outer gate is real. -/
theorem real_v4 (c : Dev nD) (hp : ∀ r (j : Fin 11264), 9216 ≤ j.val → ∃ x : ℝ, (m ((c : Thread nD τ).loc main_arg0)) (ix2 r j) = (x : EReal)) (r : Fin 2048) (l : Fin 512) : ∃ x : ℝ, val_main_v4 (F := Ideal) (m ((c : Thread nD τ).loc main_arg0)) (ix2 r l) = (x : EReal) := by
  pointwise [val_main_v4, val_main_v3, val_main_v2, val_main_v1, val_main_v0]
  exact hp _ _ (by simp)

/-- The inner gate is real. -/
theorem real_v7 (c : Dev nD) (hp : ∀ r (j : Fin 11264), 9216 ≤ j.val → ∃ x : ℝ, (m ((c : Thread nD τ).loc main_arg0)) (ix2 r j) = (x : EReal)) (r : Fin 2048) (l : Fin 512) : ∃ x : ℝ, val_main_v7 (F := Ideal) (m ((c : Thread nD τ).loc main_arg0)) (ix2 r l) = (x : EReal) := by
  pointwise [val_main_v7, val_main_v6, val_main_v5, val_main_v1, val_main_v0]
  exact hp _ _ (by simp)

/-- The values are real. -/
theorem real_v10 (c : Dev nD) (hp : ∀ r (j : Fin 11264), 9216 ≤ j.val → ∃ x : ℝ, (m ((c : Thread nD τ).loc main_arg0)) (ix2 r j) = (x : EReal)) (r : Fin 2048) (l : Fin 512) : ∃ x : ℝ, val_main_v10 (F := Ideal) (m ((c : Thread nD τ).loc main_arg0)) (ix2 r l) = (x : EReal) := by
  pointwise [val_main_v10, val_main_v9, val_main_v8, val_main_v1, val_main_v0]
  exact hp _ _ (by simp)

/-- The filtered values are real. -/
theorem real_v39 (c : Dev nD) (hp : ∀ r (j : Fin 11264), 9216 ≤ j.val → ∃ x : ℝ, (m ((c : Thread nD τ).loc main_arg0)) (ix2 r j) = (x : EReal)) (hw : ∀ k l, ∃ x : ℝ, (m ((c : Thread nD τ).loc main_arg3)) (ix2 k l) = (x : EReal)) (r : Fin 2048) (l : Fin 512) :
    ∃ x : ℝ, val_main_v39 (F := Ideal) (m ((c : Thread nD τ).loc main_arg0)) (m ((c : Thread nD τ).loc main_arg3)) (ix2 r l) = (x : EReal) := by
  obtain ⟨w0, h0⟩ := hw 0 l
  obtain ⟨w1, h1⟩ := hw 1 l
  obtain ⟨w2, h2⟩ := hw 2 l
  rw [ref_conv, h0, h1, h2]
  refine conv_real _ (fun k => ?_) w0 w1 w2 r
  obtain ⟨a, ha⟩ := real_v7 m c hp k l
  obtain ⟨b, hb⟩ := real_v10 m c hp k l
  exact ⟨a * b, by pointwise [val_main_v15]; rw [ha, hb]; norm_cast⟩

end Cert.ShortConv

end
-- ==== Proof.ShortConvClaim.lean ====
/- The gradient of the gated short convolution: its claims. -/
module

public import proofs.«01_k».proof.Defs
public import proofs.«01_k».proof.Proof.Gen.Kernel14Ideal.Value
public import proofs.«01_k».proof.Proof.Gen.Reference14Ideal.Run
public import proofs.«01_k».proof.Proof.ShortConvArray
public import proofs.«01_k».proof.Proof.ShortConvFinite
public import proofs.«01_k».proof.Proof.Gen.Pre_finite14
public import Idealize.ShloMosaic.Lib.Claim

@[expose] public section

set_option maxRecDepth 16384

noncomputable section

namespace Cert.ShortConv

open Idealize.ShloMosaic Idealize.ShloMosaic.TcCoe Idealize.SL.Sem

/-- Under the precondition the projection's columns are real. -/
theorem finite_proj (m : (ℓ : Loc Cert.Kernel14Ideal.nD Cert.Kernel14Ideal.τ Cert.Kernel14Ideal.sig) → Buf (Elt Ideal) ℓ) (h : Cert.Pre_Kernel14Ideal_finite14 (hPre_finite14 := Cert.Pre_finite14.Gen.facts) m) (c : Dev Cert.Kernel14Ideal.nD) (r : Fin 2048) (j : Fin 11264) (hj : 9216 ≤ j.val) : ∃ x : ℝ, (m ((c.tc : Thread Cert.Kernel14Ideal.nD Cert.Kernel14Ideal.τ).loc Cert.Kernel14Ideal.main_arg0)) (ix2 r j) = (x : EReal) := by
  refine real_of_abs_lt _ (Eq.trans ?_ (congrFun (h c).1 (ix2 r ⟨j.val - 9216, by omega⟩)))
  pointwise [Cert.Pre_finite14.fn]
  have e : 9216 + (j.val - 9216) = j.val := by omega
  simp only [e]
  rfl

/-- Under the precondition the incoming gradient is real. -/
theorem finite_incoming (m : (ℓ : Loc Cert.Kernel14Ideal.nD Cert.Kernel14Ideal.τ Cert.Kernel14Ideal.sig) → Buf (Elt Ideal) ℓ) (h : Cert.Pre_Kernel14Ideal_finite14 (hPre_finite14 := Cert.Pre_finite14.Gen.facts) m) (c : Dev Cert.Kernel14Ideal.nD) (r : Fin 2048) (l : Fin 512) : ∃ x : ℝ, (m ((c.tc : Thread Cert.Kernel14Ideal.nD Cert.Kernel14Ideal.τ).loc Cert.Kernel14Ideal.main_arg2)) (ix3 3 r l) = (x : EReal) := by
  refine real_of_abs_lt _ (Eq.trans ?_ (congrFun (h c).2.1 (ix2 r l)))
  pointwise [Cert.Pre_finite14.fn]
  rfl

/-- Under the precondition the filter is real. -/
theorem finite_filter (m : (ℓ : Loc Cert.Kernel14Ideal.nD Cert.Kernel14Ideal.τ Cert.Kernel14Ideal.sig) → Buf (Elt Ideal) ℓ) (h : Cert.Pre_Kernel14Ideal_finite14 (hPre_finite14 := Cert.Pre_finite14.Gen.facts) m) (c : Dev Cert.Kernel14Ideal.nD) (k : Fin 3) (l : Fin 512) : ∃ x : ℝ, (m ((c.tc : Thread Cert.Kernel14Ideal.nD Cert.Kernel14Ideal.τ).loc Cert.Kernel14Ideal.main_arg3)) (ix2 k l) = (x : EReal) := by
  refine real_of_abs_lt _ (Eq.trans ?_ (congrFun (h c).2.2 (ix2 k l)))
  pointwise [Cert.Pre_finite14.fn]
  rfl

/-- The reference's frame: it runs, keeps its arguments, and leaves every counter at zero. -/
theorem reference_frame : Cert.quiescent_Reference14Ideal (hReference14Ideal := Cert.Reference14Ideal.Gen.facts) := fun m g _ =>
  (θ_run _ _ _).mono (fun r h => ⟨fun c => (h c).2.2, Idealize.ShloMosaic.sem_eq_zero_of_no_sems (by decide) r.2⟩)
    (Cert.Reference14Ideal.Value.run (F := Ideal) m g)

/-- The same frame, under the precondition of the value claim. -/
theorem reference_frame_finite : Cert.quiescent_Reference14Ideal_pre_finite14 (hReference14Ideal := Cert.Reference14Ideal.Gen.facts) (hPre_finite14 := Cert.Pre_finite14.Gen.facts) := fun m g _ => reference_frame m g trivial

/-- The frame of the kernel, under the precondition of the value claim. -/
theorem kernel_frame_finite : Cert.quiescent_Kernel14Ideal_pre_finite14 (hKernel14Ideal := Cert.Kernel14Ideal.Gen.facts) (hPre_finite14 := Cert.Pre_finite14.Gen.facts) := fun m g _ => Cert.Kernel14Ideal.Gen.frame m g

/-- The value claim. -/
theorem algebraic : Cert.algebraic_Kernel14Ideal_Reference14Ideal_pre_finite14 (hKernel14Ideal := Cert.Kernel14Ideal.Gen.facts)
    (hReference14Ideal := Cert.Reference14Ideal.Gen.facts) (hPre_finite14 := Cert.Pre_finite14.Gen.facts) := by
  intro m g m' g' hpre hagree
  refine ⟨fun c => Cert.Reference14Ideal.Read.val_main_v93 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    fun c => Cert.Reference14Ideal.Read.val_main_v80 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)),
    (θ_run _ _ _).mono (fun r h c => ?_) (Cert.Kernel14Ideal.Value.run_blocks m g),
    (θ_run _ _ _).mono (fun r h c => ?_) (Cert.Reference14Ideal.Value.run m' g')⟩
  · obtain ⟨h0, h1, ha⟩ := h c
    exact ⟨h0.trans (final6 m c (fun i => by rw [eq_ix2 (n0 := 2048) (n1 := 512) i]; exact real_v4 m c (finite_proj m hpre c) _ _) (real_v39 m c (finite_proj m hpre c) (finite_filter m hpre c)) (finite_incoming m hpre c)), h1.trans (final7 m c), ha⟩
  · obtain ⟨h0, h1, ha⟩ := h c
    obtain ⟨e0, e1, e2, e3⟩ := hagree c
    replace h0 := h0.trans (Cert.Reference14Ideal.Read.val_main_v93_eq m' c)
    rw [e0, e1, e2, e3] at h0
    replace h1 := h1.trans (Cert.Reference14Ideal.Read.val_main_v80_eq m' c)
    rw [e0, e2] at h1
    exact ⟨h0, h1, ha⟩

end Cert.ShortConv

end
-- ==== Proof.ConvGradTile.lean ====
/- The gradient of the causal convolution and its activation: a column tile of 256 channels. -/
module

public import proofs.«01_k».proof.Proof.Gen.Kernel15Ideal.Frame
public import proofs.«01_k».proof.Proof.Shift
public import proofs.«01_k».proof.Proof.ConvArray
public import proofs.«01_k».proof.Proof.SiluGrad
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvGrad

open Cert.Kernel15Ideal Cert.Kernel15Ideal.Gen
open Idealize.ShloMosaic Idealize.ShloMosaic.TcCoe Idealize.SL.Sem
open Idealize.ShloMosaic.Pipeline (Dat)

variable (m : (ℓ : Loc nD τ sig) → Buf (Elt Ideal) ℓ)

/-- The gradient entering the convolution, at one place: the activation's derivative at the convolution `a`. -/
def enter (a d : Fin 2048 → EReal) (r : Fin 2048) : EReal := d r * (Ideal.logistic (a r) * (1 + a r * (1 - Ideal.logistic (a r))))

/-- The gradient of the convolved values, at one place, for the entering gradient `g`. -/
def back (g : Fin 2048 → EReal) (w0 w1 w2 w3 : EReal) (r : Fin 2048) : EReal :=
  w0 * advance 3 g r + w1 * advance 2 g r + w2 * advance 1 g r + w3 * g r

set_option maxHeartbeats 1600000 in
/-- The entering gradient of a tile. -/
theorem enter_apply (v0 v40 : FVec Ideal S2048x256 .f32) (v20 v23 v27 v31 v35 : FVec Ideal S1x256 .f32) (r : Fin 2048) (l : Fin 256) :
    k0_pay10 (F := Ideal) v0 (k0_pay8 v0 v20 v23 v27 v31) (k0_pay9 v35) v40 (ix2 r l)
      = enter (Conv.conv (fun k => v0 (ix2 k l)) (v23 (ix2 0 l)) (v27 (ix2 0 l)) (v31 (ix2 0 l)) (v35 (ix2 0 l)) (v20 (ix2 0 l)))
          (fun k => v40 (ix2 k l)) r := by
  pointwise [k0_pay10, k0_pay8, k0_pay9, k0_pay7, k0_pay6, k0_pay5]
  rw [mul_select_delay 3 (by omega) (fun k => v0 (ix2 k l)) r _ _, mul_select_delay 2 (by omega) (fun k => v0 (ix2 k l)) r _ _,
    mul_select_delay 1 (by omega) (fun k => v0 (ix2 k l)) r _ _, Conv.bias_first]
  rfl

set_option maxHeartbeats 1600000 in
/-- The gradient of the convolved values, in a tile. -/
theorem back_apply (v0 v34 v36 v40 : FVec Ideal S2048x256 .f32) (w0 w1 w2 w3 : FVec Ideal S1x256 .f32)
    (r : Fin 2048) (l : Fin 256) :
    k0_pay3 (F := Ideal) (k0_pay10 v0 v34 v36 v40) (k0_pay12 v0 v34 v36 v40 w0 w1) w2 w3 (ix2 r l)
      = back (fun k => k0_pay10 v0 v34 v36 v40 (ix2 k l)) (w0 (ix2 0 l)) (w1 (ix2 0 l)) (w2 (ix2 0 l)) (w3 (ix2 0 l)) r := by
  pointwise [k0_pay3, k0_pay12]
  rw [mul_select_advance 3 2045 (by omega) (by omega) (fun k => k0_pay10 v0 v34 v36 v40 (ix2 k l)) r _ _,
    mul_select_advance 2 2046 (by omega) (by omega) (fun k => k0_pay10 v0 v34 v36 v40 (ix2 k l)) r _ _,
    mul_select_advance 1 2047 (by omega) (by omega) (fun k => k0_pay10 v0 v34 v36 v40 (ix2 k l)) r _ _]
  rfl

/-- The first row of the filter's gradient, in a tile. -/
theorem row0_apply (v0 x v34 v36 v40 : FVec Ideal S2048x256 .f32) (l : Fin 256) : k0_pay11 (F := Ideal) x (k0_pay5 v0) v34 v36 v40 (ix2 0 l)
    = ∑ r : Fin 2048, k0_pay10 x v34 v36 v40 (ix2 r l) * delay 3 (fun k => v0 (ix2 k l)) r := by
  pointwise [k0_pay11, k0_pay5]
  exact Finset.sum_congr rfl fun r _ => mul_select_delay 3 (by omega) (fun k => v0 (ix2 k l)) r _ _

/-- The second row of the filter's gradient, in a tile. -/
theorem row1_apply (v0 x v34 v36 v40 : FVec Ideal S2048x256 .f32) (l : Fin 256) : k0_pay13 (F := Ideal) x (k0_pay6 v0) v34 v36 v40 (ix2 0 l)
    = ∑ r : Fin 2048, k0_pay10 x v34 v36 v40 (ix2 r l) * delay 2 (fun k => v0 (ix2 k l)) r := by
  pointwise [k0_pay13, k0_pay6]
  exact Finset.sum_congr rfl fun r _ => mul_select_delay 2 (by omega) (fun k => v0 (ix2 k l)) r _ _

/-- The third row of the filter's gradient, in a tile. -/
theorem row2_apply (v0 g : FVec Ideal S2048x256 .f32) (l : Fin 256) : k0_pay1 (F := Ideal) (k0_pay7 v0) g (ix2 0 l)
    = ∑ r : Fin 2048, g (ix2 r l) * delay 1 (fun k => v0 (ix2 k l)) r := by
  pointwise [k0_pay1, k0_pay7]
  exact Finset.sum_congr rfl fun r _ => mul_select_delay 1 (by omega) (fun k => v0 (ix2 k l)) r _ _

/-- The fourth row of the filter's gradient, in a tile. -/
theorem row3_apply (v0 v47 : FVec Ideal S2048x256 .f32) (l : Fin 256) : k0_pay2 (F := Ideal) v0 v47 (ix2 0 l)
    = ∑ r : Fin 2048, v47 (ix2 r l) * v0 (ix2 r l) := by
  pointwise [k0_pay2]

end Cert.ConvGrad

end
-- ==== Proof.ConvGradRef.lean ====
/- The gradient of the causal convolution and its activation: the reference, place by place. -/
module

public import proofs.«01_k».proof.Proof.Gen.Kernel15Ideal.Frame
public import proofs.«01_k».proof.Proof.Gen.Reference15Ideal.Read
public import proofs.«01_k».proof.Proof.ConvGradTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvGrad

open Cert.Kernel15Ideal Cert.Kernel15Ideal.Gen Cert.Reference15Ideal.Read
open Idealize.ShloMosaic Idealize.ShloMosaic.TcCoe Idealize.SL.Sem
open Idealize.ShloMosaic.Pipeline (Dat)

variable (m : (ℓ : Loc nD τ sig) → Buf (Elt Ideal) ℓ)

/-- The values tap 0 reads. -/
theorem ref_window0 (c : Dev nD) (r : Fin 2048) (l : Fin 1024) : val_main_v12 (F := Ideal) (m ((c : Thread nD τ).loc main_arg0)) (ix3 0 r l) = delay 3 (fun k => val_main_v0 (F := Ideal) (m ((c : Thread nD τ).loc main_arg0)) (ix2 k l)) r := by
  pointwise [val_main_v12, val_main_v11, val_main_v10, val_main_v9, val_main_v8, val_main_v7, val_main_v6, val_main_v5, val_main_v4, val_main_v2, val_main_v1, val_main_cst]
  rfl

/-- The values tap 1 reads. -/
theorem ref_window1 (c : Dev nD) (r : Fin 2048) (l : Fin 1024) : val_main_v12 (F := Ideal) (m ((c : Thread nD τ).loc main_arg0)) (ix3 1 r l) = delay 2 (fun k => val_main_v0 (F := Ideal) (m ((c : Thread nD τ).loc main_arg0)) (ix2 k l)) r := by
  pointwise [val_main_v12, val_main_v11, val_main_v10, val_main_v9, val_main_v8, val_main_v7, val_main_v6, val_main_v5, val_main_v4, val_main_v2, val_main_v1, val_main_cst]
  exact padded_eq_delay 3 1 2 rfl (fun k => val_main_v0 (F := Ideal) (m ((c : Thread nD τ).loc main_arg0)) (ix2 k l)) r _

/-- The values tap 2 reads. -/
theorem ref_window2 (c : Dev nD) (r : Fin 2048) (l : Fin 1024) : val_main_v12 (F := Ideal) (m ((c : Thread nD τ).loc main_arg0)) (ix3 2 r l) = delay 1 (fun k => val_main_v0 (F := Ideal) (m ((c : Thread nD τ).loc main_arg0)) (ix2 k l)) r := by
  pointwise [val_main_v12, val_main_v11, val_main_v10, val_main_v9, val_main_v8, val_main_v7, val_main_v6, val_main_v5, val_main_v4, val_main_v2, val_main_v1, val_main_cst]
  exact padded_eq_delay 3 2 1 rfl (fun k => val_main_v0 (F := Ideal) (m ((c : Thread nD τ).loc main_arg0)) (ix2 k l)) r _

/-- The values tap 3 reads. -/
theorem ref_window3 (c : Dev nD) (r : Fin 2048) (l : Fin 1024) : val_main_v12 (F := Ideal) (m ((c : Thread nD τ).loc main_arg0)) (ix3 3 r l) = val_main_v0 (F := Ideal) (m ((c : Thread nD τ).loc main_arg0)) (ix2 r l) := by
  pointwise [val_main_v12, val_main_v11, val_main_v10, val_main_v9, val_main_v8, val_main_v7, val_main_v6, val_main_v5, val_main_v4, val_main_v2, val_main_v1, val_main_cst]

/-- A sum of four, reversed. -/
theorem last_first (a b c d : EReal) : d + c + b + a = a + b + c + d := by ac_rfl

/-- The convolution of the reference. -/
theorem ref_conv (c : Dev nD) (r : Fin 2048) (l : Fin 1024) : val_main_v18 (F := Ideal) (m ((c : Thread nD τ).loc main_arg0)) (m ((c : Thread nD τ).loc main_arg3)) (m ((c : Thread nD τ).loc main_arg4)) (ix2 r l)
    = Conv.conv (fun k => val_main_v0 (F := Ideal) (m ((c : Thread nD τ).loc main_arg0)) (ix2 k l)) ((m ((c : Thread nD τ).loc main_arg3)) (ix2 0 l)) ((m ((c : Thread nD τ).loc main_arg3)) (ix2 1 l)) ((m ((c : Thread nD τ).loc main_arg3)) (ix2 2 l)) ((m ((c : Thread nD τ).loc main_arg3)) (ix2 3 l)) ((m ((c : Thread nD τ).loc main_arg4)) (ix2 0 l)) r := by
  pointwise [val_main_v18, val_main_v17, val_main_v16, val_main_cst_1, val_main_v15, val_main_v14, val_main_v13]
  rw [Fin.sum_univ_four, ref_window0, ref_window1, ref_window2, ref_window3]
  rfl

/-- The entering gradient of the reference, where the incoming gradient is finite. -/
theorem ref_enter (c : Dev nD) (hd : ∀ r l, ∃ x : ℝ, (m ((c : Thread nD τ).loc main_arg2)) (ix2 r l) = (x : EReal)) (r : Fin 2048) (l : Fin 1024) : val_main_v20 (F := Ideal) (m ((c : Thread nD τ).loc main_arg0)) (m ((c : Thread nD τ).loc main_arg2)) (m ((c : Thread nD τ).loc main_arg3)) (m ((c : Thread nD τ).loc main_arg4)) (ix2 r l)
    = enter (fun k => val_main_v18 (F := Ideal) (m ((c : Thread nD τ).loc main_arg0)) (m ((c : Thread nD τ).loc main_arg3)) (m ((c : Thread nD τ).loc main_arg4)) (ix2 k l)) (fun k => (m ((c : Thread nD τ).loc main_arg2)) (ix2 k l)) r := by
  obtain ⟨x, hx⟩ := hd r l
  unfold enter
  dsimp only
  rw [hx, silu_grad]
  pointwise [val_main_v20, val_main_call1_v2, val_main_call1_v1, val_main_call1_v0, val_main_v19_1, val_main_call0_v7, val_main_call0_v6, val_main_call0_cst_1, val_main_v19_2, val_main_call0_v4, val_main_call0_cst_0, val_main_call0_v3, val_main_call0_v2, val_main_call0_cst, val_main_call0_v1, val_main_call0_v0]
  rw [hx]
  rfl

/-- The gradient of the convolved values in the reference. -/
theorem ref_back (c : Dev nD) (r : Fin 2048) (l : Fin 1024) : val_main_v46 (F := Ideal) (m ((c : Thread nD τ).loc main_arg0)) (m ((c : Thread nD τ).loc main_arg2)) (m ((c : Thread nD τ).loc main_arg3)) (m ((c : Thread nD τ).loc main_arg4)) (ix2 r l)
    = back (fun k => val_main_v20 (F := Ideal) (m ((c : Thread nD τ).loc main_arg0)) (m ((c : Thread nD τ).loc main_arg2)) (m ((c : Thread nD τ).loc main_arg3)) (m ((c : Thread nD τ).loc main_arg4)) (ix2 k l)) ((m ((c : Thread nD τ).loc main_arg3)) (ix2 0 l)) ((m ((c : Thread nD τ).loc main_arg3)) (ix2 1 l)) ((m ((c : Thread nD τ).loc main_arg3)) (ix2 2 l)) ((m ((c : Thread nD τ).loc main_arg3)) (ix2 3 l)) r := by
  pointwise [val_main_v46, val_main_v44, val_main_v43, val_main_cst_8, val_main_v42, val_main_v41, val_main_cst_7, val_main_v40, val_main_v39, val_main_cst_6, val_main_v38, val_main_cst_5, val_main_v37, val_main_v36, val_main_v35, val_main_v34, val_main_v33, val_main_v32, val_main_v31, val_main_v30, val_main_v25, val_main_v24, val_main_v23, val_main_v13, back]
  rw [mul_padded_advance 2 3 1 rfl (fun k => val_main_v20 (F := Ideal) (m ((c : Thread nD τ).loc main_arg0)) (m ((c : Thread nD τ).loc main_arg2)) (m ((c : Thread nD τ).loc main_arg3)) (m ((c : Thread nD τ).loc main_arg4)) (ix2 k l)) _ r, mul_padded_advance 1 3 2 rfl (fun k => val_main_v20 (F := Ideal) (m ((c : Thread nD τ).loc main_arg0)) (m ((c : Thread nD τ).loc main_arg2)) (m ((c : Thread nD τ).loc main_arg3)) (m ((c : Thread nD τ).loc main_arg4)) (ix2 k l)) _ r, mul_dite_advance 3 (fun k => val_main_v20 (F := Ideal) (m ((c : Thread nD τ).loc main_arg0)) (m ((c : Thread nD τ).loc main_arg2)) (m ((c : Thread nD τ).loc main_arg3)) (m ((c : Thread nD τ).loc main_arg4)) (ix2 k l)) _ r]
  exact last_first _ _ _ _

/-- Row 0 of the filter's gradient in the reference. -/
theorem ref_row0 (c : Dev nD) (l : Fin 1024) : val_main_v29 (F := Ideal) (m ((c : Thread nD τ).loc main_arg0)) (m ((c : Thread nD τ).loc main_arg2)) (m ((c : Thread nD τ).loc main_arg3)) (m ((c : Thread nD τ).loc main_arg4)) (ix2 0 l) = ∑ r : Fin 2048, val_main_v20 (F := Ideal) (m ((c : Thread nD τ).loc main_arg0)) (m ((c : Thread nD τ).loc main_arg2)) (m ((c : Thread nD τ).loc main_arg3)) (m ((c : Thread nD τ).loc main_arg4)) (ix2 r l) * delay 3 (fun k => val_main_v0 (F := Ideal) (m ((c : Thread nD τ).loc main_arg0)) (ix2 k l)) r := by
  pointwise [val_main_v29, val_main_cst_4, val_main_v28, val_main_v27, val_main_cst_3, val_main_v26, val_main_v23]
  rw [Fin.sum_univ_one]
  exact Finset.sum_congr rfl fun r _ => by rw [ref_window0]

/-- Row 1 of the filter's gradient in the reference. -/
theorem ref_row1 (c : Dev nD) (l : Fin 1024) : val_main_v29 (F := Ideal) (m ((c : Thread nD τ).loc main_arg0)) (m ((c : Thread nD τ).loc main_arg2)) (m ((c : Thread nD τ).loc main_arg3)) (m ((c : Thread nD τ).loc main_arg4)) (ix2 1 l) = ∑ r : Fin 2048, val_main_v20 (F := Ideal) (m ((c : Thread nD τ).loc main_arg0)) (m ((c : Thread nD τ).loc main_arg2)) (m ((c : Thread nD τ).loc main_arg3)) (m ((c : Thread nD τ).loc main_arg4)) (ix2 r l) * delay 2 (fun k => val_main_v0 (F := Ideal) (m ((c : Thread nD τ).loc main_arg0)) (ix2 k l)) r := by
  pointwise [val_main_v29, val_main_cst_4, val_main_v28, val_main_v27, val_main_cst_3, val_main_v26, val_main_v23]
  rw [Fin.sum_univ_one]
  exact Finset.sum_congr rfl fun r _ => by rw [ref_window1]

/-- Row 2 of the filter's gradient in the reference. -/
theorem ref_row2 (c : Dev nD) (l : Fin 1024) : val_main_v29 (F := Ideal) (m ((c : Thread nD τ).loc main_arg0)) (m ((c : Thread nD τ).loc main_arg2)) (m ((c : Thread nD τ).loc main_arg3)) (m ((c : Thread nD τ).loc main_arg4)) (ix2 2 l) = ∑ r : Fin 2048, val_main_v20 (F := Ideal) (m ((c : Thread nD τ).loc main_arg0)) (m ((c : Thread nD τ).loc main_arg2)) (m ((c : Thread nD τ).loc main_arg3)) (m ((c : Thread nD τ).loc main_arg4)) (ix2 r l) * delay 1 (fun k => val_main_v0 (F := Ideal) (m ((c : Thread nD τ).loc main_arg0)) (ix2 k l)) r := by
  pointwise [val_main_v29, val_main_cst_4, val_main_v28, val_main_v27, val_main_cst_3, val_main_v26, val_main_v23]
  rw [Fin.sum_univ_one]
  exact Finset.sum_congr rfl fun r _ => by rw [ref_window2]

/-- Row 3 of the filter's gradient in the reference. -/
theorem ref_row3 (c : Dev nD) (l : Fin 1024) : val_main_v29 (F := Ideal) (m ((c : Thread nD τ).loc main_arg0)) (m ((c : Thread nD τ).loc main_arg2)) (m ((c : Thread nD τ).loc main_arg3)) (m ((c : Thread nD τ).loc main_arg4)) (ix2 3 l) = ∑ r : Fin 2048, val_main_v20 (F := Ideal) (m ((c : Thread nD τ).loc main_arg0)) (m ((c : Thread nD τ).loc main_arg2)) (m ((c : Thread nD τ).loc main_arg3)) (m ((c : Thread nD τ).loc main_arg4)) (ix2 r l) * val_main_v0 (F := Ideal) (m ((c : Thread nD τ).loc main_arg0)) (ix2 r l) := by
  pointwise [val_main_v29, val_main_cst_4, val_main_v28, val_main_v27, val_main_cst_3, val_main_v26, val_main_v23]
  rw [Fin.sum_univ_one]
  exact Finset.sum_congr rfl fun r _ => by rw [ref_window3]

/-- The bias's gradient in the reference. -/
theorem ref_bias (c : Dev nD) (l : Fin 1024) : val_main_v22 (F := Ideal) (m ((c : Thread nD τ).loc main_arg0)) (m ((c : Thread nD τ).loc main_arg2)) (m ((c : Thread nD τ).loc main_arg3)) (m ((c : Thread nD τ).loc main_arg4)) (ix2 0 l) = ∑ r : Fin 2048, val_main_v20 (F := Ideal) (m ((c : Thread nD τ).loc main_arg0)) (m ((c : Thread nD τ).loc main_arg2)) (m ((c : Thread nD τ).loc main_arg3)) (m ((c : Thread nD τ).loc main_arg4)) (ix2 r l) := by
  pointwise [val_main_v22, val_main_v21, val_main_cst_2]

/-- The bias's gradient, in a tile. -/
theorem bias_apply (g : FVec Ideal S2048x256 .f32) (l : Fin 256) : k0_pay4 (F := Ideal) g (ix2 0 l) = ∑ r : Fin 2048, g (ix2 r l) := by
  pointwise [k0_pay4]

/-- The reference's gradient of the projection: the convolved columns. -/
theorem ref_column (c : Dev nD) (R : Fin 2048) (l : Fin 1024) (L : Fin 11264) (hL : (L : ℕ) = 5120 + l.val) :
    val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R L) = val_main_v46 (F := Ideal) (m ((c : Thread nD τ).loc main_arg0)) (m ((c : Thread nD τ).loc main_arg2)) (m ((c : Thread nD τ).loc main_arg3)) (m ((c : Thread nD τ).loc main_arg4)) (ix2 R l) := by
  pointwise [val_main_v50, val_main_v49, val_main_v48, val_main_v47]
  rw [dif_neg (by omega), dif_pos (by omega)]
  blk_point

end Cert.ConvGrad

end
-- ==== Proof.ConvGradArray.lean ====
/- The gradient of the causal convolution and its activation. -/
module

public import proofs.«01_k».proof.Proof.Gen.Kernel15Ideal.Frame
public import proofs.«01_k».proof.Proof.Gen.Reference15Ideal.Read
public import proofs.«01_k».proof.Proof.ConvGradRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvGrad

open Cert.Kernel15Ideal Cert.Kernel15Ideal.Gen Cert.Reference15Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the column tile is `t`; the convolved columns begin at tile 20 of the projection. -/
theorem idx : ∀ t : Fin cfg0.N, win0_0.index t = ![0, 20 + t.val] ∧ win0_1.index t = ![0, t.val] ∧ win0_2.index t = ![0, t.val]
    ∧ win0_3.index t = ![0, t.val] ∧ win0_4.index t = ![0, 20 + t.val] ∧ win0_5.index t = ![0, t.val] ∧ win0_6.index t = ![0, t.val] :=
  (by decide +kernel : ∀ t : Fin grid0.N, _)

/-- The convolved columns' tile. -/
theorem column_eq (c : Dev nD) (t : Fin cfg0.N) (ht : t.val < 4) (l : Fin 256) :
    (fun k => iblk m c 0 t (ix2 k l) : Fin 2048 → EReal) = fun k => val_main_v0 (F := Ideal) (m ((c : Thread nD τ).loc main_arg0)) (ix2 k ⟨t.val * 256 + l.val, by omega⟩) := by
  funext k
  pointwise [val_main_v0]; blk_point [iblk, V, idx t]

/-- The incoming gradient's tile. -/
theorem incoming_eq (c : Dev nD) (t : Fin cfg0.N) (ht : t.val < 4) (l : Fin 256) :
    (fun k => iblk m c 1 t (ix2 k l) : Fin 2048 → EReal) = fun k => (m ((c : Thread nD τ).loc main_arg2)) (ix2 k ⟨t.val * 256 + l.val, by omega⟩) := by
  funext k
  blk_point [iblk, V, idx t]

/-- The filter's tile. -/
theorem tile2 (c : Dev nD) (t : Fin cfg0.N) (ht : t.val < 4) (k : Fin 4) (l : Fin 256) :
    iblk m c 2 t (ix2 k l) = (m ((c : Thread nD τ).loc main_arg3)) (ix2 k ⟨t.val * 256 + l.val, by omega⟩) := by
  blk_point [iblk, V, idx t]

/-- The bias's tile. -/
theorem tile3 (c : Dev nD) (t : Fin cfg0.N) (ht : t.val < 4) (l : Fin 256) :
    iblk m c 3 t (ix2 0 l) = (m ((c : Thread nD τ).loc main_arg4)) (ix2 0 ⟨t.val * 256 + l.val, by omega⟩) := by
  blk_point [iblk, V, idx t]

set_option maxHeartbeats 1600000 in
/-- The convolution's tile. -/
theorem conv_eq (c : Dev nD) (t : Fin cfg0.N) (ht : t.val < 4) (l : Fin 256) :
    Conv.conv (fun k => iblk m c 0 t (ix2 k l)) ((View.ld (iblk m c 2 t) (Rect.unit ![0, 0] ![1, 256] inb_S4x256_S1x256_0_0)) (ix2 0 l)) ((View.ld (iblk m c 2 t) (Rect.unit ![1, 0] ![1, 256] inb_S4x256_S1x256_1_0)) (ix2 0 l)) ((View.ld (iblk m c 2 t) (Rect.unit ![2, 0] ![1, 256] inb_S4x256_S1x256_2_0)) (ix2 0 l)) ((View.ld (iblk m c 2 t) (Rect.unit ![3, 0] ![1, 256] inb_S4x256_S1x256_3_0)) (ix2 0 l)) (iblk m c 3 t (ix2 0 l))
      = fun k => val_main_v18 (F := Ideal) (m ((c : Thread nD τ).loc main_arg0)) (m ((c : Thread nD τ).loc main_arg3)) (m ((c : Thread nD τ).loc main_arg4)) (ix2 k ⟨t.val * 256 + l.val, by omega⟩) := by
  funext r
  rw [column_eq m c t ht l, ref_conv, tile3 m c t ht]
  pointwise
  rw [tile2 m c t ht 0, tile2 m c t ht 1, tile2 m c t ht 2, tile2 m c t ht 3]

set_option maxHeartbeats 1600000 in
/-- The entering gradient's tile. -/
theorem enter_eq (c : Dev nD) (hd : ∀ r l, ∃ x : ℝ, (m ((c : Thread nD τ).loc main_arg2)) (ix2 r l) = (x : EReal)) (t : Fin cfg0.N) (ht : t.val < 4) (r : Fin 2048) (l : Fin 256) :
    k0_pay10 (F := Ideal) (iblk m c 0 t) (k0_pay8 (iblk m c 0 t) (iblk m c 3 t) (View.ld (iblk m c 2 t) (Rect.unit ![0, 0] ![1, 256] inb_S4x256_S1x256_0_0)) (View.ld (iblk m c 2 t) (Rect.unit ![1, 0] ![1, 256] inb_S4x256_S1x256_1_0)) (View.ld (iblk m c 2 t) (Rect.unit ![2, 0] ![1, 256] inb_S4x256_S1x256_2_0))) (k0_pay9 (View.ld (iblk m c 2 t) (Rect.unit ![3, 0] ![1, 256] inb_S4x256_S1x256_3_0))) (iblk m c 1 t) (ix2 r l) = val_main_v20 (F := Ideal) (m ((c : Thread nD τ).loc main_arg0)) (m ((c : Thread nD τ).loc main_arg2)) (m ((c : Thread nD τ).loc main_arg3)) (m ((c : Thread nD τ).loc main_arg4)) (ix2 r ⟨t.val * 256 + l.val, by omega⟩) := by
  rw [enter_apply, ref_enter m c hd, conv_eq m c t ht l, incoming_eq m c t ht l]

set_option maxHeartbeats 1600000 in
/-- The tile of the convolved columns' gradient. -/
theorem back_eq (c : Dev nD) (hd : ∀ r l, ∃ x : ℝ, (m ((c : Thread nD τ).loc main_arg2)) (ix2 r l) = (x : EReal)) (t : Fin cfg0.N) (ht : t.val < 4) (r : Fin 2048) (l : Fin 256) :
    k0_pay3 (F := Ideal) (k0_pay10 (F := Ideal) (iblk m c 0 t) (k0_pay8 (iblk m c 0 t) (iblk m c 3 t) (View.ld (iblk m c 2 t) (Rect.unit ![0, 0] ![1, 256] inb_S4x256_S1x256_0_0)) (View.ld (iblk m c 2 t) (Rect.unit ![1, 0] ![1, 256] inb_S4x256_S1x256_1_0)) (View.ld (iblk m c 2 t) (Rect.unit ![2, 0] ![1, 256] inb_S4x256_S1x256_2_0))) (k0_pay9 (View.ld (iblk m c 2 t) (Rect.unit ![3, 0] ![1, 256] inb_S4x256_S1x256_3_0))) (iblk m c 1 t)) (k0_pay12 (iblk m c 0 t) (k0_pay8 (iblk m c 0 t) (iblk m c 3 t) (View.ld (iblk m c 2 t) (Rect.unit ![0, 0] ![1, 256] inb_S4x256_S1x256_0_0)) (View.ld (iblk m c 2 t) (Rect.unit ![1, 0] ![1, 256] inb_S4x256_S1x256_1_0)) (View.ld (iblk m c 2 t) (Rect.unit ![2, 0] ![1, 256] inb_S4x256_S1x256_2_0))) (k0_pay9 (View.ld (iblk m c 2 t) (Rect.unit ![3, 0] ![1, 256] inb_S4x256_S1x256_3_0))) (iblk m c 1 t) (View.ld (iblk m c 2 t) (Rect.unit ![0, 0] ![1, 256] inb_S4x256_S1x256_0_0)) (View.ld (iblk m c 2 t) (Rect.unit ![1, 0] ![1, 256] inb_S4x256_S1x256_1_0))) (View.ld (iblk m c 2 t) (Rect.unit ![2, 0] ![1, 256] inb_S4x256_S1x256_2_0)) (View.ld (iblk m c 2 t) (Rect.unit ![3, 0] ![1, 256] inb_S4x256_S1x256_3_0)) (ix2 r l)
      = val_main_v46 (F := Ideal) (m ((c : Thread nD τ).loc main_arg0)) (m ((c : Thread nD τ).loc main_arg2)) (m ((c : Thread nD τ).loc main_arg3)) (m ((c : Thread nD τ).loc main_arg4)) (ix2 r ⟨t.val * 256 + l.val, by omega⟩) := by
  rw [back_apply, ref_back]
  simp only [enter_eq m c hd t ht _ l]
  pointwise
  rw [tile2 m c t ht 0, tile2 m c t ht 1, tile2 m c t ht 2, tile2 m c t ht 3]

set_option maxHeartbeats 1600000 in
/-- The projection's gradient. -/
theorem final4 (c : Dev nD) (hd : ∀ r l, ∃ x : ℝ, (m ((c : Thread nD τ).loc main_arg2)) (ix2 r l) = (x : EReal)) : (dats m 0 c).arrAt 4 cfg0.N = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hw : (dats m 0 c).arrAt 4 cfg0.N = fun i : S2048x11264.Idx => if 5120 ≤ (i 1 : ℕ) ∧ (i 1 : ℕ) < 6144 then val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i else (dats m 0 c).A 4 i := by
    refine (dats m 0 c).arrAt_eq_of_coversWhere 4 _ (fun β => 20 ≤ β (1 : Fin 2) ∧ β (1 : Fin 2) < 24) (by decide +kernel) (fun t hf y => ?_)
      (fun j => by blk_simp [Pipeline.Window.cell_apply]; omega)
    blk_simp
    rw [after0_4]
    have ht : t.val < 4 := t.isLt
    have hy : (y 1 : ℕ) < 256 := (y 1).isLt
    unfold outsAt0
    frame_out
    refine (congrArg _ (eq_ix2 (n0 := 2048) (n1 := 256) y)).trans ((back_eq m c hd t ht (y 0) (y 1)).trans ((ref_column m c (y 0) _ ⟨5120 + (t.val * 256 + (y 1).val), by omega⟩ rfl).symm.trans ?_))
    blk_point [idx t]
  rw [hw]
  funext i
  by_cases h : 5120 ≤ (i 1 : ℕ) ∧ (i 1 : ℕ) < 6144
  · rw [if_pos h]
  · rw [if_neg h]
    rw [A_eq]
    entry_read
    pointwise [val_main_v50, val_main_v49, val_main_v48, val_main_v47]
    have h4 : (i 1 : ℕ) < 11264 := (i 1).isLt
    by_cases h0 : (i 1 : ℕ) < 5120
    · rw [dif_pos h0]
    · rw [dif_neg h0, dif_neg (by omega)]
      have e : (i 1 : ℕ) = 6144 + ((i 1 : ℕ) - 5120 - 1024) := by omega
      idx_vars i
      blk_point

set_option maxHeartbeats 1600000 in
/-- The filter's gradient. -/
theorem final5 (c : Dev nD) (hd : ∀ r l, ∃ x : ℝ, (m ((c : Thread nD τ).loc main_arg2)) (ix2 r l) = (x : EReal)) : (dats m 0 c).arrAt 5 cfg0.N = val_main_v29 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have ht : t.val < 4 := t.isLt
  unfold outsAt0
  frame_out
  canon_tiles y h
  · have e : y = ix2 0 (y 1) := (eq_ix2 y).trans (congrArg (fun k : Fin 1 => ix2 k (y 1)) (Subsingleton.elim _ _))
    refine (congrArg _ e).trans ((row3_apply _ _ (y 1)).trans ?_)
    refine Eq.trans ?_ ((ref_row3 m c ⟨t.val * 256 + (y 1).val, by omega⟩).symm.trans ?_)
    · exact Finset.sum_congr rfl fun r _ => congrArg₂ _ (enter_eq m c hd t ht r (y 1)) (congrFun (column_eq m c t ht (y 1)) r)
    · blk_point [idx t]
  · have e : y = ix2 0 (y 1) := (eq_ix2 y).trans (congrArg (fun k : Fin 1 => ix2 k (y 1)) (Subsingleton.elim _ _))
    refine (congrArg _ e).trans ((row2_apply _ _ (y 1)).trans ?_)
    refine Eq.trans ?_ ((ref_row2 m c ⟨t.val * 256 + (y 1).val, by omega⟩).symm.trans ?_)
    · exact Finset.sum_congr rfl fun r _ => congrArg₂ _ (enter_eq m c hd t ht r (y 1)) (congrArg (delay 1 · r) (column_eq m c t ht (y 1)))
    · blk_point [idx t]
  · have e : y = ix2 0 (y 1) := (eq_ix2 y).trans (congrArg (fun k : Fin 1 => ix2 k (y 1)) (Subsingleton.elim _ _))
    refine (congrArg _ e).trans ((row1_apply _ _ _ _ _ (y 1)).trans ?_)
    refine Eq.trans ?_ ((ref_row1 m c ⟨t.val * 256 + (y 1).val, by omega⟩).symm.trans ?_)
    · exact Finset.sum_congr rfl fun r _ => congrArg₂ _ (enter_eq m c hd t ht r (y 1)) (congrArg (delay 2 · r) (column_eq m c t ht (y 1)))
    · blk_point [idx t]
  · have e : y = ix2 0 (y 1) := (eq_ix2 y).trans (congrArg (fun k : Fin 1 => ix2 k (y 1)) (Subsingleton.elim _ _))
    refine (congrArg _ e).trans ((row0_apply _ _ _ _ _ (y 1)).trans ?_)
    refine Eq.trans ?_ ((ref_row0 m c ⟨t.val * 256 + (y 1).val, by omega⟩).symm.trans ?_)
    · exact Finset.sum_congr rfl fun r _ => congrArg₂ _ (enter_eq m c hd t ht r (y 1)) (congrArg (delay 3 · r) (column_eq m c t ht (y 1)))
    · blk_point [idx t]

set_option maxHeartbeats 1600000 in
/-- The bias's gradient. -/
theorem final6 (c : Dev nD) (hd : ∀ r l, ∃ x : ℝ, (m ((c : Thread nD τ).loc main_arg2)) (ix2 r l) = (x : EReal)) : (dats m 0 c).arrAt 6 cfg0.N = val_main_v22 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht : t.val < 4 := t.isLt
  have hy : (y 1 : ℕ) < 256 := (y 1).isLt
  unfold outsAt0
  frame_out
  have e : y = ix2 0 (y 1) := (eq_ix2 (n0 := 1) (n1 := 256) y).trans (congrArg (fun k : Fin 1 => ix2 k (y 1)) (Subsingleton.elim _ _))
  refine (congrArg _ e).trans ((bias_apply _ (y 1)).trans ?_)
  refine Eq.trans ?_ ((ref_bias m c ⟨t.val * 256 + (y 1).val, by omega⟩).symm.trans ?_)
  · exact Finset.sum_congr rfl fun r _ => enter_eq m c hd t ht r (y 1)
  · blk_point [idx t]

end Cert.ConvGrad

end
-- ==== Proof.ConvGradClaim.lean ====
/- The gradient of the causal convolution and its activation: its claims. -/
module

public import proofs.«01_k».proof.Defs
public import proofs.«01_k».proof.Proof.Gen.Kernel15Ideal.Value
public import proofs.«01_k».proof.Proof.Gen.Reference15Ideal.Run
public import proofs.«01_k».proof.Proof.ConvGradArray
public import proofs.«01_k».proof.Proof.Gen.Pre_finite15
public import Idealize.ShloMosaic.Lib.Claim

@[expose] public section

set_option maxRecDepth 16384

noncomputable section

namespace Cert.ConvGrad

open Idealize.ShloMosaic Idealize.ShloMosaic.TcCoe Idealize.SL.Sem

/-- Under the precondition the incoming gradient is real. -/
theorem finite (m : (ℓ : Loc Cert.Kernel15Ideal.nD Cert.Kernel15Ideal.τ Cert.Kernel15Ideal.sig) → Buf (Elt Ideal) ℓ) (h : Cert.Pre_Kernel15Ideal_finite15 (hPre_finite15 := Cert.Pre_finite15.Gen.facts) m)
    (c : Dev Cert.Kernel15Ideal.nD) (r : Fin 2048) (l : Fin 1024) : ∃ x : ℝ, (m ((c.tc : Thread Cert.Kernel15Ideal.nD Cert.Kernel15Ideal.τ).loc Cert.Kernel15Ideal.main_arg2)) (ix2 r l) = (x : EReal) := by
  refine real_of_abs_lt _ (Eq.trans ?_ (congrFun (h c) (ix2 r l)))
  pointwise [Cert.Pre_finite15.fn]
  rfl

/-- The reference's frame: it runs, keeps its arguments, and leaves every counter at zero. -/
theorem reference_frame : Cert.quiescent_Reference15Ideal (hReference15Ideal := Cert.Reference15Ideal.Gen.facts) := fun m g _ =>
  (θ_run _ _ _).mono (fun r h => ⟨fun c => (h c).2.2.2, Idealize.ShloMosaic.sem_eq_zero_of_no_sems (by decide) r.2⟩)
    (Cert.Reference15Ideal.Value.run (F := Ideal) m g)

/-- The same frame, under the precondition of the value claim. -/
theorem reference_frame_finite : Cert.quiescent_Reference15Ideal_pre_finite15 (hReference15Ideal := Cert.Reference15Ideal.Gen.facts) (hPre_finite15 := Cert.Pre_finite15.Gen.facts) := fun m g _ => reference_frame m g trivial

/-- The frame of the kernel, under the precondition of the value claim. -/
theorem kernel_frame_finite : Cert.quiescent_Kernel15Ideal_pre_finite15 (hKernel15Ideal := Cert.Kernel15Ideal.Gen.facts) (hPre_finite15 := Cert.Pre_finite15.Gen.facts) := fun m g _ => Cert.Kernel15Ideal.Gen.frame m g

/-- The value claim. -/
theorem algebraic : Cert.algebraic_Kernel15Ideal_Reference15Ideal_pre_finite15 (hKernel15Ideal := Cert.Kernel15Ideal.Gen.facts)
    (hReference15Ideal := Cert.Reference15Ideal.Gen.facts) (hPre_finite15 := Cert.Pre_finite15.Gen.facts) := by
  intro m g m' g' hpre hagree
  refine ⟨fun c => Cert.Reference15Ideal.Read.val_main_v50 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Cert.Reference15Ideal.Read.val_main_v29 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Cert.Reference15Ideal.Read.val_main_v22 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    (θ_run _ _ _).mono (fun r h c => ?_) (Cert.Kernel15Ideal.Value.run_blocks m g),
    (θ_run _ _ _).mono (fun r h c => ?_) (Cert.Reference15Ideal.Value.run m' g')⟩
  · obtain ⟨h0, h1, h2, ha⟩ := h c
    exact ⟨h0.trans (final4 m c (finite m hpre c)), h1.trans (final5 m c (finite m hpre c)), h2.trans (final6 m c (finite m hpre c)), ha⟩
  · obtain ⟨h0, h1, h2, ha⟩ := h c
    obtain ⟨e0, e1, e2, e3, e4⟩ := hagree c
    replace h0 := h0.trans (Cert.Reference15Ideal.Read.val_main_v50_eq m' c)
    rw [e0, e1, e2, e3, e4] at h0
    replace h1 := h1.trans (Cert.Reference15Ideal.Read.val_main_v29_eq m' c)
    rw [e0, e2, e3, e4] at h1
    replace h2 := h2.trans (Cert.Reference15Ideal.Read.val_main_v22_eq m' c)
    rw [e0, e2, e3, e4] at h2
    exact ⟨h0, h1, h2, ha⟩

end Cert.ConvGrad

end
-- ==== Proof.GateTile.lean ====
/- The gradient of the spatial gate: one chunk of 128 positions. -/
module

public import proofs.«01_k».proof.Proof.Gen.Kernel16Ideal.Frame
public import proofs.«01_k».proof.Proof.GateFwdMix
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.Kernel16Ideal Cert.Kernel16Ideal.Gen
open Idealize.ShloMosaic Idealize.ShloMosaic.TcCoe Idealize.SL.Sem
open Idealize.ShloMosaic.Pipeline (Dat)

variable (m : (ℓ : Loc nD τ sig) → Buf (Elt Ideal) ℓ)

/-- The weights of one head below the diagonal. -/
def low (w : FVec Ideal S8x128x128 .f32) (h : Fin 8) (t s : Fin 128) : EReal := if s.val ≤ t.val then w (ix3 h t s) else 0

/-- The mixed values of a chunk and the bias, at one place: the lane's head mixes the positions up to this one. -/
def mix (w : FVec Ideal S8x128x128 .f32) (H b : FVec Ideal S128x512 .f32) (r : Fin 128) (l : Fin 512) : EReal :=
  (∑ s : Fin 128, H (ix2 s l) * low w ⟨l.val / 64, by omega⟩ r s) + b (ix2 r l)

/-- The gradient of the values that are mixed, for the gradient `D` of the mixed ones. -/
def back (w : FVec Ideal S8x128x128 .f32) (D : FVec Ideal S128x512 .f32) (s : Fin 128) (l : Fin 512) : EReal :=
  ∑ t : Fin 128, low w ⟨l.val / 64, by omega⟩ t s * D (ix2 t l)

/-- A chunk's share of the gradient of the weights. -/
def outer (D H : FVec Ideal S128x512 .f32) (h : Fin 8) (t s : Fin 128) : EReal :=
  if s.val ≤ t.val then ∑ x : Fin 64, D (ix2 t ⟨h.val * 64 + x.val, by omega⟩) * H (ix2 s ⟨h.val * 64 + x.val, by omega⟩) else 0

/-- The gradient of the mixed values from the gradient of the output. -/
def spread (U S : FVec Ideal S128x512 .f32) (d : FVec Ideal S1x128x512 .f32) : FVec Ideal S128x512 .f32 :=
  fun j => U j * (d (ix3 0 (j 0) (j 1)) * S j)

/-- Of a pair of heads the lane picks its own. -/
theorem pair_head (f : Fin 8 → EReal) (p x : ℕ) (hx : x < 128) (a b h : Fin 8) (ha : a.val = 2 * p) (hb : b.val = 2 * p + 1)
    (hh : h.val = (128 * p + x) / 64) : (if x < 64 then f a else f b) = f h := by
  split_ifs with hl
  · exact congrArg f (Fin.ext (by omega))
  · exact congrArg f (Fin.ext (by omega))

/-- Four blocks of 128 columns, each added in a row of zeros, are the row. -/
theorem columns (f : Fin 512 → EReal) (l : Fin 512) :
    ((((if h : l.val < 384 then 0 else f ⟨384 + (l.val - 384), by omega⟩) + if h : l.val < 384 then
        if h : l.val < 256 then 0 else f ⟨256 + (l.val - 256), by omega⟩ else 0)
      + if h : l.val < 256 then if h : l.val < 128 then 0 else f ⟨128 + (l.val - 128), by omega⟩ else 0)
      + if h : l.val < 128 then f l else 0) = f l := by
  by_cases h1 : l.val < 128
  · simp [h1, show l.val < 256 by omega, show l.val < 384 by omega]
  · by_cases h2 : l.val < 256
    · simp [h1, h2, show l.val < 384 by omega, show 128 + (l.val - 128) = l.val by omega]
    · by_cases h3 : l.val < 384
      · simp [h1, h2, h3, show 256 + (l.val - 256) = l.val by omega]
      · simp [h1, h2, h3, show 384 + (l.val - 384) = l.val by omega]

/-- The causal mask of the kernel. -/
theorem causal (r s : Fin 128) (y : EReal) : Scalar.select (IntOp.cmpi .sge (BitVec.ofNat 32 r.val) (BitVec.ofNat 32 s.val)) y 0
    = if s.val ≤ r.val then y else 0 := by
  have := r.isLt
  have := s.isLt
  word_cmp

/-- The mask of the left lanes. -/
theorem left_lane (x : ℕ) (hx : x < 128) (y z : EReal) : Scalar.select (IntOp.cmpi .slt (BitVec.ofNat 32 x) 64#32) y z
    = if x < 64 then y else z := by
  by_cases h : x < 64
  · rw [if_pos h, WordCmp.select_of_eq_one ((WordCmp.cmpi_slt_ofNat_eq_one_iff (w := 32) (a := x) (b := 64) (by omega) (by omega)).mpr h)]
  · rw [if_neg h, WordCmp.select_of_eq_zero ((WordCmp.cmpi_slt_ofNat_eq_zero_iff (w := 32) (a := x) (b := 64) (by omega) (by omega)).mpr h)]

/-- A sum over the left lanes. -/
theorem sum_left (f : Fin 128 → EReal) : ∑ x : Fin 128, Scalar.select (IntOp.cmpi .slt (BitVec.ofNat 32 x.val) 64#32) (f x) 0
    = ∑ x : Fin 64, f ⟨x.val, by omega⟩ := by
  rw [Finset.sum_congr rfl fun (x : Fin 128) _ => left_lane x.val x.isLt (f x) 0]
  refine (Fin.sum_univ_add (a := 64) (b := 64) (fun x : Fin 128 => if x.val < 64 then f x else 0)).trans ?_
  simp [Fin.castAdd, Fin.castLE]

/-- A sum over the right lanes. -/
theorem sum_right (f : Fin 128 → EReal) : ∑ x : Fin 128, Scalar.select (IntOp.cmpi .slt (BitVec.ofNat 32 x.val) 64#32) 0 (f x)
    = ∑ x : Fin 64, f ⟨64 + x.val, by omega⟩ := by
  rw [Finset.sum_congr rfl fun (x : Fin 128) _ => left_lane x.val x.isLt 0 (f x)]
  refine (Fin.sum_univ_add (a := 64) (b := 64) (fun x : Fin 128 => if x.val < 64 then 0 else f x)).trans ?_
  simp [Fin.natAdd]

/-- The two masked products of the backward pass of a pair of heads. -/
theorem heads_back (a b v : Fin 128 → EReal) (s : Fin 128) (x : ℕ) (hx : x < 128) :
    Scalar.select (IntOp.cmpi .slt (BitVec.ofNat 32 x) 64#32) 0
        (∑ t : Fin 128, Scalar.select (IntOp.cmpi .sge (BitVec.ofNat 32 t.val) (BitVec.ofNat 32 s.val)) (b t * v t) 0)
      + Scalar.select (IntOp.cmpi .slt (BitVec.ofNat 32 x) 64#32)
        (∑ t : Fin 128, Scalar.select (IntOp.cmpi .sge (BitVec.ofNat 32 t.val) (BitVec.ofNat 32 s.val)) (a t * v t) 0) 0
      = ∑ t : Fin 128, if s.val ≤ t.val then (if x < 64 then a t else b t) * v t else 0 := by
  simp only [left_lane x hx, causal]
  by_cases h : x < 64 <;> simp [h]

set_option maxHeartbeats 1600000 in
/-- The mixed values of the first pair of heads. -/
theorem mix0_apply (b : FVec Ideal S128x512 .f32) (v3 v4 : FVec Ideal S1x512 .f32) (v26 v34 : FVec Ideal S128x512 .f32) (w : FVec Ideal S8x128x128 .f32) (r x : Fin 128) :
    k0_pay40 (F := Ideal) w b k0_pay28 k0_pay29 (k0_pay33 v3 v4 v26 v34) (k0_pay34 w) (ix2 r x) = mix w (k0_pay27 v3 v4 v26 v34) b r ⟨x, by omega⟩ := by
  pointwise [k0_pay40, k0_pay37, k0_pay35, k0_pay34, k0_pay36, k0_pay38, k0_pay33, k0_pay28, k0_pay29]
  refine (congrArg (· + b (ix2 r ⟨x, by omega⟩)) (GateFwd.heads _ _ _ r x)).trans ?_
  unfold mix low GateFwd.mixed
  refine congrArg (· + b (ix2 r ⟨x, by omega⟩)) (Finset.sum_congr rfl fun s _ => ?_)
  refine congrArg (k0_pay27 v3 v4 v26 v34 (ix2 s ⟨x, by omega⟩) * ·) (if_congr Iff.rfl ?_ rfl)
  exact pair_head (fun h => w (ix3 h r s)) 0 x.val x.isLt _ _ _ rfl rfl (by show x.val / 64 = _; omega)

set_option maxHeartbeats 1600000 in
/-- The mixed values of the second pair of heads. -/
theorem mix1_apply (b : FVec Ideal S128x512 .f32) (v3 v4 : FVec Ideal S1x512 .f32) (v26 v34 : FVec Ideal S128x512 .f32) (w : FVec Ideal S8x128x128 .f32) (r x : Fin 128) :
    k0_pay49 (F := Ideal) w b (k0_pay27 v3 v4 v26 v34) k0_pay28 k0_pay29 (ix2 r x) = mix w (k0_pay27 v3 v4 v26 v34) b r ⟨128 + x, by omega⟩ := by
  pointwise [k0_pay49, k0_pay44, k0_pay45, k0_pay46, k0_pay47, k0_pay43, k0_pay28, k0_pay29]
  refine (congrArg (· + b (ix2 r ⟨128 + x, by omega⟩)) (GateFwd.heads _ _ _ r x)).trans ?_
  unfold mix low GateFwd.mixed
  refine congrArg (· + b (ix2 r ⟨128 + x, by omega⟩)) (Finset.sum_congr rfl fun s _ => ?_)
  refine congrArg (k0_pay27 v3 v4 v26 v34 (ix2 s ⟨128 + x, by omega⟩) * ·) (if_congr Iff.rfl ?_ rfl)
  exact pair_head (fun h => w (ix3 h r s)) 1 x.val x.isLt _ _ _ rfl rfl (by show (128 + x.val) / 64 = _; omega)

set_option maxHeartbeats 1600000 in
/-- The mixed values of the third pair of heads. -/
theorem mix2_apply (b : FVec Ideal S128x512 .f32) (v3 v4 : FVec Ideal S1x512 .f32) (v26 v34 : FVec Ideal S128x512 .f32) (w : FVec Ideal S8x128x128 .f32) (r x : Fin 128) :
    k0_pay58 (F := Ideal) w b (k0_pay27 v3 v4 v26 v34) k0_pay28 k0_pay29 (ix2 r x) = mix w (k0_pay27 v3 v4 v26 v34) b r ⟨256 + x, by omega⟩ := by
  pointwise [k0_pay58, k0_pay53, k0_pay54, k0_pay55, k0_pay56, k0_pay52, k0_pay28, k0_pay29]
  refine (congrArg (· + b (ix2 r ⟨256 + x, by omega⟩)) (GateFwd.heads _ _ _ r x)).trans ?_
  unfold mix low GateFwd.mixed
  refine congrArg (· + b (ix2 r ⟨256 + x, by omega⟩)) (Finset.sum_congr rfl fun s _ => ?_)
  refine congrArg (k0_pay27 v3 v4 v26 v34 (ix2 s ⟨256 + x, by omega⟩) * ·) (if_congr Iff.rfl ?_ rfl)
  exact pair_head (fun h => w (ix3 h r s)) 2 x.val x.isLt _ _ _ rfl rfl (by show (256 + x.val) / 64 = _; omega)

set_option maxHeartbeats 1600000 in
/-- The mixed values of the fourth pair of heads. -/
theorem mix3_apply (b : FVec Ideal S128x512 .f32) (v3 v4 : FVec Ideal S1x512 .f32) (v26 v34 : FVec Ideal S128x512 .f32) (w : FVec Ideal S8x128x128 .f32) (r x : Fin 128) :
    k0_pay67 (F := Ideal) w b (k0_pay27 v3 v4 v26 v34) k0_pay28 k0_pay29 (ix2 r x) = mix w (k0_pay27 v3 v4 v26 v34) b r ⟨384 + x, by omega⟩ := by
  pointwise [k0_pay67, k0_pay62, k0_pay63, k0_pay64, k0_pay65, k0_pay61, k0_pay28, k0_pay29]
  refine (congrArg (· + b (ix2 r ⟨384 + x, by omega⟩)) (GateFwd.heads _ _ _ r x)).trans ?_
  unfold mix low GateFwd.mixed
  refine congrArg (· + b (ix2 r ⟨384 + x, by omega⟩)) (Finset.sum_congr rfl fun s _ => ?_)
  refine congrArg (k0_pay27 v3 v4 v26 v34 (ix2 s ⟨384 + x, by omega⟩) * ·) (if_congr Iff.rfl ?_ rfl)
  exact pair_head (fun h => w (ix3 h r s)) 3 x.val x.isLt _ _ _ rfl rfl (by show (384 + x.val) / 64 = _; omega)

set_option maxHeartbeats 1600000 in
/-- The gradient of the mixed values of a chunk. -/
theorem mix_grad_apply (U S : FVec Ideal S128x512 .f32) (d : FVec Ideal S1x128x512 .f32) (r : Fin 128) (l : Fin 512) :
    k0_pay112 (F := Ideal) (k0_pay39 U) (k0_pay42 S) (k0_pay69 d) (k0_pay100 (k0_pay48 U) (k0_pay51 S) (k0_pay70 d) (k0_pay88 (k0_pay57 U) (k0_pay60 S) (k0_pay71 d) (k0_pay76 S (k0_pay66 U) d))) (ix2 r l)
      = spread U S d (ix2 r l) := by
  pointwise [k0_pay112, k0_pay111, k0_pay109, k0_pay100, k0_pay99, k0_pay97, k0_pay88, k0_pay87, k0_pay85, k0_pay76, k0_pay75, k0_pay73, k0_pay72, k0_pay71, k0_pay70, k0_pay69, k0_pay68, k0_pay66, k0_pay60, k0_pay57, k0_pay51, k0_pay48, k0_pay42, k0_pay39]
  exact columns (fun l => U (ix2 r l) * (d (ix3 0 r l) * S (ix2 r l))) l

set_option maxHeartbeats 1600000 in
/-- The gradient of the first activation's values in a chunk. -/
theorem act_grad_apply (S b : FVec Ideal S128x512 .f32) (v3 v4 : FVec Ideal S1x512 .f32) (v26 v34 : FVec Ideal S128x512 .f32) (w : FVec Ideal S8x128x128 .f32) (d : FVec Ideal S1x128x512 .f32) (r : Fin 128) (l : Fin 512) :
    k0_pay113 (F := Ideal) (k0_pay40 w b k0_pay28 k0_pay29 (k0_pay33 v3 v4 v26 v34) (k0_pay34 w)) (k0_pay42 S) (k0_pay69 d) (k0_pay101 (k0_pay49 w b (k0_pay27 v3 v4 v26 v34) k0_pay28 k0_pay29) (k0_pay51 S) (k0_pay70 d) (k0_pay89 (k0_pay58 w b (k0_pay27 v3 v4 v26 v34) k0_pay28 k0_pay29) (k0_pay60 S) (k0_pay71 d) (k0_pay77 S (k0_pay67 w b (k0_pay27 v3 v4 v26 v34) k0_pay28 k0_pay29) d))) (ix2 r l)
      = d (ix3 0 r l) * S (ix2 r l) * mix w (k0_pay27 v3 v4 v26 v34) b r l := by
  pointwise [k0_pay113, k0_pay101, k0_pay89, k0_pay77, k0_pay109, k0_pay97, k0_pay85, k0_pay73, k0_pay72, k0_pay71, k0_pay70, k0_pay69, k0_pay68, k0_pay60, k0_pay51, k0_pay42]
  simp only [mix0_apply, mix1_apply, mix2_apply, mix3_apply]
  exact columns (fun l => d (ix3 0 r l) * S (ix2 r l) * mix w (k0_pay27 v3 v4 v26 v34) b r l) l

set_option maxHeartbeats 1600000 in
/-- The gradient of the gate's values in a chunk. -/
theorem gate_grad_apply (U b : FVec Ideal S128x512 .f32) (v3 v4 : FVec Ideal S1x512 .f32) (v26 v34 : FVec Ideal S128x512 .f32) (w : FVec Ideal S8x128x128 .f32) (d : FVec Ideal S1x128x512 .f32) (r : Fin 128) (l : Fin 512) :
    k0_pay110 (F := Ideal) (k0_pay41 w b U k0_pay28 k0_pay29 (k0_pay33 v3 v4 v26 v34) (k0_pay34 w)) (k0_pay69 d) (k0_pay98 (k0_pay50 w b U (k0_pay27 v3 v4 v26 v34) k0_pay28 k0_pay29) (k0_pay70 d) (k0_pay86 (k0_pay59 w b U (k0_pay27 v3 v4 v26 v34) k0_pay28 k0_pay29) (k0_pay71 d) (k0_pay74 (k0_pay66 U) (k0_pay67 w b (k0_pay27 v3 v4 v26 v34) k0_pay28 k0_pay29) d))) (ix2 r l)
      = U (ix2 r l) * mix w (k0_pay27 v3 v4 v26 v34) b r l * d (ix3 0 r l) := by
  pointwise [k0_pay110, k0_pay98, k0_pay86, k0_pay74, k0_pay41, k0_pay50, k0_pay59, k0_pay39, k0_pay48, k0_pay57, k0_pay66, k0_pay72, k0_pay71, k0_pay70, k0_pay69, k0_pay68]
  simp only [mix0_apply, mix1_apply, mix2_apply, mix3_apply]
  exact columns (fun l => U (ix2 r l) * mix w (k0_pay27 v3 v4 v26 v34) b r l * d (ix3 0 r l)) l

set_option maxHeartbeats 1600000 in
/-- The gradient of the normalised values of a chunk. -/
theorem hidden_grad_apply (U S : FVec Ideal S128x512 .f32) (w : FVec Ideal S8x128x128 .f32) (d : FVec Ideal S1x128x512 .f32) (s : Fin 128) (l : Fin 512) :
    k0_pay119 (F := Ideal) k0_pay29 (k0_pay35 k0_pay28 (k0_pay34 w)) (k0_pay108 k0_pay29 (k0_pay96 (k0_pay84 (k0_pay81 k0_pay29 S (k0_pay62 w k0_pay28) (k0_pay64 w k0_pay28) (k0_pay66 U) d)) (k0_pay94 k0_pay29 (k0_pay53 w k0_pay28) (k0_pay55 w k0_pay28) (k0_pay57 U) (k0_pay60 S) (k0_pay71 d))) (k0_pay103 k0_pay29 (k0_pay46 w k0_pay28) (k0_pay48 U) (k0_pay51 S) (k0_pay70 d)) (k0_pay105 (k0_pay48 U) (k0_pay51 S) (k0_pay70 d)) (k0_pay106 (k0_pay44 w k0_pay28))) (k0_pay115 k0_pay29 (k0_pay37 w k0_pay28) (k0_pay39 U) (k0_pay42 S) (k0_pay69 d)) (k0_pay117 (k0_pay39 U) (k0_pay42 S) (k0_pay69 d)) (ix2 s l)
      = back w (spread U S d) s l := by
  pointwise [k0_pay119, k0_pay117, k0_pay115, k0_pay114, k0_pay111, k0_pay109, k0_pay108, k0_pay106, k0_pay105, k0_pay103, k0_pay102, k0_pay99, k0_pay97, k0_pay96, k0_pay94, k0_pay92, k0_pay90, k0_pay87, k0_pay85, k0_pay84, k0_pay81, k0_pay80, k0_pay78, k0_pay75, k0_pay73, k0_pay72, k0_pay71, k0_pay70, k0_pay69, k0_pay68, k0_pay66, k0_pay64, k0_pay62, k0_pay60, k0_pay57, k0_pay55, k0_pay53, k0_pay51, k0_pay48, k0_pay46, k0_pay44, k0_pay42, k0_pay39, k0_pay37, k0_pay35, k0_pay34, k0_pay29, k0_pay28]
  have split : ∀ (p : ℕ) (hp : p < 4) (a b v : Fin 128 → EReal) (x : ℕ) (hx : x < 128) (hl : l.val = 128 * p + x)
      (ha : ∀ t, a t = w (ix3 ⟨2 * p, by omega⟩ t s)) (hb : ∀ t, b t = w (ix3 ⟨2 * p + 1, by omega⟩ t s))
      (hv : ∀ t, v t = U (ix2 t l) * (d (ix3 0 t l) * S (ix2 t l))),
      Scalar.select (IntOp.cmpi .slt (BitVec.ofNat 32 x) 64#32) 0
        (∑ t : Fin 128, Scalar.select (IntOp.cmpi .sge (BitVec.ofNat 32 t.val) (BitVec.ofNat 32 s.val)) (b t * v t) 0)
      + Scalar.select (IntOp.cmpi .slt (BitVec.ofNat 32 x) 64#32)
        (∑ t : Fin 128, Scalar.select (IntOp.cmpi .sge (BitVec.ofNat 32 t.val) (BitVec.ofNat 32 s.val)) (a t * v t) 0) 0
      = back w (spread U S d) s l :=
    fun p hp a b v x hx hl ha hb hv => (heads_back a b v s x hx).trans (Finset.sum_congr rfl fun t _ => by
      rw [ha t, hb t, hv t, pair_head (fun h => w (ix3 h t s)) p x hx _ _ ⟨l.val / 64, by omega⟩ rfl rfl (by show l.val / 64 = _; omega)]
      unfold low
      by_cases hs : s.val ≤ t.val
      · rw [if_pos hs, if_pos hs]; rfl
      · rw [if_neg hs, if_neg hs, zero_mul])
  by_cases h1 : l.val < 128
  · simp only [dif_pos h1, dif_pos (show l.val < 256 by omega), dif_pos (show l.val < 384 by omega), zero_add, add_zero]
    exact split 0 (by omega) _ _ _ l.val h1 (by omega) (fun t => rfl) (fun t => rfl) (fun t => rfl)
  · by_cases h2 : l.val < 256
    · simp only [dif_neg h1, dif_pos h2, dif_pos (show l.val < 384 by omega), zero_add, add_zero, show 128 + (l.val - 128) = l.val by omega, Fin.eta]
      exact split 1 (by omega) _ _ _ (l.val - 128) (by omega) (by omega) (fun t => rfl) (fun t => rfl) (fun t => rfl)
    · by_cases h3 : l.val < 384
      · simp only [dif_neg h1, dif_neg h2, dif_pos h3, zero_add, add_zero, show 256 + (l.val - 256) = l.val by omega, Fin.eta]
        exact split 2 (by omega) _ _ _ (l.val - 256) (by omega) (by omega) (fun t => rfl) (fun t => rfl) (fun t => rfl)
      · simp only [dif_neg h1, dif_neg h2, dif_neg h3, zero_add, add_zero, show 384 + (l.val - 384) = l.val by omega, Fin.eta]
        exact split 3 (by omega) _ _ _ (l.val - 384) (by omega) (by omega) (fun t => rfl) (fun t => rfl) (fun t => rfl)

set_option maxHeartbeats 1600000 in
/-- The gradient of the mixing weights of a chunk. -/
theorem weight_grad_apply (U S : FVec Ideal S128x512 .f32) (v3 v4 : FVec Ideal S1x512 .f32) (v26 v34 : FVec Ideal S128x512 .f32) (w : FVec Ideal S8x128x128 .f32) (d : FVec Ideal S1x128x512 .f32) (h : Fin 8) (t s : Fin 128) :
    k0_pay118 (F := Ideal) k0_pay28 (k0_pay36 k0_pay29 (k0_pay33 v3 v4 v26 v34)) (k0_pay116 k0_pay28 (k0_pay38 k0_pay29 (k0_pay33 v3 v4 v26 v34)) (k0_pay39 U) (k0_pay42 S) (k0_pay69 d)
        (k0_pay104 k0_pay28 (k0_pay47 (k0_pay27 v3 v4 v26 v34) k0_pay29) (k0_pay48 U) (k0_pay51 S) (k0_pay70 d) (k0_pay91 k0_pay28 (k0_pay56 (k0_pay27 v3 v4 v26 v34) k0_pay29) (k0_pay57 U) (k0_pay60 S) (k0_pay71 d)
          (k0_pay79 k0_pay28 S (k0_pay65 (k0_pay27 v3 v4 v26 v34) k0_pay29) (k0_pay66 U) d) (k0_pay82 k0_pay28 S (k0_pay63 (k0_pay27 v3 v4 v26 v34) k0_pay29) (k0_pay66 U) d) k0_pay83)
          (k0_pay93 (k0_pay54 (k0_pay27 v3 v4 v26 v34) k0_pay29) (k0_pay57 U) (k0_pay60 S) (k0_pay71 d)) k0_pay95)
        (k0_pay105 (k0_pay48 U) (k0_pay51 S) (k0_pay70 d)) (k0_pay107 (k0_pay45 (k0_pay27 v3 v4 v26 v34) k0_pay29)) (constant S128x128 FTy.f32 0#32))
      (k0_pay117 (k0_pay39 U) (k0_pay42 S) (k0_pay69 d)) (ix3 h t s)
      = outer (spread U S d) (k0_pay27 v3 v4 v26 v34) h t s := by
  pointwise [k0_pay118, k0_pay117, k0_pay116, k0_pay114, k0_pay111, k0_pay109, k0_pay107, k0_pay105, k0_pay104, k0_pay102, k0_pay99, k0_pay97, k0_pay95, k0_pay93, k0_pay92, k0_pay91, k0_pay90, k0_pay87, k0_pay85, k0_pay83, k0_pay82, k0_pay80, k0_pay79, k0_pay78, k0_pay75, k0_pay73, k0_pay72, k0_pay71, k0_pay70, k0_pay69, k0_pay68, k0_pay66, k0_pay65, k0_pay63, k0_pay61, k0_pay60, k0_pay57, k0_pay56, k0_pay54, k0_pay52, k0_pay51, k0_pay48, k0_pay47, k0_pay45, k0_pay43, k0_pay42, k0_pay39, k0_pay38, k0_pay36, k0_pay33, k0_pay29, k0_pay28]
  simp only [sum_left, sum_right, causal]
  obtain ⟨h, hh⟩ := h
  interval_cases h <;> simp [← add_assoc, outer, spread]

end Cert.Gate

end
-- ==== Proof.GateNorm.lean ====
/- The gradient of the spatial gate: the derivatives of the activations and of the norm. -/
module

public import proofs.«01_k».proof.Proof.Gen.Kernel16Ideal.Frame
public import proofs.«01_k».proof.Proof.GateTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.Kernel16Ideal Cert.Kernel16Ideal.Gen
open Idealize.ShloMosaic Idealize.ShloMosaic.TcCoe Idealize.SL.Sem
open Idealize.ShloMosaic.Pipeline (Dat)

variable (m : (ℓ : Loc nD τ sig) → Buf (Elt Ideal) ℓ)

/-- The derivative of the activation at `x`, applied to a gradient `g`. -/
def geluGrad (x g : EReal) : EReal :=
  let th := Ideal.tanh (Ideal.ofBits .f32 0x3F4C422A#32 * (x + Ideal.ofBits .f32 0x3D372713#32 * (x * x * x)))
  let k := Ideal.ofBits .f32 0x3F4C422A#32 * (Ideal.ofBits .f32 0x3F000000#32 * (x * g)
    * ((1 + th) * (1 - th)))
  g * (Ideal.ofBits .f32 0x3F000000#32 * (1 + th)) + k
    + Ideal.ofBits .f32 0x3D372713#32 * k * (Ideal.ofBits .f32 0x40400000#32 * (x * x))

/-- The bit pattern of three. -/
theorem ofBits_three : Ideal.ofBits .f32 0x40400000#32 = ((3 : ℝ) : EReal) := by
  simp [Ideal.ofBits, Ideal.ieee]
  rw [← EReal.coe_mul]
  norm_num

/-- A value three times. -/
theorem three_times (y : EReal) : y * ((3 : ℝ) : EReal) = y + y + y := by
  induction y with
  | bot => simp [EReal.bot_mul_coe_of_pos]
  | top => simp [EReal.top_mul_coe_of_pos]
  | coe y => norm_cast; ring

/-- The cube differentiated by the product rule, factor by factor, is three times the square. -/
theorem cube_rule (x k m a : EReal) : k + x * x * m + x * (m * x) + m * x * x + a = a + k + m * (((3 : ℝ) : EReal) * (x * x)) := by
  have e : m * (((3 : ℝ) : EReal) * (x * x)) = x * x * m + x * x * m + x * x * m := by
    rw [← three_times]; ac_rfl
  have e1 : x * (m * x) = x * x * m := by ac_rfl
  have e2 : m * x * x = x * x * m := by ac_rfl
  rw [e, e1, e2]
  generalize x * x * m = y
  ac_rfl

/-- The derivative of the activation as the kernel writes it. -/
theorem gelu_rule (x g c e h th : EReal) :
    c * (h * x * g * ((1 + th) * (1 - th))) + x * x * (e * (c * (h * x * g * ((1 + th) * (1 - th)))))
      + x * (e * (c * (h * x * g * ((1 + th) * (1 - th)))) * x) + e * (c * (h * x * g * ((1 + th) * (1 - th)))) * x * x + h * (g * (1 + th))
      = g * (h * (1 + th)) + c * (h * (x * g) * ((1 + th) * (1 - th)))
        + e * (c * (h * (x * g) * ((1 + th) * (1 - th)))) * (Ideal.ofBits .f32 0x40400000#32 * (x * x)) := by
  rw [cube_rule, ofBits_three, mul_assoc h x g, show h * (g * (1 + th)) = g * (h * (1 + th)) from mul_left_comm _ _ _]

set_option maxHeartbeats 1600000 in
/-- The derivative of the first activation, in a chunk. -/
theorem gelu_apply (v0 G : FVec Ideal S128x512 .f32) (j : S128x512.Idx) :
    k0_pay128 (F := Ideal) v0 (k0_pay7 v0) (k0_pay8 v0) (k0_pay10 v0) (k0_pay11 v0) G j = geluGrad (v0 j) (G j) := by
  pointwise [k0_pay128, k0_pay7, k0_pay8, k0_pay9, k0_pay10, k0_pay11]
  exact gelu_rule _ _ _ _ _ _

/-- The derivative of the gate's activation at `x`, applied to a gradient `g`. -/
def siluGrad (x g : EReal) : EReal := g * Ideal.logistic x + x * g * (Ideal.logistic x * (1 - Ideal.logistic x))

set_option maxHeartbeats 1600000 in
/-- The derivative of the gate's activation, in a chunk. -/
theorem silu_apply (v2 G : FVec Ideal S128x512 .f32) (j : S128x512.Idx) :
    k0_pay1 (F := Ideal) (k0_pay120 v2 (k0_pay30 v2) (k0_pay31 v2) G) j
      = siluGrad (v2 j) (G j) := by
  pointwise [k0_pay1, k0_pay120, k0_pay31, k0_pay30, siluGrad]

/-- The gradient of the normalised row at lane `l`: `cen` the centred values, `two` twice them, `rs` the inverse deviation, `cub` its derivative. -/
def normGrad (cen two : Fin 512 → EReal) (rs cub : EReal) (h : Fin 512 → EReal) (l : Fin 512) : EReal :=
  let var := Ideal.div ((∑ x, cen x * h x) * cub) (Ideal.ofBits .f32 0x44000000#32)
  h l * rs + var * two l + Ideal.div ((∑ x, -(h x * rs)) + ∑ x, -(var * two x)) (Ideal.ofBits .f32 0x44000000#32)

/-- The gradient of the scaled row. -/
def scaled (G : FVec Ideal S128x512 .f32) (v3 : FVec Ideal S1x512 .f32) (r : Fin 128) (x : Fin 512) : EReal := G (ix2 r x) * v3 (ix2 0 x)

set_option maxHeartbeats 1600000 in
/-- The derivative of the normalisation and of the second activation, in a chunk. -/
theorem norm_apply (v1 : FVec Ideal S128x512 .f32) (v3 : FVec Ideal S1x512 .f32) (v75 : IVec S128x128 1) (v85 v356 : FVec Ideal S128x128 .f32) (v336 : FVec Ideal S128x512 .f32) (v365 : FVec Ideal S128x128 .bf16)
    (v51 v57 : FVec Ideal S128x512 .f32) (v60 v63 : FVec Ideal S128x1 .f32) (r : Fin 128) (l : Fin 512) :
    k0_pay129 (F := Ideal) v1 (k0_pay13 v1) (k0_pay14 v1) (k0_pay16 (k0_pay15 v1)) (k0_pay17 (k0_pay15 v1))
      (k0_pay124 v3 v60 v75 v85 v336 v356 v365) (k0_pay125 v3 v60 v75 v85 v336 v356 v365)
      (k0_pay126 v3 v51 v57 v63 v75 v85 v336 v356 v365) (k0_pay127 v3 v51 v57 v63 v75 v85 v336 v356 v365) (ix2 r l)
      = geluGrad (v1 (ix2 r l)) (normGrad (fun x => v57 (ix2 r x)) (fun x => v51 (ix2 r x)) (v60 (ix2 r 0)) (v63 (ix2 r 0))
          (scaled (k0_pay119 v75 v85 v336 v356 v365) v3 r) l) := by
  pointwise [k0_pay129, k0_pay127, k0_pay126, k0_pay125, k0_pay124, k0_pay123, k0_pay13, k0_pay14, k0_pay15, k0_pay16, k0_pay17]
  simp only [Fin.sum_univ_one, zero_sub]
  exact gelu_rule _ _ _ _ _ _

set_option maxHeartbeats 1600000 in
/-- The first activation in a chunk, with the factors in the reference's order. -/
theorem first_apply (v0 : FVec Ideal S128x512 .f32) (j : S128x512.Idx) :
    k0_pay12 (F := Ideal) v0 j = v0 j * (Ideal.ofBits .f32 0x3F000000#32 * (1 + Ideal.tanh (Ideal.ofBits .f32 0x3F4C422A#32 * (v0 j + Ideal.ofBits .f32 0x3D372713#32 * (v0 j * v0 j * v0 j))))) := by
  pointwise [k0_pay12, k0_pay11, k0_pay9, k0_pay8, k0_pay7]
  rw [mul_comm _ (v0 j), mul_assoc]

set_option maxHeartbeats 1600000 in
/-- The second activation in a chunk, with the factors in the reference's order. -/
theorem second_apply (v1 : FVec Ideal S128x512 .f32) (j : S128x512.Idx) :
    k0_pay18 (F := Ideal) (k0_pay13 v1) (k0_pay15 v1) j = v1 j * (Ideal.ofBits .f32 0x3F000000#32 * (1 + Ideal.tanh (Ideal.ofBits .f32 0x3F4C422A#32 * (v1 j + Ideal.ofBits .f32 0x3D372713#32 * (v1 j * v1 j * v1 j))))) := by
  pointwise [k0_pay18, k0_pay17, k0_pay15, k0_pay14, k0_pay13]
  rw [mul_comm _ (v1 j), mul_assoc]

end Cert.Gate

end
-- ==== Proof.GateRef.lean ====
/- The gradient of the spatial gate: the reference, place by place. -/
module

public import proofs.«01_k».proof.Proof.Gen.Kernel16Ideal.Frame
public import proofs.«01_k».proof.Proof.Gen.Reference16Ideal.Read
public import proofs.«01_k».proof.Proof.GateNorm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.Kernel16Ideal Cert.Kernel16Ideal.Gen Cert.Reference16Ideal.Read
open Idealize.ShloMosaic Idealize.ShloMosaic.TcCoe Idealize.SL.Sem
open Idealize.ShloMosaic.Pipeline (Dat)

variable (m : (ℓ : Loc nD τ sig) → Buf (Elt Ideal) ℓ)

/-- The rows of one chunk. -/
def chunk (x : FVec Ideal Reference16Ideal.S2048x512 .f32) (k : ℕ) (hk : k < 16) : FVec Ideal S128x512 .f32 :=
  fun j => x (ix2 ⟨k * 128 + (j 0).val, by have : (j 0).val < 128 := (j 0).isLt; omega⟩ (j 1))

/-- The causal mask of the reference. -/
theorem tril (t s : Fin 128) (y z : EReal) (hz : z = 0) : Scalar.select (Scalar.select
      (IntOp.cmpi .sge (IntOp.addi (BitVec.ofNat 32 t.val) 0#32) (BitVec.ofNat 32 s.val)) 1#1 0#1) y z
    = if s.val ≤ t.val then y else 0 := by
  have h := GateFwd.tril t.val s y z hz
  rwa [show t.val % 128 = t.val by omega] at h

/-- The mixed values of the reference. -/
theorem ref_mix (c : Dev nD) (k : ℕ) (hk : k < 16) (r : Fin 128) (l : Fin 512) :
    (val_main_v82 (F := Ideal) (m ((c : Thread nD τ).loc main_arg0)) (m ((c : Thread nD τ).loc main_arg3)) (m ((c : Thread nD τ).loc main_arg4)) (m ((c : Thread nD τ).loc main_arg5)) (m ((c : Thread nD τ).loc main_arg6))) (ix2 ⟨k * 128 + r.val, by omega⟩ l)
      = mix (m ((c : Thread nD τ).loc main_arg5)) (chunk (val_main_v71 (F := Ideal) (m ((c : Thread nD τ).loc main_arg0)) (m ((c : Thread nD τ).loc main_arg3)) (m ((c : Thread nD τ).loc main_arg4))) k hk) (m ((c : Thread nD τ).loc main_arg6)) r l := by
  pointwise [val_main_v82, val_main_v81, val_main_v80, val_main_v79, val_main_v78, val_main_v77, val_main_v76, val_main_v75_0, val_main_call1_v2, val_main_v75_1, val_main_call1_v0, val_main_cst_20, val_main_v74, val_main_call0_v5, val_main_call0_c_0, val_main_call0_v4, val_main_call0_v3, val_main_call0_v2, val_main_call0_v1, val_main_call0_c, val_main_call0_v0, val_main_v73, val_main_c, val_main_v72, mix, low, chunk]
  have hq : (k * 128 + r.val) / 128 = k := by omega
  have hr : (k * 128 + r.val) % 128 = r.val := by omega
  refine congrArg₂ (· + ·) (Finset.sum_congr rfl fun s _ => ?_) ?_
  · simp only [hq]
    rw [tril r s _ _ (show (id (constant Reference16Ideal.S_ .f32 0x00000000#32) ix0 : Ideal .f32) = 0 from Ideal.ofBits_zero .f32)]
  · simp only [hr]

set_option maxHeartbeats 1600000 in
/-- The gradient of the normalised values of the reference. -/
theorem ref_hidden (c : Dev nD) (k : ℕ) (hk : k < 16) (s : Fin 128) (l : Fin 512) :
    (val_main_v103 (F := Ideal) (m ((c : Thread nD τ).loc main_arg0)) (m ((c : Thread nD τ).loc main_arg2)) (m ((c : Thread nD τ).loc main_arg5))) (ix2 ⟨k * 128 + s.val, by omega⟩ l)
      = back (m ((c : Thread nD τ).loc main_arg5)) (chunk (val_main_v91 (F := Ideal) (m ((c : Thread nD τ).loc main_arg0)) (m ((c : Thread nD τ).loc main_arg2))) k hk) s l := by
  pointwise [val_main_v103, val_main_v101, val_main_v100, val_main_v98, val_main_v93, val_main_v75_0, val_main_call1_v2, val_main_v75_1, val_main_call1_v0, val_main_cst_20, val_main_v74, val_main_call0_v5, val_main_call0_c_0, val_main_call0_v4, val_main_call0_v3, val_main_call0_v2, val_main_call0_v1, val_main_call0_c, val_main_call0_v0, val_main_v73, val_main_c, back, low, chunk]
  have hq : (k * 128 + s.val) / 128 = k := by omega
  have hr : (k * 128 + s.val) % 128 = s.val := by omega
  refine Finset.sum_congr rfl fun t _ => ?_
  simp only [hq, hr]
  rw [tril t s _ _ (show (id (constant Reference16Ideal.S_ .f32 0x00000000#32) ix0 : Ideal .f32) = 0 from Ideal.ofBits_zero .f32)]
  exact mul_comm _ _

set_option maxHeartbeats 1600000 in
/-- The gradient of the mixing weights of the reference. -/
theorem ref_weight (c : Dev nD) (h : Fin 8) (t s : Fin 128) :
    (val_main_v102 (F := Ideal) (m ((c : Thread nD τ).loc main_arg0)) (m ((c : Thread nD τ).loc main_arg2)) (m ((c : Thread nD τ).loc main_arg3)) (m ((c : Thread nD τ).loc main_arg4))) (ix3 h t s)
      = ∑ i : Fin 16, outer (chunk (val_main_v91 (F := Ideal) (m ((c : Thread nD τ).loc main_arg0)) (m ((c : Thread nD τ).loc main_arg2))) i.val i.isLt) (chunk (val_main_v71 (F := Ideal) (m ((c : Thread nD τ).loc main_arg0)) (m ((c : Thread nD τ).loc main_arg3)) (m ((c : Thread nD τ).loc main_arg4))) i.val i.isLt) h t s := by
  pointwise [val_main_v102, val_main_call4_v0, val_main_call4_cst, val_main_v99, val_main_v98, val_main_v93, val_main_v75_1, val_main_v74, val_main_call0_v5, val_main_call0_c_0, val_main_call0_v4, val_main_call0_v3, val_main_call0_v2, val_main_call0_v1, val_main_call0_c, val_main_call0_v0, val_main_v73, val_main_c, val_main_v72, outer, chunk]
  rw [tril t s _ _ rfl]
  by_cases hs : s.val ≤ t.val
  · simp only [if_pos hs]
  · simp only [if_neg hs, Finset.sum_const_zero]

set_option maxHeartbeats 1600000 in
/-- The gradient of the bias of the reference. -/
theorem ref_bias (c : Dev nD) (r : Fin 128) (l : Fin 512) :
    (val_main_v97 (F := Ideal) (m ((c : Thread nD τ).loc main_arg0)) (m ((c : Thread nD τ).loc main_arg2))) (ix2 r l) = ∑ i : Fin 16, chunk (val_main_v91 (F := Ideal) (m ((c : Thread nD τ).loc main_arg0)) (m ((c : Thread nD τ).loc main_arg2))) i.val i.isLt (ix2 r l) := by
  pointwise [val_main_v97, val_main_v96, val_main_cst_22, val_main_v95, val_main_v94, val_main_cst_21, val_main_v93, chunk]
  rw [Fin.sum_univ_one]

/-- The gradient of the norm's shift of the reference. -/
theorem ref_shift (c : Dev nD) (l : Fin 512) :
    (val_main_v105 (F := Ideal) (m ((c : Thread nD τ).loc main_arg0)) (m ((c : Thread nD τ).loc main_arg2)) (m ((c : Thread nD τ).loc main_arg5))) (ix2 0 l) = ∑ r : Fin 2048, (val_main_v103 (F := Ideal) (m ((c : Thread nD τ).loc main_arg0)) (m ((c : Thread nD τ).loc main_arg2)) (m ((c : Thread nD τ).loc main_arg5))) (ix2 r l) := by
  pointwise [val_main_v105, val_main_v104, val_main_cst_23]

/-- The gradient of the norm's scale of the reference. -/
theorem ref_scale (c : Dev nD) (l : Fin 512) :
    (val_main_v108 (F := Ideal) (m ((c : Thread nD τ).loc main_arg0)) (m ((c : Thread nD τ).loc main_arg2)) (m ((c : Thread nD τ).loc main_arg5))) (ix2 0 l) = ∑ r : Fin 2048, mulf (F := Ideal) (φ := .f32) (val_main_v67 (F := Ideal) (m ((c : Thread nD τ).loc main_arg0))) (val_main_v103 (F := Ideal) (m ((c : Thread nD τ).loc main_arg0)) (m ((c : Thread nD τ).loc main_arg2)) (m ((c : Thread nD τ).loc main_arg5))) (ix2 r l) := by
  pointwise [val_main_v108, val_main_v107, val_main_cst_24, val_main_v106]

set_option maxHeartbeats 1600000 in
/-- The derivative of the first activation in the reference. -/
theorem ref_gelu (c : Dev nD) (k : ℕ) (hk : k < 16) (r : Fin 128) (l : Fin 512) :
    (val_main_v158 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (ix2 ⟨k * 128 + r.val, by omega⟩ l)
      = geluGrad (chunk (val_main_v0 (F := Ideal) (m ((c : Thread nD τ).loc main_arg0))) k hk (ix2 r l)) (chunk (val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) k hk (ix2 r l)) := by
  pointwise [val_main_v158, val_main_v157, val_main_v156, val_main_v155, val_main_cst_37, val_main_v154, val_main_v153, val_main_v152, val_main_cst_36, val_main_v151, val_main_v150, val_main_v149, val_main_cst_35, val_main_v148, val_main_v147, val_main_v22, val_main_v21, val_main_cst_5, val_main_v20, val_main_v19, val_main_cst_4, val_main_v18, val_main_v17, val_main_v16, val_main_cst_3, val_main_v15, val_main_v14, val_main_cst_2, val_main_v13, val_main_v12, val_main_v11, val_main_cst_1, val_main_v10, val_main_v9, val_main_v8, val_main_cst_0, val_main_v7, val_main_v6, val_main_cst, val_main_v5, val_main_v4, val_main_v3, geluGrad, chunk]

set_option maxHeartbeats 1600000 in
/-- The derivative of the second activation in the reference. -/
theorem ref_gelu_norm (c : Dev nD) (k : ℕ) (hk : k < 16) (r : Fin 128) (l : Fin 512) :
    (val_main_v146 (F := Ideal) (m ((c : Thread nD τ).loc main_arg0)) (m ((c : Thread nD τ).loc main_arg2)) (m ((c : Thread nD τ).loc main_arg3)) (m ((c : Thread nD τ).loc main_arg5))) (ix2 ⟨k * 128 + r.val, by omega⟩ l)
      = geluGrad (chunk (val_main_v1 (F := Ideal) (m ((c : Thread nD τ).loc main_arg0))) k hk (ix2 r l)) (chunk (val_main_v134 (F := Ideal) (m ((c : Thread nD τ).loc main_arg0)) (m ((c : Thread nD τ).loc main_arg2)) (m ((c : Thread nD τ).loc main_arg3)) (m ((c : Thread nD τ).loc main_arg5))) k hk (ix2 r l)) := by
  pointwise [val_main_v146, val_main_v145, val_main_v144, val_main_v143, val_main_cst_34, val_main_v142, val_main_v141, val_main_v140, val_main_cst_33, val_main_v139, val_main_v138, val_main_v137, val_main_cst_32, val_main_v136, val_main_v135, val_main_v43, val_main_v42, val_main_cst_12, val_main_v41, val_main_v40, val_main_cst_11, val_main_v39, val_main_v38, val_main_v37, val_main_cst_10, val_main_v36, val_main_v35, val_main_cst_9, val_main_v34, val_main_v33, val_main_v32, val_main_cst_8, val_main_v31, val_main_v30, val_main_v29, val_main_cst_7, val_main_v28, val_main_v27, val_main_cst_6, val_main_v26, val_main_v25, val_main_v24, geluGrad, chunk]

set_option maxHeartbeats 1600000 in
/-- The derivative of the norm in the reference. -/
theorem ref_norm (c : Dev nD) (k : ℕ) (hk : k < 16) (r : Fin 128) (l : Fin 512) :
    chunk (val_main_v134 (F := Ideal) (m ((c : Thread nD τ).loc main_arg0)) (m ((c : Thread nD τ).loc main_arg2)) (m ((c : Thread nD τ).loc main_arg3)) (m ((c : Thread nD τ).loc main_arg5))) k hk (ix2 r l)
      = normGrad (fun x => chunk (val_main_v59 (F := Ideal) (m ((c : Thread nD τ).loc main_arg0))) k hk (ix2 r x)) (fun x => chunk (val_main_v53 (F := Ideal) (m ((c : Thread nD τ).loc main_arg0))) k hk (ix2 r x))
        ((val_main_v62 (F := Ideal) (m ((c : Thread nD τ).loc main_arg0))) (ix2 ⟨k * 128 + r.val, by omega⟩ 0)) ((val_main_v65 (F := Ideal) (m ((c : Thread nD τ).loc main_arg0))) (ix2 ⟨k * 128 + r.val, by omega⟩ 0))
        (scaled (chunk (val_main_v103 (F := Ideal) (m ((c : Thread nD τ).loc main_arg0)) (m ((c : Thread nD τ).loc main_arg2)) (m ((c : Thread nD τ).loc main_arg5))) k hk) (m ((c : Thread nD τ).loc main_arg3)) r) l := by
  pointwise [val_main_v134, val_main_v133, val_main_v132, val_main_cst_31, val_main_v131, val_main_v130, val_main_cst_30, val_main_v129, val_main_v128, val_main_v127, val_main_v126, val_main_cst_29, val_main_v125, val_main_v124, val_main_v123, val_main_v122, val_main_cst_28, val_main_v121, val_main_v120, val_main_cst_27, val_main_v119, val_main_v118, val_main_cst_26, val_main_v117, val_main_v116, val_main_v115, val_main_v114, val_main_v113, val_main_v112, val_main_cst_25, val_main_v111, val_main_v110, val_main_v109, normGrad, scaled, chunk]
  simp only [Fin.sum_univ_one]

set_option maxHeartbeats 1600000 in
/-- The derivative of the gate's activation in the reference. -/
theorem ref_silu (c : Dev nD) (k : ℕ) (hk : k < 16) (r : Fin 128) (l : Fin 512) :
    (val_main_v90 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (ix2 ⟨k * 128 + r.val, by omega⟩ l)
      = siluGrad (chunk (val_main_v2 (F := Ideal) (m ((c : Thread nD τ).loc main_arg0))) k hk (ix2 r l)) (chunk (val_main_v88 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) k hk (ix2 r l)) := by
  pointwise [val_main_v90, val_main_call3_v2, val_main_call3_v1, val_main_call3_v0, val_main_v84_1, val_main_call2_v7, val_main_call2_v6, val_main_call2_cst_1, val_main_v84_2, val_main_call2_v4, val_main_call2_cst_0, val_main_call2_v3, val_main_call2_v2, val_main_call2_cst, val_main_call2_v1, val_main_call2_v0, siluGrad, chunk]
  rfl

/-- The columns of the first gradient in the reference. -/
theorem ref_columns_u (c : Dev nD) (R : Fin 2048) (l : Fin 512) (L : Fin 11264) (h : L.val = 6144 + l.val) :
    (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) = (val_main_v158 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (ix2 R l) := by
  pointwise [val_main_v165, val_main_v159]
  rw [dif_neg (by omega), dif_pos (by omega)]
  have e : (⟨L.val - 6144, by omega⟩ : Fin 512) = l := Fin.ext (by show L.val - 6144 = _; omega)
  rw [e]

/-- The columns of the second gradient in the reference. -/
theorem ref_columns_v (c : Dev nD) (R : Fin 2048) (l : Fin 512) (L : Fin 11264) (h : L.val = 6656 + l.val) :
    (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) = (val_main_v146 (F := Ideal) (m ((c : Thread nD τ).loc main_arg0)) (m ((c : Thread nD τ).loc main_arg2)) (m ((c : Thread nD τ).loc main_arg3)) (m ((c : Thread nD τ).loc main_arg5))) (ix2 R l) := by
  pointwise [val_main_v165, val_main_v160]
  rw [dif_neg (by omega), dif_neg (by omega), dif_pos (by omega)]
  have e : (⟨L.val - 6144 - 512, by omega⟩ : Fin 512) = l := Fin.ext (by show L.val - 6144 - 512 = _; omega)
  rw [e]

/-- The columns of the third gradient in the reference. -/
theorem ref_columns_g (c : Dev nD) (R : Fin 2048) (l : Fin 512) (L : Fin 11264) (h : L.val = 7168 + l.val) :
    (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) = (val_main_v90 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (ix2 R l) := by
  pointwise [val_main_v165, val_main_v161]
  rw [dif_neg (by omega), dif_neg (by omega), dif_neg (by omega), dif_pos (by omega)]
  have e : (⟨L.val - 6144 - 512 - 512, by omega⟩ : Fin 512) = l := Fin.ext (by show L.val - 6144 - 512 - 512 = _; omega)
  rw [e]

/-- The columns of zeros in the reference. -/
theorem ref_columns_z (c : Dev nD) (R : Fin 2048) (l : Fin 512) (L : Fin 11264) (h : L.val = 7680 + l.val) :
    (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) = (0 : EReal) := by
  pointwise [val_main_v165, val_main_v162, val_main_cst_38]
  rw [dif_neg (by omega), dif_neg (by omega), dif_neg (by omega), dif_neg (by omega), dif_pos (by omega)]

end Cert.Gate

end
-- ==== Proof.GateChunk.lean ====
/- The gradient of the spatial gate: the chunks of the kernel are those of the reference. -/
module

public import proofs.«01_k».proof.Proof.Gen.Kernel16Ideal.Frame
public import proofs.«01_k».proof.Proof.Gen.Reference16Ideal.Read
public import proofs.«01_k».proof.Proof.GateRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.Kernel16Ideal Cert.Kernel16Ideal.Gen Cert.Reference16Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the chunk is `t`. -/
theorem idx : ∀ t : Fin cfg0.N, win0_0.index t = ![t.val, 12] ∧ win0_1.index t = ![t.val, 13] ∧ win0_2.index t = ![t.val, 14]
    ∧ win0_3.index t = ![1, t.val, 0] ∧ win0_4.index t = ![0, 0] ∧ win0_5.index t = ![0, 0] ∧ win0_6.index t = ![0, 0, 0] ∧ win0_7.index t = ![0, 0]
    ∧ win0_8.index t = ![t.val, 3] ∧ win0_9.index t = ![0, 0] ∧ win0_10.index t = ![0, 0] ∧ win0_11.index t = ![0, 0, 0] ∧ win0_12.index t = ![0, 0] :=
  (by decide +kernel : ∀ t : Fin grid0.N, _)

set_option maxHeartbeats 1600000 in
/-- The first input of a chunk. -/
theorem in0_eq (c : Dev nD) (t : Fin cfg0.N) : iblk m c 0 t = chunk (val_main_v0 (F := Ideal) (m ((c : Thread nD τ).loc main_arg0))) t.val t.isLt := by
  have ht : t.val < 16 := t.isLt
  funext j
  rw [eq_ix2 (n0 := 128) (n1 := 512) j]
  pointwise [iblk, chunk, val_main_v0]
  blk_point [iblk, V, idx t]

set_option maxHeartbeats 1600000 in
/-- The second input of a chunk. -/
theorem in1_eq (c : Dev nD) (t : Fin cfg0.N) : iblk m c 1 t = chunk (val_main_v1 (F := Ideal) (m ((c : Thread nD τ).loc main_arg0))) t.val t.isLt := by
  have ht : t.val < 16 := t.isLt
  funext j
  rw [eq_ix2 (n0 := 128) (n1 := 512) j]
  pointwise [iblk, chunk, val_main_v1]
  blk_point [iblk, V, idx t]

set_option maxHeartbeats 1600000 in
/-- The third input of a chunk. -/
theorem in2_eq (c : Dev nD) (t : Fin cfg0.N) : iblk m c 2 t = chunk (val_main_v2 (F := Ideal) (m ((c : Thread nD τ).loc main_arg0))) t.val t.isLt := by
  have ht : t.val < 16 := t.isLt
  funext j
  rw [eq_ix2 (n0 := 128) (n1 := 512) j]
  pointwise [iblk, chunk, val_main_v2]
  blk_point [iblk, V, idx t]

set_option maxHeartbeats 1600000 in
/-- The first activation of a chunk. -/
theorem first_eq (c : Dev nD) (t : Fin cfg0.N) : k0_pay12 (F := Ideal) (iblk m c 0 t) = chunk (val_main_v23 (F := Ideal) (m ((c : Thread nD τ).loc main_arg0))) t.val t.isLt := by
  have ht : t.val < 16 := t.isLt
  funext j
  rw [eq_ix2 (n0 := 128) (n1 := 512) j]
  pointwise [first_apply, chunk, val_main_v23, val_main_v22, val_main_v21, val_main_cst_5, val_main_v20, val_main_v19, val_main_cst_4, val_main_v13, val_main_v12, val_main_v11, val_main_cst_1, val_main_v10, val_main_v9, val_main_v8, val_main_cst_0, val_main_v4, val_main_v3, val_main_v0]
  blk_point [iblk, V, idx t]

set_option maxHeartbeats 1600000 in
/-- The second activation of a chunk. -/
theorem second_eq (c : Dev nD) (t : Fin cfg0.N) : k0_pay18 (F := Ideal) (k0_pay13 (iblk m c 1 t)) (k0_pay15 (iblk m c 1 t)) = chunk (val_main_v44 (F := Ideal) (m ((c : Thread nD τ).loc main_arg0))) t.val t.isLt := by
  have ht : t.val < 16 := t.isLt
  funext j
  rw [eq_ix2 (n0 := 128) (n1 := 512) j]
  pointwise [second_apply, chunk, val_main_v44, val_main_v43, val_main_v42, val_main_cst_12, val_main_v41, val_main_v40, val_main_cst_11, val_main_v34, val_main_v33, val_main_v32, val_main_cst_8, val_main_v31, val_main_v30, val_main_v29, val_main_cst_7, val_main_v25, val_main_v24, val_main_v1]
  blk_point [iblk, V, idx t]

set_option maxHeartbeats 1600000 in
/-- The gate of a chunk. -/
theorem gate_eq (c : Dev nD) (t : Fin cfg0.N) : k0_pay32 (F := Ideal) (iblk m c 2 t) = chunk (val_main_v84_0 (F := Ideal) (m ((c : Thread nD τ).loc main_arg0))) t.val t.isLt := by
  have ht : t.val < 16 := t.isLt
  funext j
  rw [eq_ix2 (n0 := 128) (n1 := 512) j]
  pointwise [k0_pay32, k0_pay30, chunk, val_main_v84_0, val_main_v84_2, val_main_call2_v4, val_main_call2_cst_0, val_main_call2_v3, val_main_call2_v2, val_main_call2_cst, val_main_call2_v1, val_main_call2_v0, val_main_v2]
  refine Eq.trans ?_ (congrArg (fun x : EReal => x * Ideal.logistic x) (?_ : iblk m c 2 t (ix2 (j 0) (j 1)) = _))
  · exact congrArg (fun x : EReal => x * Ideal.logistic x) (congrArg (iblk m c 2 t) (eq_ix2 (n0 := 128) (n1 := 512) j))
  · blk_point [iblk, V, idx t]

set_option maxHeartbeats 1600000 in
/-- The centred values of a chunk. -/
theorem centred_eq (c : Dev nD) (t : Fin cfg0.N) : k0_pay22 (F := Ideal) (k0_pay13 (iblk m c 1 t)) (k0_pay15 (iblk m c 1 t)) = chunk (val_main_v59 (F := Ideal) (m ((c : Thread nD τ).loc main_arg0))) t.val t.isLt := by
  have ht : t.val < 16 := t.isLt
  funext j
  rw [eq_ix2 (n0 := 128) (n1 := 512) j]
  pointwise [k0_pay22, k0_pay19, second_eq, chunk, val_main_v59, val_main_v58, val_main_v48, val_main_v47, val_main_cst_14, val_main_v46, val_main_v45, val_main_cst_13]
  skip

set_option maxHeartbeats 1600000 in
/-- Twice the centred values of a chunk. -/
theorem twice_eq (c : Dev nD) (t : Fin cfg0.N) : k0_pay21 (F := Ideal) (k0_pay13 (iblk m c 1 t)) (k0_pay15 (iblk m c 1 t)) = chunk (val_main_v53 (F := Ideal) (m ((c : Thread nD τ).loc main_arg0))) t.val t.isLt := by
  have ht : t.val < 16 := t.isLt
  funext j
  rw [eq_ix2 (n0 := 128) (n1 := 512) j]
  pointwise [k0_pay21, k0_pay20, k0_pay19, second_eq, chunk, val_main_v53, val_main_v52, val_main_cst_15, val_main_v50, val_main_v49, val_main_v48, val_main_v47, val_main_cst_14, val_main_v46, val_main_v45, val_main_cst_13]
  skip

set_option maxHeartbeats 1600000 in
/-- The normalised values of a chunk. -/
theorem scale_eq (c : Dev nD) (t : Fin cfg0.N) : k0_pay26 (F := Ideal) (k0_pay13 (iblk m c 1 t)) (k0_pay15 (iblk m c 1 t)) = chunk (val_main_v67 (F := Ideal) (m ((c : Thread nD τ).loc main_arg0))) t.val t.isLt := by
  have ht : t.val < 16 := t.isLt
  funext j
  rw [eq_ix2 (n0 := 128) (n1 := 512) j]
  pointwise [k0_pay26, k0_pay24, k0_pay23, k0_pay22, k0_pay20, k0_pay19, second_eq, chunk, val_main_v67, val_main_v66, val_main_v62, val_main_v61, val_main_v60, val_main_cst_18, val_main_v59, val_main_v58, val_main_v57, val_main_v56, val_main_cst_17, val_main_v55, val_main_v54, val_main_cst_16, val_main_v51, val_main_v50, val_main_v49, val_main_v48, val_main_v47, val_main_cst_14, val_main_v46, val_main_v45, val_main_cst_13]
  skip

set_option maxHeartbeats 1600000 in
/-- The scaled and shifted values of a chunk. -/
theorem hidden_eq (c : Dev nD) (t : Fin cfg0.N) : k0_pay27 (F := Ideal) (iblk m c 4 t) (iblk m c 5 t) (k0_pay13 (iblk m c 1 t)) (k0_pay15 (iblk m c 1 t)) = chunk (val_main_v71 (F := Ideal) (m ((c : Thread nD τ).loc main_arg0)) (m ((c : Thread nD τ).loc main_arg3)) (m ((c : Thread nD τ).loc main_arg4))) t.val t.isLt := by
  have ht : t.val < 16 := t.isLt
  funext j
  rw [eq_ix2 (n0 := 128) (n1 := 512) j]
  pointwise [k0_pay27, k0_pay26, k0_pay24, k0_pay23, k0_pay22, k0_pay20, k0_pay19, second_eq, chunk, val_main_v71, val_main_v70, val_main_v69, val_main_v68, val_main_v67, val_main_v66, val_main_v62, val_main_v61, val_main_v60, val_main_cst_18, val_main_v59, val_main_v58, val_main_v57, val_main_v56, val_main_cst_17, val_main_v55, val_main_v54, val_main_cst_16, val_main_v51, val_main_v50, val_main_v49, val_main_v48, val_main_v47, val_main_cst_14, val_main_v46, val_main_v45, val_main_cst_13]
  blk_point [iblk, V, idx t]

set_option maxHeartbeats 1600000 in
/-- The inverse deviation of a row. -/
theorem inverse_eq (c : Dev nD) (t : Fin cfg0.N) (r : Fin 128) : k0_pay24 (F := Ideal) (k0_pay13 (iblk m c 1 t)) (k0_pay15 (iblk m c 1 t)) (ix2 r 0) = (val_main_v62 (F := Ideal) (m ((c : Thread nD τ).loc main_arg0))) (ix2 ⟨t.val * 128 + r.val, by have : t.val < 16 := t.isLt; omega⟩ 0) := by
  have ht : t.val < 16 := t.isLt
  pointwise [k0_pay24, k0_pay23, k0_pay20, k0_pay19, second_eq, chunk, val_main_v62, val_main_v61, val_main_v60, val_main_cst_18, val_main_v57, val_main_v56, val_main_cst_17, val_main_v55, val_main_v54, val_main_cst_16, val_main_v51, val_main_v50, val_main_v49, val_main_v48, val_main_v47, val_main_cst_14, val_main_v46, val_main_v45, val_main_cst_13]

set_option maxHeartbeats 1600000 in
/-- The derivative of the inverse deviation of a row. -/
theorem cubed_eq (c : Dev nD) (t : Fin cfg0.N) (r : Fin 128) : k0_pay25 (F := Ideal) (k0_pay13 (iblk m c 1 t)) (k0_pay15 (iblk m c 1 t)) (ix2 r 0) = (val_main_v65 (F := Ideal) (m ((c : Thread nD τ).loc main_arg0))) (ix2 ⟨t.val * 128 + r.val, by have : t.val < 16 := t.isLt; omega⟩ 0) := by
  have ht : t.val < 16 := t.isLt
  pointwise [k0_pay25, k0_pay24, k0_pay23, k0_pay20, k0_pay19, second_eq, chunk, val_main_v65, val_main_v64, val_main_cst_19, val_main_v63, val_main_v62, val_main_v61, val_main_v60, val_main_cst_18, val_main_v57, val_main_v56, val_main_cst_17, val_main_v55, val_main_v54, val_main_cst_16, val_main_v51, val_main_v50, val_main_v49, val_main_v48, val_main_v47, val_main_cst_14, val_main_v46, val_main_v45, val_main_cst_13]

set_option maxHeartbeats 1600000 in
/-- The gradient of the mixed values of a chunk. -/
theorem spread_eq (c : Dev nD) (t : Fin cfg0.N) : spread (k0_pay12 (iblk m c 0 t)) (k0_pay32 (iblk m c 2 t)) (iblk m c 3 t) = chunk (val_main_v91 (F := Ideal) (m ((c : Thread nD τ).loc main_arg0)) (m ((c : Thread nD τ).loc main_arg2))) t.val t.isLt := by
  have ht : t.val < 16 := t.isLt
  funext j
  rw [eq_ix2 (n0 := 128) (n1 := 512) j]
  rw [first_eq, gate_eq]
  pointwise [spread, chunk, val_main_v91, val_main_v89, val_main_v87, val_main_v86]
  blk_point [iblk, V, idx t]

/-- The weights, all in one block. -/
theorem weights_eq (c : Dev nD) (t : Fin cfg0.N) : iblk m c 6 t = (m ((c : Thread nD τ).loc main_arg5)) := by
  have ht : t.val < 16 := t.isLt
  funext j
  rw [eq_ix3 (n0 := 8) (n1 := 128) (n2 := 128) j]
  blk_point [iblk, V, idx t]

/-- The bias, all in one block. -/
theorem bias_eq (c : Dev nD) (t : Fin cfg0.N) : iblk m c 7 t = (m ((c : Thread nD τ).loc main_arg6)) := by
  have ht : t.val < 16 := t.isLt
  funext j
  rw [eq_ix2 (n0 := 128) (n1 := 512) j]
  blk_point [iblk, V, idx t]

/-- The scale of the norm, all in one block. -/
theorem lnw_eq (c : Dev nD) (t : Fin cfg0.N) : iblk m c 4 t = (m ((c : Thread nD τ).loc main_arg3)) := by
  have ht : t.val < 16 := t.isLt
  funext j
  rw [eq_ix2 (n0 := 1) (n1 := 512) j]
  blk_point [iblk, V, idx t]

end Cert.Gate

end
-- ==== Proof.GateGrad.lean ====
/- The gradient of the spatial gate: the gradients of one chunk. -/
module

public import proofs.«01_k».proof.Proof.Gen.Kernel16Ideal.Frame
public import proofs.«01_k».proof.Proof.Gen.Reference16Ideal.Read
public import proofs.«01_k».proof.Proof.GateChunk
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.Kernel16Ideal Cert.Kernel16Ideal.Gen Cert.Reference16Ideal.Read
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The kernel's gradient of the mixed values. -/
theorem mixed_grad (c : Dev nD) (t : Fin cfg0.N) : k0_pay112 (F := Ideal) (k0_pay39 (k0_pay12 (iblk m c 0 t))) (k0_pay42 (k0_pay32 (iblk m c 2 t))) (k0_pay69 (iblk m c 3 t)) (k0_pay100 (k0_pay48 (k0_pay12 (iblk m c 0 t))) (k0_pay51 (k0_pay32 (iblk m c 2 t))) (k0_pay70 (iblk m c 3 t)) (k0_pay88 (k0_pay57 (k0_pay12 (iblk m c 0 t))) (k0_pay60 (k0_pay32 (iblk m c 2 t))) (k0_pay71 (iblk m c 3 t)) (k0_pay76 (k0_pay32 (iblk m c 2 t)) (k0_pay66 (k0_pay12 (iblk m c 0 t))) (iblk m c 3 t)))) = chunk (val_main_v91 (F := Ideal) (m ((c : Thread nD τ).loc main_arg0)) (m ((c : Thread nD τ).loc main_arg2))) t.val t.isLt := by
  funext j
  obtain ⟨r, l, rfl⟩ : ∃ (r : Fin 128) (l : Fin 512), j = ix2 r l := ⟨j 0, j 1, eq_ix2 j⟩
  exact (mix_grad_apply _ _ _ _ _).trans (congrFun (spread_eq m c t) _)

set_option maxHeartbeats 1600000 in
/-- The kernel's gradient of the scaled and shifted values. -/
theorem hidden_grad (c : Dev nD) (t : Fin cfg0.N) : k0_pay119 (F := Ideal) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t))) = chunk (val_main_v103 (F := Ideal) (m ((c : Thread nD τ).loc main_arg0)) (m ((c : Thread nD τ).loc main_arg2)) (m ((c : Thread nD τ).loc main_arg5))) t.val t.isLt := by
  funext j
  obtain ⟨r, l, rfl⟩ : ∃ (r : Fin 128) (l : Fin 512), j = ix2 r l := ⟨j 0, j 1, eq_ix2 j⟩
  refine (hidden_grad_apply _ _ _ _ _ _).trans ?_
  rw [spread_eq, weights_eq]
  exact (ref_hidden m c t.val t.isLt r l).symm

set_option maxHeartbeats 1600000 in
/-- The kernel's gradient of the first activation. -/
theorem first_grad (c : Dev nD) (t : Fin cfg0.N) : k0_pay113 (F := Ideal) (k0_pay40 (iblk m c 6 t) (iblk m c 7 t) k0_pay28 k0_pay29 (k0_pay33 (iblk m c 4 t) (iblk m c 5 t) (k0_pay13 (iblk m c 1 t)) (k0_pay15 (iblk m c 1 t))) (k0_pay34 (iblk m c 6 t))) (k0_pay42 (k0_pay32 (iblk m c 2 t))) (k0_pay69 (iblk m c 3 t)) (k0_pay101 (k0_pay49 (iblk m c 6 t) (iblk m c 7 t) (k0_pay27 (iblk m c 4 t) (iblk m c 5 t) (k0_pay13 (iblk m c 1 t)) (k0_pay15 (iblk m c 1 t))) k0_pay28 k0_pay29) (k0_pay51 (k0_pay32 (iblk m c 2 t))) (k0_pay70 (iblk m c 3 t)) (k0_pay89 (k0_pay58 (iblk m c 6 t) (iblk m c 7 t) (k0_pay27 (iblk m c 4 t) (iblk m c 5 t) (k0_pay13 (iblk m c 1 t)) (k0_pay15 (iblk m c 1 t))) k0_pay28 k0_pay29) (k0_pay60 (k0_pay32 (iblk m c 2 t))) (k0_pay71 (iblk m c 3 t)) (k0_pay77 (k0_pay32 (iblk m c 2 t)) (k0_pay67 (iblk m c 6 t) (iblk m c 7 t) (k0_pay27 (iblk m c 4 t) (iblk m c 5 t) (k0_pay13 (iblk m c 1 t)) (k0_pay15 (iblk m c 1 t))) k0_pay28 k0_pay29) (iblk m c 3 t)))) = chunk (val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) t.val t.isLt := by
  funext j
  obtain ⟨r, l, rfl⟩ : ∃ (r : Fin 128) (l : Fin 512), j = ix2 r l := ⟨j 0, j 1, eq_ix2 j⟩
  refine (act_grad_apply _ _ _ _ _ _ _ _ _ _).trans ?_
  rw [hidden_eq, weights_eq, bias_eq, ← ref_mix m c t.val t.isLt, gate_eq]
  pointwise [chunk, val_main_v92, val_main_v89, val_main_v87, val_main_v86]
  refine congrArg₂ (fun x y : EReal => x * y) (congrArg₂ (fun x y : EReal => x * y) ?_ rfl) rfl
  blk_point [iblk, V, idx t]

set_option maxHeartbeats 1600000 in
/-- The kernel's gradient of the gate. -/
theorem gate_grad (c : Dev nD) (t : Fin cfg0.N) : k0_pay110 (F := Ideal) (k0_pay41 (iblk m c 6 t) (iblk m c 7 t) (k0_pay12 (iblk m c 0 t)) k0_pay28 k0_pay29 (k0_pay33 (iblk m c 4 t) (iblk m c 5 t) (k0_pay13 (iblk m c 1 t)) (k0_pay15 (iblk m c 1 t))) (k0_pay34 (iblk m c 6 t))) (k0_pay69 (iblk m c 3 t)) (k0_pay98 (k0_pay50 (iblk m c 6 t) (iblk m c 7 t) (k0_pay12 (iblk m c 0 t)) (k0_pay27 (iblk m c 4 t) (iblk m c 5 t) (k0_pay13 (iblk m c 1 t)) (k0_pay15 (iblk m c 1 t))) k0_pay28 k0_pay29) (k0_pay70 (iblk m c 3 t)) (k0_pay86 (k0_pay59 (iblk m c 6 t) (iblk m c 7 t) (k0_pay12 (iblk m c 0 t)) (k0_pay27 (iblk m c 4 t) (iblk m c 5 t) (k0_pay13 (iblk m c 1 t)) (k0_pay15 (iblk m c 1 t))) k0_pay28 k0_pay29) (k0_pay71 (iblk m c 3 t)) (k0_pay74 (k0_pay66 (k0_pay12 (iblk m c 0 t))) (k0_pay67 (iblk m c 6 t) (iblk m c 7 t) (k0_pay27 (iblk m c 4 t) (iblk m c 5 t) (k0_pay13 (iblk m c 1 t)) (k0_pay15 (iblk m c 1 t))) k0_pay28 k0_pay29) (iblk m c 3 t)))) = chunk (val_main_v88 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) t.val t.isLt := by
  funext j
  obtain ⟨r, l, rfl⟩ : ∃ (r : Fin 128) (l : Fin 512), j = ix2 r l := ⟨j 0, j 1, eq_ix2 j⟩
  refine (gate_grad_apply _ _ _ _ _ _ _ _ _ _).trans ?_
  rw [hidden_eq, weights_eq, bias_eq, ← ref_mix m c t.val t.isLt, first_eq]
  pointwise [chunk, val_main_v88, val_main_v87, val_main_v86, val_main_v83]
  refine congrArg₂ (fun x y : EReal => x * y) rfl ?_
  blk_point [iblk, V, idx t]

set_option maxHeartbeats 1600000 in
/-- The kernel's share of the gradient of the weights. -/
theorem weight_grad (c : Dev nD) (t : Fin cfg0.N) (y : S8x128x128.Idx) : k0_pay118 (F := Ideal) k0_pay28 (k0_pay36 k0_pay29 (k0_pay33 (iblk m c 4 t) (iblk m c 5 t) (k0_pay13 (iblk m c 1 t)) (k0_pay15 (iblk m c 1 t)))) (k0_pay116 k0_pay28 (k0_pay38 k0_pay29 (k0_pay33 (iblk m c 4 t) (iblk m c 5 t) (k0_pay13 (iblk m c 1 t)) (k0_pay15 (iblk m c 1 t)))) (k0_pay39 (k0_pay12 (iblk m c 0 t))) (k0_pay42 (k0_pay32 (iblk m c 2 t))) (k0_pay69 (iblk m c 3 t))
        (k0_pay104 k0_pay28 (k0_pay47 (k0_pay27 (iblk m c 4 t) (iblk m c 5 t) (k0_pay13 (iblk m c 1 t)) (k0_pay15 (iblk m c 1 t))) k0_pay29) (k0_pay48 (k0_pay12 (iblk m c 0 t))) (k0_pay51 (k0_pay32 (iblk m c 2 t))) (k0_pay70 (iblk m c 3 t)) (k0_pay91 k0_pay28 (k0_pay56 (k0_pay27 (iblk m c 4 t) (iblk m c 5 t) (k0_pay13 (iblk m c 1 t)) (k0_pay15 (iblk m c 1 t))) k0_pay29) (k0_pay57 (k0_pay12 (iblk m c 0 t))) (k0_pay60 (k0_pay32 (iblk m c 2 t))) (k0_pay71 (iblk m c 3 t))
          (k0_pay79 k0_pay28 (k0_pay32 (iblk m c 2 t)) (k0_pay65 (k0_pay27 (iblk m c 4 t) (iblk m c 5 t) (k0_pay13 (iblk m c 1 t)) (k0_pay15 (iblk m c 1 t))) k0_pay29) (k0_pay66 (k0_pay12 (iblk m c 0 t))) (iblk m c 3 t)) (k0_pay82 k0_pay28 (k0_pay32 (iblk m c 2 t)) (k0_pay63 (k0_pay27 (iblk m c 4 t) (iblk m c 5 t) (k0_pay13 (iblk m c 1 t)) (k0_pay15 (iblk m c 1 t))) k0_pay29) (k0_pay66 (k0_pay12 (iblk m c 0 t))) (iblk m c 3 t)) k0_pay83)
          (k0_pay93 (k0_pay54 (k0_pay27 (iblk m c 4 t) (iblk m c 5 t) (k0_pay13 (iblk m c 1 t)) (k0_pay15 (iblk m c 1 t))) k0_pay29) (k0_pay57 (k0_pay12 (iblk m c 0 t))) (k0_pay60 (k0_pay32 (iblk m c 2 t))) (k0_pay71 (iblk m c 3 t))) k0_pay95)
        (k0_pay105 (k0_pay48 (k0_pay12 (iblk m c 0 t))) (k0_pay51 (k0_pay32 (iblk m c 2 t))) (k0_pay70 (iblk m c 3 t))) (k0_pay107 (k0_pay45 (k0_pay27 (iblk m c 4 t) (iblk m c 5 t) (k0_pay13 (iblk m c 1 t)) (k0_pay15 (iblk m c 1 t))) k0_pay29)) (constant S128x128 FTy.f32 0#32))
      (k0_pay117 (k0_pay39 (k0_pay12 (iblk m c 0 t))) (k0_pay42 (k0_pay32 (iblk m c 2 t))) (k0_pay69 (iblk m c 3 t))) y
    = outer (chunk (val_main_v91 (F := Ideal) (m ((c : Thread nD τ).loc main_arg0)) (m ((c : Thread nD τ).loc main_arg2))) t.val t.isLt) (chunk (val_main_v71 (F := Ideal) (m ((c : Thread nD τ).loc main_arg0)) (m ((c : Thread nD τ).loc main_arg3)) (m ((c : Thread nD τ).loc main_arg4))) t.val t.isLt) (y 0) (y 1) (y 2) := by
  obtain ⟨h, a, b, rfl⟩ : ∃ (h : Fin 8) (a b : Fin 128), y = ix3 h a b := ⟨y 0, y 1, y 2, eq_ix3 y⟩
  refine (weight_grad_apply _ _ _ _ _ _ (iblk m c 6 t) _ _ _ _).trans ?_
  rw [hidden_eq, spread_eq]
  rfl

set_option maxHeartbeats 1600000 in
/-- The kernel's share of the gradient of the shift. -/
theorem shift_grad (c : Dev nD) (t : Fin cfg0.N) (y : S1x512.Idx) : k0_pay121 (F := Ideal) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t))) y
    = ∑ r : Fin 128, chunk (val_main_v103 (F := Ideal) (m ((c : Thread nD τ).loc main_arg0)) (m ((c : Thread nD τ).loc main_arg2)) (m ((c : Thread nD τ).loc main_arg5))) t.val t.isLt (ix2 r (y 1)) := by
  pointwise [k0_pay121, hidden_grad]

set_option maxHeartbeats 1600000 in
/-- The kernel's share of the gradient of the scale. -/
theorem scale_grad (c : Dev nD) (t : Fin cfg0.N) (y : S1x512.Idx) : k0_pay122 (F := Ideal) (k0_pay26 (k0_pay13 (iblk m c 1 t)) (k0_pay15 (iblk m c 1 t))) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t))) y
    = ∑ r : Fin 128, chunk (mulf (F := Ideal) (φ := .f32) (val_main_v67 (F := Ideal) (m ((c : Thread nD τ).loc main_arg0))) (val_main_v103 (F := Ideal) (m ((c : Thread nD τ).loc main_arg0)) (m ((c : Thread nD τ).loc main_arg2)) (m ((c : Thread nD τ).loc main_arg5)))) t.val t.isLt (ix2 r (y 1)) := by
  pointwise [k0_pay122, hidden_grad, scale_eq, chunk]

end Cert.Gate

end
-- ==== Proof.GateArray.lean ====
/- The gradient of the spatial gate: the arrays the kernel leaves are those of the reference. -/
module

public import proofs.«01_k».proof.Proof.Gen.Kernel16Ideal.Frame
public import proofs.«01_k».proof.Proof.Gen.Reference16Ideal.Read
public import proofs.«01_k».proof.Proof.GateGrad
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.Kernel16Ideal Cert.Kernel16Ideal.Gen Cert.Reference16Ideal.Read
open Idealize.ShloMosaic Idealize.ShloMosaic.TcCoe Idealize.SL.Sem
open Idealize.ShloMosaic.Pipeline (Dat)

variable (m : (ℓ : Loc nD τ sig) → Buf (Elt Ideal) ℓ)

/-- The same chunk under another number. -/
theorem chunk_congr (x : FVec Ideal Reference16Ideal.S2048x512 .f32) (k k' : ℕ) (h : k < 16) (h' : k' < 16) (e : k = k') : chunk x k h = chunk x k' h' := by
  subst e; rfl

/-- The last columns of a block are zero. -/
theorem zeros (y : S128x512.Idx) : k0_pay2 (F := Ideal) y = (0 : EReal) := by
  pointwise [k0_pay2]

set_option maxHeartbeats 1600000 in
/-- The gradient of the first input, in its columns. -/
theorem columns_u (c : Dev nD) (t : Fin cfg0.N) (r : Fin 128) (l : Fin 512) (R : Fin 2048) (L : Fin 11264) (hR : R.val = t.val * 128 + r.val) (hL : L.val = 6144 + l.val) :
    k0_pay128 (F := Ideal) (iblk m c 0 t) (k0_pay7 (iblk m c 0 t)) (k0_pay8 (iblk m c 0 t)) (k0_pay10 (iblk m c 0 t)) (k0_pay11 (iblk m c 0 t)) (k0_pay113 (F := Ideal) (k0_pay40 (iblk m c 6 t) (iblk m c 7 t) k0_pay28 k0_pay29 (k0_pay33 (iblk m c 4 t) (iblk m c 5 t) (k0_pay13 (iblk m c 1 t)) (k0_pay15 (iblk m c 1 t))) (k0_pay34 (iblk m c 6 t))) (k0_pay42 (k0_pay32 (iblk m c 2 t))) (k0_pay69 (iblk m c 3 t)) (k0_pay101 (k0_pay49 (iblk m c 6 t) (iblk m c 7 t) (k0_pay27 (iblk m c 4 t) (iblk m c 5 t) (k0_pay13 (iblk m c 1 t)) (k0_pay15 (iblk m c 1 t))) k0_pay28 k0_pay29) (k0_pay51 (k0_pay32 (iblk m c 2 t))) (k0_pay70 (iblk m c 3 t)) (k0_pay89 (k0_pay58 (iblk m c 6 t) (iblk m c 7 t) (k0_pay27 (iblk m c 4 t) (iblk m c 5 t) (k0_pay13 (iblk m c 1 t)) (k0_pay15 (iblk m c 1 t))) k0_pay28 k0_pay29) (k0_pay60 (k0_pay32 (iblk m c 2 t))) (k0_pay71 (iblk m c 3 t)) (k0_pay77 (k0_pay32 (iblk m c 2 t)) (k0_pay67 (iblk m c 6 t) (iblk m c 7 t) (k0_pay27 (iblk m c 4 t) (iblk m c 5 t) (k0_pay13 (iblk m c 1 t)) (k0_pay15 (iblk m c 1 t))) k0_pay28 k0_pay29) (iblk m c 3 t))))) (ix2 r l) = (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) := by
  have ht : t.val < 16 := t.isLt
  have e : R = ⟨t.val * 128 + r.val, by omega⟩ := Fin.ext hR
  rw [e]
  rw [gelu_apply, first_grad, in0_eq]
  exact (ref_gelu m c t.val t.isLt r l).symm.trans (ref_columns_u m c _ l L hL).symm

set_option maxHeartbeats 1600000 in
/-- The gradient of the second input, in its columns. -/
theorem columns_v (c : Dev nD) (t : Fin cfg0.N) (r : Fin 128) (l : Fin 512) (R : Fin 2048) (L : Fin 11264) (hR : R.val = t.val * 128 + r.val) (hL : L.val = 6656 + l.val) :
    k0_pay129 (F := Ideal) (iblk m c 1 t) (k0_pay13 (iblk m c 1 t)) (k0_pay14 (iblk m c 1 t)) (k0_pay16 (k0_pay15 (iblk m c 1 t))) (k0_pay17 (k0_pay15 (iblk m c 1 t)))
      (k0_pay124 (iblk m c 4 t) (k0_pay24 (k0_pay13 (iblk m c 1 t)) (k0_pay15 (iblk m c 1 t))) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t)))) (k0_pay125 (iblk m c 4 t) (k0_pay24 (k0_pay13 (iblk m c 1 t)) (k0_pay15 (iblk m c 1 t))) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t))))
      (k0_pay126 (iblk m c 4 t) (k0_pay21 (k0_pay13 (iblk m c 1 t)) (k0_pay15 (iblk m c 1 t))) (k0_pay22 (k0_pay13 (iblk m c 1 t)) (k0_pay15 (iblk m c 1 t))) (k0_pay25 (k0_pay13 (iblk m c 1 t)) (k0_pay15 (iblk m c 1 t))) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t)))) (k0_pay127 (iblk m c 4 t) (k0_pay21 (k0_pay13 (iblk m c 1 t)) (k0_pay15 (iblk m c 1 t))) (k0_pay22 (k0_pay13 (iblk m c 1 t)) (k0_pay15 (iblk m c 1 t))) (k0_pay25 (k0_pay13 (iblk m c 1 t)) (k0_pay15 (iblk m c 1 t))) k0_pay29 (k0_pay35 k0_pay28 (k0_pay34 (iblk m c 6 t))) (k0_pay108 k0_pay29 (k0_pay96 (k0_pay84 (k0_pay81 k0_pay29 (k0_pay32 (iblk m c 2 t)) (k0_pay62 (iblk m c 6 t) k0_pay28) (k0_pay64 (iblk m c 6 t) k0_pay28) (k0_pay66 (k0_pay12 (iblk m c 0 t))) (iblk m c 3 t))) (k0_pay94 k0_pay29 (k0_pay53 (iblk m c 6 t) k0_pay28) (k0_pay55 (iblk m c 6 t) k0_pay28) (k0_pay57 (k0_pay12 (iblk m c 0 t))) (k0_pay60 (k0_pay32 (iblk m c 2 t))) (k0_pay71 (iblk m c 3 t)))) (k0_pay103 k0_pay29 (k0_pay46 (iblk m c 6 t) k0_pay28) (k0_pay48 (k0_pay12 (iblk m c 0 t))) (k0_pay51 (k0_pay32 (iblk m c 2 t))) (k0_pay70 (iblk m c 3 t))) (k0_pay105 (k0_pay48 (k0_pay12 (iblk m c 0 t))) (k0_pay51 (k0_pay32 (iblk m c 2 t))) (k0_pay70 (iblk m c 3 t))) (k0_pay106 (k0_pay44 (iblk m c 6 t) k0_pay28))) (k0_pay115 k0_pay29 (k0_pay37 (iblk m c 6 t) k0_pay28) (k0_pay39 (k0_pay12 (iblk m c 0 t))) (k0_pay42 (k0_pay32 (iblk m c 2 t))) (k0_pay69 (iblk m c 3 t))) (k0_pay117 (k0_pay39 (k0_pay12 (iblk m c 0 t))) (k0_pay42 (k0_pay32 (iblk m c 2 t))) (k0_pay69 (iblk m c 3 t))))
      (ix2 r l) = (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) := by
  have ht : t.val < 16 := t.isLt
  have e : R = ⟨t.val * 128 + r.val, by omega⟩ := Fin.ext hR
  rw [e]
  rw [norm_apply, hidden_grad, centred_eq, twice_eq, inverse_eq, cubed_eq, lnw_eq, in1_eq, ← ref_norm m c t.val t.isLt r l]
  exact (ref_gelu_norm m c t.val t.isLt r l).symm.trans (ref_columns_v m c _ l L hL).symm

set_option maxHeartbeats 1600000 in
/-- The gradient of the gate's input, in its columns. -/
theorem columns_g (c : Dev nD) (t : Fin cfg0.N) (r : Fin 128) (l : Fin 512) (R : Fin 2048) (L : Fin 11264) (hR : R.val = t.val * 128 + r.val) (hL : L.val = 7168 + l.val) :
    k0_pay1 (F := Ideal) (k0_pay120 (iblk m c 2 t) (k0_pay30 (iblk m c 2 t)) (k0_pay31 (iblk m c 2 t)) (k0_pay110 (F := Ideal) (k0_pay41 (iblk m c 6 t) (iblk m c 7 t) (k0_pay12 (iblk m c 0 t)) k0_pay28 k0_pay29 (k0_pay33 (iblk m c 4 t) (iblk m c 5 t) (k0_pay13 (iblk m c 1 t)) (k0_pay15 (iblk m c 1 t))) (k0_pay34 (iblk m c 6 t))) (k0_pay69 (iblk m c 3 t)) (k0_pay98 (k0_pay50 (iblk m c 6 t) (iblk m c 7 t) (k0_pay12 (iblk m c 0 t)) (k0_pay27 (iblk m c 4 t) (iblk m c 5 t) (k0_pay13 (iblk m c 1 t)) (k0_pay15 (iblk m c 1 t))) k0_pay28 k0_pay29) (k0_pay70 (iblk m c 3 t)) (k0_pay86 (k0_pay59 (iblk m c 6 t) (iblk m c 7 t) (k0_pay12 (iblk m c 0 t)) (k0_pay27 (iblk m c 4 t) (iblk m c 5 t) (k0_pay13 (iblk m c 1 t)) (k0_pay15 (iblk m c 1 t))) k0_pay28 k0_pay29) (k0_pay71 (iblk m c 3 t)) (k0_pay74 (k0_pay66 (k0_pay12 (iblk m c 0 t))) (k0_pay67 (iblk m c 6 t) (iblk m c 7 t) (k0_pay27 (iblk m c 4 t) (iblk m c 5 t) (k0_pay13 (iblk m c 1 t)) (k0_pay15 (iblk m c 1 t))) k0_pay28 k0_pay29) (iblk m c 3 t)))))) (ix2 r l) = (val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 R L) := by
  have ht : t.val < 16 := t.isLt
  have e : R = ⟨t.val * 128 + r.val, by omega⟩ := Fin.ext hR
  rw [e]
  rw [silu_apply, gate_grad, in2_eq]
  exact (ref_silu m c t.val t.isLt r l).symm.trans (ref_columns_g m c _ l L hL).symm

set_option maxHeartbeats 1600000 in
/-- The gradient of the projection: the gate's columns are written, the others stay. -/
theorem final8 (c : Dev nD) : (dats m 0 c).arrAt 8 cfg0.N = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hw : (dats m 0 c).arrAt 8 cfg0.N = fun i : S2048x11264.Idx => if 6144 ≤ (i 1 : ℕ) ∧ (i 1 : ℕ) < 8192 then val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (i 0) (i 1)) else (dats m 0 c).A 8 i := by
    refine (dats m 0 c).arrAt_eq_of_coversWhere 8 _ (fun β => β (1 : Fin 2) = 3) (by decide +kernel) (fun t hf y => ?_) (fun j => by
      blk_simp [Pipeline.Window.cell_apply]; omega)
    blk_simp
    rw [after0_8]
    have ht : t.val < 16 := t.isLt
    by_cases hz : t.val % 16 = 0
    · rw [outsAt0_A m c t hz (by omega)]
      frame_out
      canon_tiles y h
      · simp only [Pipeline.Window.xinj_val] at h0 h1
        exact (zeros y).trans (ref_columns_z m c _ (y 1) _ (by blk_simp [idx t]; omega)).symm
      · simp only [Pipeline.Window.xinj_val] at h0 h1
        exact (congrArg _ (eq_ix2 y)).trans (columns_g m c t (y 0) (y 1) _ _ (by blk_simp [idx t]; omega) (by blk_simp [idx t]; omega))
      · simp only [Pipeline.Window.xinj_val] at h0 h1
        exact (congrArg _ (eq_ix2 y)).trans (columns_v m c t (y 0) (y 1) _ _ (by blk_simp [idx t]; omega) (by blk_simp [idx t]; omega))
      · simp only [Pipeline.Window.xinj_val] at h0 h1
        exact (congrArg _ (eq_ix2 y)).trans (columns_u m c t (y 0) (y 1) _ _ (by blk_simp [idx t]; omega) (by blk_simp [idx t]; omega))
    · rw [outsAt0_B m c t hz (by omega)]
      frame_out
      canon_tiles y h
      · simp only [Pipeline.Window.xinj_val] at h0 h1
        exact (zeros y).trans (ref_columns_z m c _ (y 1) _ (by blk_simp [idx t]; omega)).symm
      · simp only [Pipeline.Window.xinj_val] at h0 h1
        exact (congrArg _ (eq_ix2 y)).trans (columns_g m c t (y 0) (y 1) _ _ (by blk_simp [idx t]; omega) (by blk_simp [idx t]; omega))
      · simp only [Pipeline.Window.xinj_val] at h0 h1
        exact (congrArg _ (eq_ix2 y)).trans (columns_v m c t (y 0) (y 1) _ _ (by blk_simp [idx t]; omega) (by blk_simp [idx t]; omega))
      · simp only [Pipeline.Window.xinj_val] at h0 h1
        exact (congrArg _ (eq_ix2 y)).trans (columns_u m c t (y 0) (y 1) _ _ (by blk_simp [idx t]; omega) (by blk_simp [idx t]; omega))
  rw [hw]
  funext i
  by_cases h : 6144 ≤ (i 1 : ℕ) ∧ (i 1 : ℕ) < 8192
  · rw [if_pos h]
    exact congrArg _ (eq_ix2 i).symm
  · rw [if_neg h]
    rw [A_eq]
    entry_read
    pointwise [val_main_v165, val_main_v164, val_main_v163]
    have h4 : (i 1 : ℕ) < 11264 := (i 1).isLt
    by_cases h0 : (i 1 : ℕ) < 6144
    · rw [dif_pos h0]
    · rw [dif_neg h0, dif_neg (by omega), dif_neg (by omega), dif_neg (by omega), dif_neg (by omega)]
      have e : (i 1 : ℕ) = 8192 + ((i 1 : ℕ) - 6144 - 512 - 512 - 512 - 512) := by omega
      idx_vars i
      blk_point

set_option maxHeartbeats 1600000 in
/-- The gradient of the scale of the norm: the sum over all chunks. -/
theorem final9 (c : Dev nD) : (dats m 0 c).arrAt 9 cfg0.N = val_main_v108 (F := Ideal) (m ((c : Thread nD τ).loc main_arg0)) (m ((c : Thread nD τ).loc main_arg2)) (m ((c : Thread nD τ).loc main_arg5)) := by
  refine (dats m 0 c).arrAt_eq_of_covers 9 _ (by decide +kernel) fun t hf y => ?_
  blk_simp
  rw [after0_9]
  have h : t.val % 16 = 15 := (flush0_9 t).mp hf
  have h4 : t.val / 16 = 0 := by have : t.val < 16 := t.isLt; omega
  rw [Pipeline.eq_sum_fin_of_reset_step_apply_of_flush (fun n h => (outsAt0 m c n h).2.1) 16 (fun _ => 0)
    (fun p j => ∑ r : Fin 128, chunk (mulf (F := Ideal) (φ := .f32) (val_main_v67 (F := Ideal) (m ((c : Thread nD τ).loc main_arg0))) (val_main_v103 (F := Ideal) (m ((c : Thread nD τ).loc main_arg0)) (m ((c : Thread nD τ).loc main_arg2)) (m ((c : Thread nD τ).loc main_arg5)))) p.val p.isLt (ix2 r (j 1)))
    (fun t h j => by
      have : t.val < 16 := t.isLt
      rw [outsAt0_A m c t h (by omega)]; frame_out; rw [zero_add]; exact scale_grad m c t j)
    (fun t h j => by
      rw [outsAt0_B m c t h (by omega)]; frame_out; pointwise [k0_pay3]; exact congrArg (fun x : EReal => _ + x) (scale_grad m c t j)) t h y, zero_add]
  have e : y = ix2 0 (y 1) := (eq_ix2 y).trans (congrArg (fun k : Fin 1 => ix2 k (y 1)) (Subsingleton.elim _ _))
  refine Eq.trans ?_ ((ref_scale m c (y 1)).symm.trans ?_)
  · refine Fin.sum_mul_add_congr fun s k hl => ?_
    simp only [chunk]
    blk_point
  · rw [e]
    blk_point [idx t]

set_option maxHeartbeats 1600000 in
/-- The gradient of the shift of the norm: the sum over all chunks. -/
theorem final10 (c : Dev nD) : (dats m 0 c).arrAt 10 cfg0.N = val_main_v105 (F := Ideal) (m ((c : Thread nD τ).loc main_arg0)) (m ((c : Thread nD τ).loc main_arg2)) (m ((c : Thread nD τ).loc main_arg5)) := by
  refine (dats m 0 c).arrAt_eq_of_covers 10 _ (by decide +kernel) fun t hf y => ?_
  blk_simp
  rw [after0_10]
  have h : t.val % 16 = 15 := (flush0_10 t).mp hf
  have h4 : t.val / 16 = 0 := by have : t.val < 16 := t.isLt; omega
  rw [Pipeline.eq_sum_fin_of_reset_step_apply_of_flush (fun n h => (outsAt0 m c n h).2.2.1) 16 (fun _ => 0)
    (fun p j => ∑ r : Fin 128, chunk (val_main_v103 (F := Ideal) (m ((c : Thread nD τ).loc main_arg0)) (m ((c : Thread nD τ).loc main_arg2)) (m ((c : Thread nD τ).loc main_arg5))) p.val p.isLt (ix2 r (j 1)))
    (fun t h j => by
      have : t.val < 16 := t.isLt
      rw [outsAt0_A m c t h (by omega)]; frame_out; rw [zero_add]; exact shift_grad m c t j)
    (fun t h j => by
      rw [outsAt0_B m c t h (by omega)]; frame_out; pointwise [k0_pay4]; exact congrArg (fun x : EReal => _ + x) (shift_grad m c t j)) t h y, zero_add]
  have e : y = ix2 0 (y 1) := (eq_ix2 y).trans (congrArg (fun k : Fin 1 => ix2 k (y 1)) (Subsingleton.elim _ _))
  refine Eq.trans ?_ ((ref_shift m c (y 1)).symm.trans ?_)
  · refine Fin.sum_mul_add_congr fun s k hl => ?_
    simp only [chunk]
    blk_point
  · rw [e]
    blk_point [idx t]

set_option maxHeartbeats 1600000 in
/-- The gradient of the weights: the sum over all chunks. -/
theorem final11 (c : Dev nD) : (dats m 0 c).arrAt 11 cfg0.N = val_main_v102 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  rw [after0_11]
  have h : t.val % 16 = 15 := (flush0_11 t).mp hf
  have h4 : t.val / 16 = 0 := by have : t.val < 16 := t.isLt; omega
  rw [Pipeline.eq_sum_fin_of_reset_step_apply_of_flush (fun n h => (outsAt0 m c n h).2.2.2.1) 16 (fun _ => 0)
    (fun p j => outer (chunk (val_main_v91 (F := Ideal) (m ((c : Thread nD τ).loc main_arg0)) (m ((c : Thread nD τ).loc main_arg2))) p.val p.isLt) (chunk (val_main_v71 (F := Ideal) (m ((c : Thread nD τ).loc main_arg0)) (m ((c : Thread nD τ).loc main_arg3)) (m ((c : Thread nD τ).loc main_arg4))) p.val p.isLt) (j 0) (j 1) (j 2))
    (fun t h j => by
      have : t.val < 16 := t.isLt
      rw [outsAt0_A m c t h (by omega)]; frame_out; rw [zero_add]; exact weight_grad m c t j)
    (fun t h j => by
      rw [outsAt0_B m c t h (by omega)]; frame_out; pointwise [k0_pay5]; exact congrArg (fun x : EReal => _ + x) (weight_grad m c t j)) t h y, zero_add]
  refine Eq.trans ?_ ((ref_weight m c (y 0) (y 1) (y 2)).symm.trans ?_)
  · refine Finset.sum_congr (M := EReal) rfl fun s _ => ?_
    exact congrArg₂ (fun a b => outer a b (y 0) (y 1) (y 2)) (chunk_congr _ _ _ _ _ (by show 16 * (t.val / 16) + s.val = s.val; omega)) (chunk_congr _ _ _ _ _ (by show 16 * (t.val / 16) + s.val = s.val; omega))
  · rw [eq_ix3 (n0 := 8) (n1 := 128) (n2 := 128) y]
    blk_point [idx t]

set_option maxHeartbeats 1600000 in
/-- The gradient of the bias: the sum over all chunks. -/
theorem final12 (c : Dev nD) : (dats m 0 c).arrAt 12 cfg0.N = val_main_v97 (F := Ideal) (m ((c : Thread nD τ).loc main_arg0)) (m ((c : Thread nD τ).loc main_arg2)) := by
  refine (dats m 0 c).arrAt_eq_of_covers 12 _ (by decide +kernel) fun t hf y => ?_
  blk_simp
  rw [after0_12]
  have h : t.val % 16 = 15 := (flush0_12 t).mp hf
  have h4 : t.val / 16 = 0 := by have : t.val < 16 := t.isLt; omega
  rw [Pipeline.eq_sum_fin_of_reset_step_apply_of_flush (fun n h => (outsAt0 m c n h).2.2.2.2) 16 (fun _ => 0)
    (fun p j => chunk (val_main_v91 (F := Ideal) (m ((c : Thread nD τ).loc main_arg0)) (m ((c : Thread nD τ).loc main_arg2))) p.val p.isLt j)
    (fun t h j => by
      have : t.val < 16 := t.isLt
      rw [outsAt0_A m c t h (by omega)]; frame_out; rw [zero_add]; exact congrFun (mixed_grad m c t) j)
    (fun t h j => by
      rw [outsAt0_B m c t h (by omega)]; frame_out; pointwise [k0_pay6]; exact congrArg (fun x : EReal => _ + x) (congrFun (mixed_grad m c t) j)) t h y, zero_add]
  refine Eq.trans ?_ ((ref_bias m c (y 0) (y 1)).symm.trans ?_)
  · refine Finset.sum_congr (M := EReal) rfl fun s _ => ?_
    exact congrFun (chunk_congr _ _ _ _ s.isLt (by show 16 * (t.val / 16) + s.val = s.val; omega)) _
  · rw [eq_ix2 (n0 := 128) (n1 := 512) y]
    blk_point [idx t]

end Cert.Gate

end
-- ==== Proof.GateClaim.lean ====
/- The gradient of the spatial gate: the kernel and the reference agree. -/
module

public import proofs.«01_k».proof.Defs
public import proofs.«01_k».proof.Proof.Gen.Kernel16Ideal.Value
public import proofs.«01_k».proof.Proof.Gen.Reference16Ideal.Run
public import proofs.«01_k».proof.Proof.GateArray
public import Idealize.ShloMosaic.Lib.Claim

@[expose] public section

set_option maxRecDepth 16384

noncomputable section

namespace Cert.Gate

open Idealize.ShloMosaic Idealize.ShloMosaic.TcCoe Idealize.SL.Sem

/-- The reference's frame: it runs, keeps its arguments, and leaves every counter at zero. -/
theorem reference_frame : Cert.quiescent_Reference16Ideal (hReference16Ideal := Cert.Reference16Ideal.Gen.facts) := fun m g _ =>
  (θ_run _ _ _).mono (fun r h => ⟨fun c => (h c).2.2.2.2.2, Idealize.ShloMosaic.sem_eq_zero_of_no_sems (by decide) r.2⟩)
    (Cert.Reference16Ideal.Value.run (F := Ideal) m g)

/-- The value claim. -/
theorem algebraic : Cert.algebraic_Kernel16Ideal_Reference16Ideal (hKernel16Ideal := Cert.Kernel16Ideal.Gen.facts)
    (hReference16Ideal := Cert.Reference16Ideal.Gen.facts) := by
  intro m g m' g' _ hagree
  refine ⟨fun c => Cert.Reference16Ideal.Read.val_main_v165 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)),
    fun c => Cert.Reference16Ideal.Read.val_main_v108 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg5)),
    fun c => Cert.Reference16Ideal.Read.val_main_v105 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg5)),
    fun c => Cert.Reference16Ideal.Read.val_main_v102 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)),
    fun c => Cert.Reference16Ideal.Read.val_main_v97 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)),
    (θ_run _ _ _).mono (fun r h c => ?_) (Cert.Kernel16Ideal.Value.run_blocks m g),
    (θ_run _ _ _).mono (fun r h c => ?_) (Cert.Reference16Ideal.Value.run m' g')⟩
  · obtain ⟨h0, h1, h2, h3, h4, ha⟩ := h c
    exact ⟨h0.trans (final8 m c), h1.trans (final9 m c), h2.trans (final10 m c), h3.trans (final11 m c), h4.trans (final12 m c), ha⟩
  · obtain ⟨h0, h1, h2, h3, h4, ha⟩ := h c
    obtain ⟨e0, e1, e2, e3, e4, e5, e6⟩ := hagree c
    replace h0 := h0.trans (show _ = Cert.Reference16Ideal.Read.val_main_v165 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) from Cert.Reference16Ideal.Read.val_main_v165_eq (StableHlo.launchContents m' c))
    rw [e0, e1, e2, e3, e4, e5, e6] at h0
    replace h1 := h1.trans (show _ = Cert.Reference16Ideal.Read.val_main_v108 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg5)) from Cert.Reference16Ideal.Read.val_main_v108_eq (StableHlo.launchContents m' c))
    rw [e0, e2, e5] at h1
    replace h2 := h2.trans (show _ = Cert.Reference16Ideal.Read.val_main_v105 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg5)) from Cert.Reference16Ideal.Read.val_main_v105_eq (StableHlo.launchContents m' c))
    rw [e0, e2, e5] at h2
    replace h3 := h3.trans (show _ = Cert.Reference16Ideal.Read.val_main_v102 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) from Cert.Reference16Ideal.Read.val_main_v102_eq (StableHlo.launchContents m' c))
    rw [e0, e2, e3, e4] at h3
    replace h4 := h4.trans (show _ = Cert.Reference16Ideal.Read.val_main_v97 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg2)) from Cert.Reference16Ideal.Read.val_main_v97_eq (StableHlo.launchContents m' c))
    rw [e0, e2] at h4
    exact ⟨h0, h1, h2, h3, h4, ha⟩

end Cert.Gate

end
-- ==== Proof.NormFwdArray.lean ====
/- The norm of the tokens, row tile by row tile. -/
module

public import proofs.«01_k».proof.Proof.Gen.Kernel17Ideal.Frame
public import proofs.«01_k».proof.Proof.Gen.Reference17Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.NormFwd

open Cert.Kernel17Ideal Cert.Kernel17Ideal.Gen Cert.Reference17Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the row tiles. -/
theorem idx : ∀ t : Fin cfg0.N, win0_0.index t = ![t.val, 0] ∧ win0_1.index t = ![0, 0] ∧ win0_2.index t = ![t.val, 0] :=
  (by decide +kernel : ∀ t : Fin grid0.N, _)

set_option maxHeartbeats 1600000 in
/-- The normalised tokens. -/
theorem final2 (c : Dev nD) : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  blk_point [iblk, V, idx t]

end Cert.NormFwd

end
-- ==== Proof.NormFwdClaim.lean ====
/- What the norm of the tokens claims. -/
module

public import proofs.«01_k».proof.Defs
public import proofs.«01_k».proof.Proof.Gen.Kernel17Ideal.Value
public import proofs.«01_k».proof.Proof.Gen.Reference17Ideal.Run
public import proofs.«01_k».proof.Proof.NormFwdArray
public import Idealize.ShloMosaic.Lib.Claim

@[expose] public section

set_option maxRecDepth 16384

noncomputable section

namespace Cert.NormFwd

open Idealize.ShloMosaic Idealize.ShloMosaic.TcCoe Idealize.SL.Sem

/-- The reference's frame: it runs, keeps its arguments, and leaves every counter at zero. -/
theorem reference_frame : Cert.quiescent_Reference17Ideal (hReference17Ideal := Cert.Reference17Ideal.Gen.facts) := fun m g _ =>
  (θ_run _ _ _).mono (fun r h => ⟨fun c => (h c).2, Idealize.ShloMosaic.sem_eq_zero_of_no_sems (by decide) r.2⟩)
    (Cert.Reference17Ideal.Value.run (F := Ideal) m g)

/-- The value claim. -/
theorem algebraic : Cert.algebraic_Kernel17Ideal_Reference17Ideal (hKernel17Ideal := Cert.Kernel17Ideal.Gen.facts)
    (hReference17Ideal := Cert.Reference17Ideal.Gen.facts) := by
  intro m g m' g' _ hagree
  refine ⟨fun c => Cert.Reference17Ideal.Read.val_main_v14 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run _ _ _).mono (fun r h c => ?_) (Cert.Kernel17Ideal.Value.run_blocks m g),
    (θ_run _ _ _).mono (fun r h c => ?_) (Cert.Reference17Ideal.Value.run m' g')⟩
  · obtain ⟨h0, ha⟩ := h c
    exact ⟨h0.trans (final2 m c), ha⟩
  · obtain ⟨h0, ha⟩ := h c
    obtain ⟨e0, e1⟩ := hagree c
    rw [e0, e1] at h0
    exact ⟨h0.trans (Cert.Reference17Ideal.Read.val_main_v14_eq _ _), ha⟩

end Cert.NormFwd

end
-- ==== Proof.UpdateBranchArray.lean ====
/- The optimiser step of the branch weights, tile by tile of each layer. -/
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpdateBranch

open Cert.Kernel18Ideal Cert.Kernel18Ideal.Gen Cert.Reference18Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the layers and, within a layer, the row tiles; the slots of a layer's
gradient are read while the grid is in that layer. -/
theorem idx : ∀ t : Fin cfg0.N, (t.val < 4 → win0_0.index t = ![0, t.val, 0]) ∧ (4 ≤ t.val → win0_1.index t = ![0, t.val - 4, 0])
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

set_option maxHeartbeats 1600000 in
/-- The gradient summed over the slots. -/
theorem final5 (c : Dev nD) : (dats m 0 c).arrAt 5 cfg0.N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have ht : t.val < 8 := t.isLt
  by_cases h0 : t.val < 4
  · rw [outsAt0_A m c t (by omega) (by omega)]
    frame_out
    pointwise [k0_pay1, k0_pay9, val_main_v6, val_main_v5, val_main_v4, val_main_v3, val_main_cst_0, val_main_v2, val_main_v1, val_main_cst, val_main_v0]
    have hz : (((View.whole main_v0_0).slice (win0_5.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 4 ≤ t.val := by omega
    rw [outsAt0_B m c t (by omega) (by omega)]
    frame_out
    pointwise [k0_pay5, k0_pay14, val_main_v6, val_main_v5, val_main_v4, val_main_v3, val_main_cst_0, val_main_v2, val_main_v1, val_main_cst, val_main_v0]
    have hz : ¬(((View.whole main_v0_0).slice (win0_5.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The step of the weights. -/
theorem final6 (c : Dev nD) : (dats m 0 c).arrAt 6 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht : t.val < 8 := t.isLt
  by_cases h0 : t.val < 4
  · rw [outsAt0_A m c t (by omega) (by omega)]
    frame_out
    pointwise [k0_pay2, k0_pay12, k0_pay13, k0_pay10, k0_pay11, k0_pay9, val_main_v30, val_main_v29, val_main_cst_9, val_main_v28, val_main_v27, val_main_v26, val_main_cst_8, val_main_v25, val_main_v24, val_main_v23, val_main_cst_7, val_main_v22, val_main_v21, val_main_v20, val_main_cst_6, val_main_v19, val_main_v18, val_main_cst_5, val_main_v17, val_main_v16, val_main_v15, val_main_cst_4, val_main_v14, val_main_v13, val_main_v12, val_main_cst_3, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : (((View.whole main_v0_1).slice (win0_6.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 4 ≤ t.val := by omega
    rw [outsAt0_B m c t (by omega) (by omega)]
    frame_out
    pointwise [k0_pay6, k0_pay17, k0_pay18, k0_pay15, k0_pay16, k0_pay14, val_main_v30, val_main_v29, val_main_cst_9, val_main_v28, val_main_v27, val_main_v26, val_main_cst_8, val_main_v25, val_main_v24, val_main_v23, val_main_cst_7, val_main_v22, val_main_v21, val_main_v20, val_main_cst_6, val_main_v19, val_main_v18, val_main_cst_5, val_main_v17, val_main_v16, val_main_v15, val_main_cst_4, val_main_v14, val_main_v13, val_main_v12, val_main_cst_3, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : ¬(((View.whole main_v0_1).slice (win0_6.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The new first moment. -/
theorem final7 (c : Dev nD) : (dats m 0 c).arrAt 7 cfg0.N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  have ht : t.val < 8 := t.isLt
  by_cases h0 : t.val < 4
  · rw [outsAt0_A m c t (by omega) (by omega)]
    frame_out
    pointwise [k0_pay3, k0_pay10, k0_pay9, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : (((View.whole main_v0_2).slice (win0_7.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 4 ≤ t.val := by omega
    rw [outsAt0_B m c t (by omega) (by omega)]
    frame_out
    pointwise [k0_pay7, k0_pay15, k0_pay14, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : ¬(((View.whole main_v0_2).slice (win0_7.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The new second moment. -/
theorem final8 (c : Dev nD) : (dats m 0 c).arrAt 8 cfg0.N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  have ht : t.val < 8 := t.isLt
  by_cases h0 : t.val < 4
  · rw [outsAt0_A m c t (by omega) (by omega)]
    frame_out
    pointwise [k0_pay4, k0_pay11, k0_pay9, val_main_v17, val_main_v16, val_main_v15, val_main_cst_4, val_main_v14, val_main_v13, val_main_v12, val_main_cst_3, val_main_v6, val_main_v5, val_main_v4, val_main_v3, val_main_cst_0, val_main_v2, val_main_v1, val_main_cst, val_main_v0]
    have hz : (((View.whole main_v0_3).slice (win0_8.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 4 ≤ t.val := by omega
    rw [outsAt0_B m c t (by omega) (by omega)]
    frame_out
    pointwise [k0_pay8, k0_pay16, k0_pay14, val_main_v17, val_main_v16, val_main_v15, val_main_cst_4, val_main_v14, val_main_v13, val_main_v12, val_main_cst_3, val_main_v6, val_main_v5, val_main_v4, val_main_v3, val_main_cst_0, val_main_v2, val_main_v1, val_main_cst, val_main_v0]
    have hz : ¬(((View.whole main_v0_3).slice (win0_8.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

end Cert.UpdateBranch

end
-- ==== Proof.UpdateBranchClaim.lean ====
/- What the optimiser step of the branch weights claims. -/
module

public import proofs.«01_k».proof.Defs
public import proofs.«01_k».proof.Proof.Gen.Kernel18Ideal.Value
public import proofs.«01_k».proof.Proof.Gen.Reference18Ideal.Run
public import proofs.«01_k».proof.Proof.UpdateBranchArray
public import Idealize.ShloMosaic.Lib.Claim

@[expose] public section

set_option maxRecDepth 16384

noncomputable section

namespace Cert.UpdateBranch

open Idealize.ShloMosaic Idealize.ShloMosaic.TcCoe Idealize.SL.Sem

/-- The reference's frame: it runs, keeps its arguments, and leaves every counter at zero. -/
theorem reference_frame : Cert.quiescent_Reference18Ideal (hReference18Ideal := Cert.Reference18Ideal.Gen.facts) := fun m g _ =>
  (θ_run _ _ _).mono (fun r h => ⟨fun c => (h c).2.2.2.2, Idealize.ShloMosaic.sem_eq_zero_of_no_sems (by decide) r.2⟩)
    (Cert.Reference18Ideal.Value.run (F := Ideal) m g)

/-- The value claim. -/
theorem algebraic : Cert.algebraic_Kernel18Ideal_Reference18Ideal (hKernel18Ideal := Cert.Kernel18Ideal.Gen.facts)
    (hReference18Ideal := Cert.Reference18Ideal.Gen.facts) := by
  intro m g m' g' _ hagree
  refine ⟨fun c => Cert.Reference18Ideal.Read.val_main_v6 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    fun c => Cert.Reference18Ideal.Read.val_main_v30 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)),
    fun c => Cert.Reference18Ideal.Read.val_main_v11 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg3)),
    fun c => Cert.Reference18Ideal.Read.val_main_v17 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg4)),
    (θ_run _ _ _).mono (fun r h c => ?_) (Cert.Kernel18Ideal.Value.run_blocks m g),
    (θ_run _ _ _).mono (fun r h c => ?_) (Cert.Reference18Ideal.Value.run m' g')⟩
  · obtain ⟨h0, h1, h2, h3, ha⟩ := h c
    exact ⟨h0.trans (final5 m c), h1.trans (final6 m c), h2.trans (final7 m c), h3.trans (final8 m c), ha⟩
  · obtain ⟨h0, h1, h2, h3, ha⟩ := h c
    obtain ⟨e0, e1, e2, e3, e4⟩ := hagree c
    rw [e0, e1] at h0
    rw [e0, e1, e2, e3, e4] at h1
    rw [e0, e1, e3] at h2
    rw [e0, e1, e4] at h3
    exact ⟨h0.trans (Cert.Reference18Ideal.Read.val_main_v6_eq _ _), h1.trans (Cert.Reference18Ideal.Read.val_main_v30_eq _ _ _ _ _), h2.trans (Cert.Reference18Ideal.Read.val_main_v11_eq _ _ _), h3.trans (Cert.Reference18Ideal.Read.val_main_v17_eq _ _ _), ha⟩

end Cert.UpdateBranch

end
-- ==== Proof.UpdateOutArray.lean ====
/- The optimiser step of the output weights, tile by tile of each layer. -/
module

public import proofs.«01_k».proof.Proof.Gen.Kernel19Ideal.Frame
public import proofs.«01_k».proof.Proof.Gen.Reference19Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpdateOut

open Cert.Kernel19Ideal Cert.Kernel19Ideal.Gen Cert.Reference19Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the layers and, within a layer, the row tiles; the slots of a layer's
gradient are read while the grid is in that layer. -/
theorem idx : ∀ t : Fin cfg0.N, (t.val < 1 → win0_0.index t = ![0, 0, 0]) ∧ (1 ≤ t.val → win0_1.index t = ![0, 0, 0])
    ∧ win0_2.index t = ![t.val, 0, 0] ∧ win0_3.index t = ![t.val, 0, 0] ∧ win0_4.index t = ![t.val, 0, 0]
    ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

set_option maxHeartbeats 1600000 in
/-- The gradient summed over the slots. -/
theorem final5 (c : Dev nD) : (dats m 0 c).arrAt 5 cfg0.N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have ht : t.val < 2 := t.isLt
  by_cases h0 : t.val < 1
  · rw [outsAt0_A m c t (by omega) (by omega)]
    frame_out
    pointwise [k0_pay1, k0_pay9, val_main_v6, val_main_v5, val_main_v4, val_main_v3, val_main_cst_0, val_main_v2, val_main_v1, val_main_cst, val_main_v0]
    have hz : (((View.whole main_v0_0).slice (win0_5.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay5, k0_pay14, val_main_v6, val_main_v5, val_main_v4, val_main_v3, val_main_cst_0, val_main_v2, val_main_v1, val_main_cst, val_main_v0]
    have hz : ¬(((View.whole main_v0_0).slice (win0_5.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The step of the weights. -/
theorem final6 (c : Dev nD) : (dats m 0 c).arrAt 6 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht : t.val < 2 := t.isLt
  by_cases h0 : t.val < 1
  · rw [outsAt0_A m c t (by omega) (by omega)]
    frame_out
    pointwise [k0_pay2, k0_pay12, k0_pay13, k0_pay10, k0_pay11, k0_pay9, val_main_v30, val_main_v29, val_main_cst_9, val_main_v28, val_main_v27, val_main_v26, val_main_cst_8, val_main_v25, val_main_v24, val_main_v23, val_main_cst_7, val_main_v22, val_main_v21, val_main_v20, val_main_cst_6, val_main_v19, val_main_v18, val_main_cst_5, val_main_v17, val_main_v16, val_main_v15, val_main_cst_4, val_main_v14, val_main_v13, val_main_v12, val_main_cst_3, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : (((View.whole main_v0_1).slice (win0_6.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay6, k0_pay17, k0_pay18, k0_pay15, k0_pay16, k0_pay14, val_main_v30, val_main_v29, val_main_cst_9, val_main_v28, val_main_v27, val_main_v26, val_main_cst_8, val_main_v25, val_main_v24, val_main_v23, val_main_cst_7, val_main_v22, val_main_v21, val_main_v20, val_main_cst_6, val_main_v19, val_main_v18, val_main_cst_5, val_main_v17, val_main_v16, val_main_v15, val_main_cst_4, val_main_v14, val_main_v13, val_main_v12, val_main_cst_3, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : ¬(((View.whole main_v0_1).slice (win0_6.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The new first moment. -/
theorem final7 (c : Dev nD) : (dats m 0 c).arrAt 7 cfg0.N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  have ht : t.val < 2 := t.isLt
  by_cases h0 : t.val < 1
  · rw [outsAt0_A m c t (by omega) (by omega)]
    frame_out
    pointwise [k0_pay3, k0_pay10, k0_pay9, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : (((View.whole main_v0_2).slice (win0_7.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay7, k0_pay15, k0_pay14, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : ¬(((View.whole main_v0_2).slice (win0_7.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The new second moment. -/
theorem final8 (c : Dev nD) : (dats m 0 c).arrAt 8 cfg0.N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  have ht : t.val < 2 := t.isLt
  by_cases h0 : t.val < 1
  · rw [outsAt0_A m c t (by omega) (by omega)]
    frame_out
    pointwise [k0_pay4, k0_pay11, k0_pay9, val_main_v17, val_main_v16, val_main_v15, val_main_cst_4, val_main_v14, val_main_v13, val_main_v12, val_main_cst_3, val_main_v6, val_main_v5, val_main_v4, val_main_v3, val_main_cst_0, val_main_v2, val_main_v1, val_main_cst, val_main_v0]
    have hz : (((View.whole main_v0_3).slice (win0_8.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay8, k0_pay16, k0_pay14, val_main_v17, val_main_v16, val_main_v15, val_main_cst_4, val_main_v14, val_main_v13, val_main_v12, val_main_cst_3, val_main_v6, val_main_v5, val_main_v4, val_main_v3, val_main_cst_0, val_main_v2, val_main_v1, val_main_cst, val_main_v0]
    have hz : ¬(((View.whole main_v0_3).slice (win0_8.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

end Cert.UpdateOut

end
-- ==== Proof.UpdateOutClaim.lean ====
/- What the optimiser step of the output weights claims. -/
module

public import proofs.«01_k».proof.Defs
public import proofs.«01_k».proof.Proof.Gen.Kernel19Ideal.Value
public import proofs.«01_k».proof.Proof.Gen.Reference19Ideal.Run
public import proofs.«01_k».proof.Proof.UpdateOutArray
public import Idealize.ShloMosaic.Lib.Claim

@[expose] public section

set_option maxRecDepth 16384

noncomputable section

namespace Cert.UpdateOut

open Idealize.ShloMosaic Idealize.ShloMosaic.TcCoe Idealize.SL.Sem

/-- The reference's frame: it runs, keeps its arguments, and leaves every counter at zero. -/
theorem reference_frame : Cert.quiescent_Reference19Ideal (hReference19Ideal := Cert.Reference19Ideal.Gen.facts) := fun m g _ =>
  (θ_run _ _ _).mono (fun r h => ⟨fun c => (h c).2.2.2.2, Idealize.ShloMosaic.sem_eq_zero_of_no_sems (by decide) r.2⟩)
    (Cert.Reference19Ideal.Value.run (F := Ideal) m g)

/-- The value claim. -/
theorem algebraic : Cert.algebraic_Kernel19Ideal_Reference19Ideal (hKernel19Ideal := Cert.Kernel19Ideal.Gen.facts)
    (hReference19Ideal := Cert.Reference19Ideal.Gen.facts) := by
  intro m g m' g' _ hagree
  refine ⟨fun c => Cert.Reference19Ideal.Read.val_main_v6 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v30 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)),
    fun c => Cert.Reference19Ideal.Read.val_main_v11 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg3)),
    fun c => Cert.Reference19Ideal.Read.val_main_v17 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg4)),
    (θ_run _ _ _).mono (fun r h c => ?_) (Cert.Kernel19Ideal.Value.run_blocks m g),
    (θ_run _ _ _).mono (fun r h c => ?_) (Cert.Reference19Ideal.Value.run m' g')⟩
  · obtain ⟨h0, h1, h2, h3, ha⟩ := h c
    exact ⟨h0.trans (final5 m c), h1.trans (final6 m c), h2.trans (final7 m c), h3.trans (final8 m c), ha⟩
  · obtain ⟨h0, h1, h2, h3, ha⟩ := h c
    obtain ⟨e0, e1, e2, e3, e4⟩ := hagree c
    rw [e0, e1] at h0
    rw [e0, e1, e2, e3, e4] at h1
    rw [e0, e1, e3] at h2
    rw [e0, e1, e4] at h3
    exact ⟨h0.trans (Cert.Reference19Ideal.Read.val_main_v6_eq _ _), h1.trans (Cert.Reference19Ideal.Read.val_main_v30_eq _ _ _ _ _), h2.trans (Cert.Reference19Ideal.Read.val_main_v11_eq _ _ _), h3.trans (Cert.Reference19Ideal.Read.val_main_v17_eq _ _ _), ha⟩

end Cert.UpdateOut

end
-- ==== Proof.UpdateGluArray.lean ====
/- The optimiser step of the gate weights of the recurrent branch, tile by tile of each layer. -/
module

public import proofs.«01_k».proof.Proof.Gen.Kernel20Ideal.Frame
public import proofs.«01_k».proof.Proof.Gen.Reference20Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpdateGlu

open Cert.Kernel20Ideal Cert.Kernel20Ideal.Gen Cert.Reference20Ideal.Read
open Idealize.ShloMosaic Idealize.ShloMosaic.TcCoe Idealize.SL.Sem
open Idealize.ShloMosaic.Pipeline (Dat)

variable (m : (ℓ : Loc nD τ sig) → Buf (Elt Ideal) ℓ)

/-- The block index of every window: the grid walks the layers and, within a layer, the row tiles; the slots of a layer's
gradient are read while the grid is in that layer. -/
theorem idx : ∀ t : Fin cfg0.N, (t.val < 1 → win0_0.index t = ![0, 0, 0]) ∧ (1 ≤ t.val → win0_1.index t = ![0, 0, 0])
    ∧ win0_2.index t = ![t.val, 0, 0] ∧ win0_3.index t = ![t.val, 0, 0] ∧ win0_4.index t = ![t.val, 0, 0]
    ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

set_option maxHeartbeats 1600000 in
/-- The gradient summed over the slots. -/
theorem final5 (c : Dev nD) : (dats m 0 c).arrAt 5 cfg0.N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have ht : t.val < 2 := t.isLt
  by_cases h0 : t.val < 1
  · rw [outsAt0_A m c t (by omega) (by omega)]
    frame_out
    pointwise [k0_pay1, k0_pay9, val_main_v6, val_main_v5, val_main_v4, val_main_v3, val_main_cst_0, val_main_v2, val_main_v1, val_main_cst, val_main_v0]
    have hz : (((View.whole main_v0_0).slice (win0_5.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay5, k0_pay14, val_main_v6, val_main_v5, val_main_v4, val_main_v3, val_main_cst_0, val_main_v2, val_main_v1, val_main_cst, val_main_v0]
    have hz : ¬(((View.whole main_v0_0).slice (win0_5.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The step of the weights. -/
theorem final6 (c : Dev nD) : (dats m 0 c).arrAt 6 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht : t.val < 2 := t.isLt
  by_cases h0 : t.val < 1
  · rw [outsAt0_A m c t (by omega) (by omega)]
    frame_out
    pointwise [k0_pay2, k0_pay12, k0_pay13, k0_pay10, k0_pay11, k0_pay9, val_main_v30, val_main_v29, val_main_cst_9, val_main_v28, val_main_v27, val_main_v26, val_main_cst_8, val_main_v25, val_main_v24, val_main_v23, val_main_cst_7, val_main_v22, val_main_v21, val_main_v20, val_main_cst_6, val_main_v19, val_main_v18, val_main_cst_5, val_main_v17, val_main_v16, val_main_v15, val_main_cst_4, val_main_v14, val_main_v13, val_main_v12, val_main_cst_3, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : (((View.whole main_v0_1).slice (win0_6.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay6, k0_pay17, k0_pay18, k0_pay15, k0_pay16, k0_pay14, val_main_v30, val_main_v29, val_main_cst_9, val_main_v28, val_main_v27, val_main_v26, val_main_cst_8, val_main_v25, val_main_v24, val_main_v23, val_main_cst_7, val_main_v22, val_main_v21, val_main_v20, val_main_cst_6, val_main_v19, val_main_v18, val_main_cst_5, val_main_v17, val_main_v16, val_main_v15, val_main_cst_4, val_main_v14, val_main_v13, val_main_v12, val_main_cst_3, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : ¬(((View.whole main_v0_1).slice (win0_6.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The new first moment. -/
theorem final7 (c : Dev nD) : (dats m 0 c).arrAt 7 cfg0.N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  have ht : t.val < 2 := t.isLt
  by_cases h0 : t.val < 1
  · rw [outsAt0_A m c t (by omega) (by omega)]
    frame_out
    pointwise [k0_pay3, k0_pay10, k0_pay9, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : (((View.whole main_v0_2).slice (win0_7.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay7, k0_pay15, k0_pay14, val_main_v11, val_main_v10, val_main_v9, val_main_cst_2, val_main_v8, val_main_v7, val_main_cst_1, val_main_v6, val_main_v5, val_main_v4, val_main_v3, val_main_cst_0, val_main_v2, val_main_v1, val_main_cst, val_main_v0]
    have hz : ¬(((View.whole main_v0_2).slice (win0_7.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

set_option maxHeartbeats 1600000 in
/-- The new second moment. -/
theorem final8 (c : Dev nD) : (dats m 0 c).arrAt 8 cfg0.N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  have ht : t.val < 2 := t.isLt
  by_cases h0 : t.val < 1
  · rw [outsAt0_A m c t (by omega) (by omega)]
    frame_out
    pointwise [k0_pay4, k0_pay11, k0_pay9, val_main_v17, val_main_v16, val_main_v15, val_main_cst_4, val_main_v14, val_main_v13, val_main_v12, val_main_cst_3, val_main_v6, val_main_v5, val_main_v4, val_main_v3, val_main_cst_0, val_main_v2, val_main_v1, val_main_cst, val_main_v0]
    have hz : (((View.whole main_v0_3).slice (win0_8.rect t)).emb y 0).val < 1 := by
      have hy : (y 0).val < 1 := (y 0).isLt
      blk_simp [(idx t).2.2]
      omega
    simp only [dif_pos hz, Fin.sum_univ_four]
    blk_point [iblk, V, (idx t).1 h0, (idx t).2.2]
  · have h1 : 1 ≤ t.val := by omega
    rw [outsAt0_B m c t (by omega) (by omega)]
    frame_out
    pointwise [k0_pay8, k0_pay16, k0_pay14, val_main_v17, val_main_v16, val_main_v15, val_main_cst_4, val_main_v14, val_main_v13, val_main_v12, val_main_cst_3, val_main_v6, val_main_v5, val_main_v4, val_main_v3, val_main_cst_0, val_main_v2, val_main_v1, val_main_cst, val_main_v0]
    have hz : ¬(((View.whole main_v0_3).slice (win0_8.rect t)).emb y 0).val < 1 := by
      have hy : (y 0).val < 1 := (y 0).isLt
      blk_simp [(idx t).2.2]
      omega
    simp only [dif_neg hz, Fin.sum_univ_four]
    blk_point [iblk, V, (idx t).2.1 h1, (idx t).2.2]

end Cert.UpdateGlu

end
-- ==== Proof.UpdateGluClaim.lean ====
/- What the optimiser step of the gate weights of the recurrent branch claims. -/
module

public import proofs.«01_k».proof.Defs
public import proofs.«01_k».proof.Proof.Gen.Kernel20Ideal.Value
public import proofs.«01_k».proof.Proof.Gen.Reference20Ideal.Run
public import proofs.«01_k».proof.Proof.UpdateGluArray
public import Idealize.ShloMosaic.Lib.Claim

@[expose] public section

set_option maxRecDepth 16384

noncomputable section

namespace Cert.UpdateGlu

open Idealize.ShloMosaic Idealize.ShloMosaic.TcCoe Idealize.SL.Sem

/-- The reference's frame: it runs, keeps its arguments, and leaves every counter at zero. -/
theorem reference_frame : Cert.quiescent_Reference20Ideal (hReference20Ideal := Cert.Reference20Ideal.Gen.facts) := fun m g _ =>
  (θ_run _ _ _).mono (fun r h => ⟨fun c => (h c).2.2.2.2, Idealize.ShloMosaic.sem_eq_zero_of_no_sems (by decide) r.2⟩)
    (Cert.Reference20Ideal.Value.run (F := Ideal) m g)

/-- The value claim. -/
theorem algebraic : Cert.algebraic_Kernel20Ideal_Reference20Ideal (hKernel20Ideal := Cert.Kernel20Ideal.Gen.facts)
    (hReference20Ideal := Cert.Reference20Ideal.Gen.facts) := by
  intro m g m' g' _ hagree
  refine ⟨fun c => Cert.Reference20Ideal.Read.val_main_v6 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    fun c => Cert.Reference20Ideal.Read.val_main_v30 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)),
    fun c => Cert.Reference20Ideal.Read.val_main_v11 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg3)),
    fun c => Cert.Reference20Ideal.Read.val_main_v17 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg4)),
    (θ_run _ _ _).mono (fun r h c => ?_) (Cert.Kernel20Ideal.Value.run_blocks m g),
    (θ_run _ _ _).mono (fun r h c => ?_) (Cert.Reference20Ideal.Value.run m' g')⟩
  · obtain ⟨h0, h1, h2, h3, ha⟩ := h c
    exact ⟨h0.trans (final5 m c), h1.trans (final6 m c), h2.trans (final7 m c), h3.trans (final8 m c), ha⟩
  · obtain ⟨h0, h1, h2, h3, ha⟩ := h c
    obtain ⟨e0, e1, e2, e3, e4⟩ := hagree c
    rw [e0, e1] at h0
    rw [e0, e1, e2, e3, e4] at h1
    rw [e0, e1, e3] at h2
    rw [e0, e1, e4] at h3
    exact ⟨h0.trans (Cert.Reference20Ideal.Read.val_main_v6_eq _ _), h1.trans (Cert.Reference20Ideal.Read.val_main_v30_eq _ _ _ _ _), h2.trans (Cert.Reference20Ideal.Read.val_main_v11_eq _ _ _), h3.trans (Cert.Reference20Ideal.Read.val_main_v17_eq _ _ _), ha⟩

end Cert.UpdateGlu

end
-- ==== Proof.SmallSumArray.lean ====
/- The sum of the small gradients over the devices they came from. -/
module

public import proofs.«01_k».proof.Proof.Gen.Kernel21Ideal.Frame
public import proofs.«01_k».proof.Proof.Gen.Reference21Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SmallSum

open Cert.Kernel21Ideal Cert.Kernel21Ideal.Gen Cert.Reference21Ideal.Read
open Idealize.ShloMosaic Idealize.ShloMosaic.TcCoe Idealize.SL.Sem
open Idealize.ShloMosaic.Pipeline (Dat)

variable (m : (ℓ : Loc nD τ sig) → Buf (Elt Ideal) ℓ)

/-- There is one block, the whole array. -/
theorem idx : ∀ t : Fin cfg0.N, win0_0.index t = ![0, 0, 0] ∧ win0_1.index t = ![0, 0] :=
  (by decide +kernel : ∀ t : Fin grid0.N, _)

set_option maxHeartbeats 1600000 in
/-- The sum over the eight slots. -/
theorem final1 (c : Dev nD) : (dats m 0 c).arrAt 1 cfg0.N
    = val_main_v0 (F := Ideal) (m ((c : Thread nD τ).loc main_arg0)) := by
  refine (dats m 0 c).arrAt_eq_of_covers 1 _ (by decide +kernel) fun t hf y => ?_
  blk_simp
  rw [after0_1]
  frame_out
  pointwise [k0_pay1, val_main_v0, val_main_cst]
  rw [Fin.sum_univ_eight]
  blk_point [iblk, V, idx t]

end Cert.SmallSum

end
-- ==== Proof.SmallSumClaim.lean ====
/- What the sum of the small gradients claims. -/
module

public import proofs.«01_k».proof.Defs
public import proofs.«01_k».proof.Proof.Gen.Kernel21Ideal.Value
public import proofs.«01_k».proof.Proof.Gen.Reference21Ideal.Run
public import proofs.«01_k».proof.Proof.SmallSumArray
public import Idealize.ShloMosaic.Lib.Claim

@[expose] public section

set_option maxRecDepth 16384

noncomputable section

namespace Cert.SmallSum

open Idealize.ShloMosaic Idealize.ShloMosaic.TcCoe Idealize.SL.Sem

/-- The reference's frame: it runs, keeps its arguments, and leaves every counter at zero. -/
theorem reference_frame : Cert.quiescent_Reference21Ideal (hReference21Ideal := Cert.Reference21Ideal.Gen.facts) := fun m g _ =>
  (θ_run _ _ _).mono (fun r h => ⟨fun c => (h c).2, Idealize.ShloMosaic.sem_eq_zero_of_no_sems (by decide) r.2⟩)
    (Cert.Reference21Ideal.Value.run (F := Ideal) m g)

/-- The value claim. -/
theorem algebraic : Cert.algebraic_Kernel21Ideal_Reference21Ideal (hKernel21Ideal := Cert.Kernel21Ideal.Gen.facts)
    (hReference21Ideal := Cert.Reference21Ideal.Gen.facts) := by
  intro m g m' g' _ hagree
  refine ⟨fun c => Cert.Reference21Ideal.Read.val_main_v0 (F := Ideal) (m ((c.tc : Thread Cert.Kernel21Ideal.nD Cert.Kernel21Ideal.τ).loc Cert.Kernel21Ideal.main_arg0)),
    (θ_run _ _ _).mono (fun r h c => ?_) (Cert.Kernel21Ideal.Value.run_blocks m g),
    (θ_run _ _ _).mono (fun r h c => ?_) (Cert.Reference21Ideal.Value.run m' g')⟩
  · obtain ⟨h0, ha⟩ := h c
    exact ⟨h0.trans (final1 m c), ha⟩
  · obtain ⟨h0, ha⟩ := h c
    obtain e0 := hagree c
    rw [e0] at h0
    exact ⟨h0.trans (Cert.Reference21Ideal.Read.val_main_v0_eq _), ha⟩

end Cert.SmallSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Reference21Ideal
public import proofs.«01_k».proof.Proof.Gen.Pre_finite14
public import proofs.«01_k».proof.Proof.Gen.Pre_finite15
public import proofs.«01_k».proof.Proof.Gen.On_logit_columns
public import proofs.«01_k».proof.Proof.MergeClaim
public import proofs.«01_k».proof.Proof.GradWeightClaim
public import proofs.«01_k».proof.Proof.GradInputClaim
public import proofs.«01_k».proof.Proof.ProjectClaim
public import proofs.«01_k».proof.Proof.GradHiddenClaim
public import proofs.«01_k».proof.Proof.GradNormClaim
public import proofs.«01_k».proof.Proof.GradOutClaim
public import proofs.«01_k».proof.Proof.MergeFwdClaim
public import proofs.«01_k».proof.Proof.OutNormClaim
public import proofs.«01_k».proof.Proof.OutLossClaim
public import proofs.«01_k».proof.Proof.GateFwdClaim
public import proofs.«01_k».proof.Proof.ShortConvFwdClaim
public import proofs.«01_k».proof.Proof.ConvClaim
public import proofs.«01_k».proof.Proof.ShortConvClaim
public import proofs.«01_k».proof.Proof.ConvGradClaim
public import proofs.«01_k».proof.Proof.GateClaim
public import proofs.«01_k».proof.Proof.NormFwdClaim
public import proofs.«01_k».proof.Proof.UpdateBranchClaim
public import proofs.«01_k».proof.Proof.UpdateOutClaim
public import proofs.«01_k».proof.Proof.UpdateGluClaim
public import proofs.«01_k».proof.Proof.SmallSumClaim
public import Idealize.ShloMosaic.Adequacy
public import Idealize.ShloMosaic.Init

@[expose] public section

noncomputable section

namespace Cert.Proof

open Idealize.ShloMosaic Idealize.SL.Sem

/-- For each call: the three frames, the (empty) rewriting, and the values of its results. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Pre_finite14.Gen.facts, Cert.Pre_finite15.Gen.facts, Cert.On_logit_columns.Gen.facts,
  fun m ρ _ => Cert.Kernel.Gen.frame m ρ, fun m ρ _ => Cert.KernelIdeal.Gen.frame m ρ, Cert.Merge.reference_frame,
  fun m ρ _ => Cert.Kernel2.Gen.frame m ρ, fun m ρ _ => Cert.Kernel2Ideal.Gen.frame m ρ, Cert.GradWeight.reference_frame,
  fun m ρ _ => Cert.Kernel3.Gen.frame m ρ, fun m ρ _ => Cert.Kernel3Ideal.Gen.frame m ρ, Cert.GradInput.reference_frame,
  fun m ρ _ => Cert.Kernel4.Gen.frame m ρ, fun m ρ _ => Cert.Kernel4Ideal.Gen.frame m ρ, Cert.Project.reference_frame,
  fun m ρ _ => Cert.Kernel5.Gen.frame m ρ, fun m ρ _ => Cert.Kernel5Ideal.Gen.frame m ρ, Cert.GradHidden.reference_frame,
  fun m ρ _ => Cert.Kernel6.Gen.frame m ρ, fun m ρ _ => Cert.Kernel6Ideal.Gen.frame m ρ, Cert.GradNorm.reference_frame,
  fun m ρ _ => Cert.Kernel7.Gen.frame m ρ, fun m ρ _ => Cert.Kernel7Ideal.Gen.frame m ρ, Cert.GradOut.reference_frame,
  fun m ρ _ => Cert.Kernel8.Gen.frame m ρ, fun m ρ _ => Cert.Kernel8Ideal.Gen.frame m ρ, Cert.MergeFwd.reference_frame,
  fun m ρ _ => Cert.Kernel9.Gen.frame m ρ, fun m ρ _ => Cert.Kernel9Ideal.Gen.frame m ρ, Cert.OutNorm.reference_frame,
  fun m ρ _ => Cert.Kernel10.Gen.frame m ρ, fun m ρ _ => Cert.Kernel10Ideal.Gen.frame m ρ, Cert.OutLoss.reference_frame,
  fun m ρ _ => Cert.Kernel11.Gen.frame m ρ, fun m ρ _ => Cert.Kernel11Ideal.Gen.frame m ρ, Cert.GateFwd.reference_frame,
  fun m ρ _ => Cert.Kernel12.Gen.frame m ρ, fun m ρ _ => Cert.Kernel12Ideal.Gen.frame m ρ, Cert.ShortConvFwd.reference_frame,
  fun m ρ _ => Cert.Kernel13.Gen.frame m ρ, fun m ρ _ => Cert.Kernel13Ideal.Gen.frame m ρ, Cert.Conv.reference_frame,
  fun m ρ _ => Cert.Kernel14.Gen.frame m ρ, fun m ρ _ => Cert.Kernel14Ideal.Gen.frame m ρ, Cert.ShortConv.kernel_frame_finite, Cert.ShortConv.reference_frame, Cert.ShortConv.reference_frame_finite,
  fun m ρ _ => Cert.Kernel15.Gen.frame m ρ, fun m ρ _ => Cert.Kernel15Ideal.Gen.frame m ρ, Cert.ConvGrad.kernel_frame_finite, Cert.ConvGrad.reference_frame, Cert.ConvGrad.reference_frame_finite,
  fun m ρ _ => Cert.Kernel16.Gen.frame m ρ, fun m ρ _ => Cert.Kernel16Ideal.Gen.frame m ρ, Cert.Gate.reference_frame,
  fun m ρ _ => Cert.Kernel17.Gen.frame m ρ, fun m ρ _ => Cert.Kernel17Ideal.Gen.frame m ρ, Cert.NormFwd.reference_frame,
  fun m ρ _ => Cert.Kernel18.Gen.frame m ρ, fun m ρ _ => Cert.Kernel18Ideal.Gen.frame m ρ, Cert.UpdateBranch.reference_frame,
  fun m ρ _ => Cert.Kernel19.Gen.frame m ρ, fun m ρ _ => Cert.Kernel19Ideal.Gen.frame m ρ, Cert.UpdateOut.reference_frame,
  fun m ρ _ => Cert.Kernel20.Gen.frame m ρ, fun m ρ _ => Cert.Kernel20Ideal.Gen.frame m ρ, Cert.UpdateGlu.reference_frame,
  fun m ρ _ => Cert.Kernel21.Gen.frame m ρ, fun m ρ _ => Cert.Kernel21Ideal.Gen.frame m ρ, Cert.SmallSum.reference_frame,
  trivial, Cert.Merge.algebraic,
  trivial, Cert.GradWeight.algebraic,
  trivial, Cert.GradInput.algebraic,
  trivial, Cert.Project.algebraic,
  trivial, Cert.GradHidden.algebraic,
  trivial, Cert.GradNorm.algebraic,
  trivial, Cert.GradOut.algebraic,
  trivial, Cert.MergeFwd.algebraic,
  trivial, Cert.OutNorm.algebraic,
  trivial, Cert.OutLoss.algebraic,
  trivial, Cert.GateFwd.algebraic,
  trivial, Cert.ShortConvFwd.algebraic,
  trivial, Cert.Conv.algebraic,
  trivial, Cert.ShortConv.algebraic,
  trivial, Cert.ConvGrad.algebraic,
  trivial, Cert.Gate.algebraic,
  trivial, Cert.NormFwd.algebraic,
  trivial, Cert.UpdateBranch.algebraic,
  trivial, Cert.UpdateOut.algebraic,
  trivial, Cert.UpdateGlu.algebraic,
  trivial, Cert.SmallSum.algebraic⟩

end Cert.Proof

end
